-- ==== Defs.lean ====
def Pre_MemAtt (m : (ℓ : Loc Cert.MemAtt.nD Cert.MemAtt.τ Cert.MemAtt.sig) → Buf (Elt Bits) ℓ) : Prop :=
  True

def Pre_MemAttIdeal (m : (ℓ : Loc Cert.MemAttIdeal.nD Cert.MemAttIdeal.τ Cert.MemAttIdeal.sig) → Buf (Elt Ideal) ℓ) : Prop :=
  True

def Pre_MemAttIdeal_finite_scores [hPre_finite_scores : Cert.Pre_finite_scores.Facts] (m : (ℓ : Loc Cert.MemAttIdeal.nD Cert.MemAttIdeal.τ Cert.MemAttIdeal.sig) → Buf (Elt Ideal) ℓ) : Prop :=
  ∀ c : Dev Cert.MemAttIdeal.nD,
    (Cert.Pre_finite_scores.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))).1 = (fun _ => 1#1)
    ∧ (Cert.Pre_finite_scores.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))).2 = (fun _ => 1#1)

def Pre_MemAttRefIdeal (m : (ℓ : Loc Cert.MemAttRefIdeal.nD Cert.MemAttRefIdeal.τ Cert.MemAttRefIdeal.sig) → Buf (Elt Ideal) ℓ) : Prop :=
  True

def Pre_MemAttRefIdeal_finite_scores [hPre_finite_scores : Cert.Pre_finite_scores.Facts] (m : (ℓ : Loc Cert.MemAttRefIdeal.nD Cert.MemAttRefIdeal.τ Cert.MemAttRefIdeal.sig) → Buf (Elt Ideal) ℓ) : Prop :=
  ∀ c : Dev Cert.MemAttRefIdeal.nD,
    (Cert.Pre_finite_scores.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))).1 = (fun _ => 1#1)
    ∧ (Cert.Pre_finite_scores.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))).2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_InpSample (m : (ℓ : Loc Cert.InpSample.nD Cert.InpSample.τ Cert.InpSample.sig) → Buf (Elt Bits) ℓ) : Prop :=
  True

def Pre_InpSampleIdeal (m : (ℓ : Loc Cert.InpSampleIdeal.nD Cert.InpSampleIdeal.τ Cert.InpSampleIdeal.sig) → Buf (Elt Ideal) ℓ) : Prop :=
  True

def Pre_InpSampleRefIdeal (m : (ℓ : Loc Cert.InpSampleRefIdeal.nD Cert.InpSampleRefIdeal.τ Cert.InpSampleRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_SsmSample (m : (ℓ : Loc Cert.SsmSample.nD Cert.SsmSample.τ Cert.SsmSample.sig) → Buf (Elt Bits) ℓ) : Prop :=
  True

def Pre_SsmSampleIdeal (m : (ℓ : Loc Cert.SsmSampleIdeal.nD Cert.SsmSampleIdeal.τ Cert.SsmSampleIdeal.sig) → Buf (Elt Ideal) ℓ) : Prop :=
  True

def Pre_SsmSampleIdeal_finite_powers [hPre_finite_powers : Cert.Pre_finite_powers.Facts] (m : (ℓ : Loc Cert.SsmSampleIdeal.nD Cert.SsmSampleIdeal.τ Cert.SsmSampleIdeal.sig) → Buf (Elt Ideal) ℓ) : Prop :=
  ∀ c : Dev Cert.SsmSampleIdeal.nD,
    (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).1 = (fun _ => 1#1)
    ∧ (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).2.1 = (fun _ => 1#1)
    ∧ (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).2.2.1 = (fun _ => 1#1)
    ∧ (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).2.2.2.1 = (fun _ => 1#1)
    ∧ (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).2.2.2.2.1 = (fun _ => 1#1)
    ∧ (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).2.2.2.2.2.1 = (fun _ => 1#1)
    ∧ (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).2.2.2.2.2.2.1 = (fun _ => 1#1)
    ∧ (Cert.Pre_finite_powers.fn (F := Ideal) (m ((c.tc : Thread Cert.SsmSampleIdeal.nD Cert.SsmSampleIdeal.τ).loc Cert.SsmSampleIdeal.main_arg0)) (m ((c.tc : Thread Cert.SsmSampleIdeal.nD Cert.SsmSampleIdeal.τ).loc Cert.SsmSampleIdeal.main_arg1)) (m ((c.tc : Thread Cert.SsmSampleIdeal.nD Cert.SsmSampleIdeal.τ).loc Cert.SsmSampleIdeal.main_arg2)) (m ((c.tc : Thread Cert.SsmSampleIdeal.nD Cert.SsmSampleIdeal.τ).loc Cert.SsmSampleIdeal.main_arg3)) (m ((c.tc : Thread Cert.SsmSampleIdeal.nD Cert.SsmSampleIdeal.τ).loc Cert.SsmSampleIdeal.main_arg4)) (m ((c.tc : Thread Cert.SsmSampleIdeal.nD Cert.SsmSampleIdeal.τ).loc Cert.SsmSampleIdeal.main_arg5))).2.2.2.2.2.2.2 = (fun _ => 1#1)

def Pre_SsmSampleRefIdeal (m : (ℓ : Loc Cert.SsmSampleRefIdeal.nD Cert.SsmSampleRefIdeal.τ Cert.SsmSampleRefIdeal.sig) → Buf (Elt Ideal) ℓ) : Prop :=
  True

def Pre_SsmSampleRefIdeal_finite_powers [hPre_finite_powers : Cert.Pre_finite_powers.Facts] (m : (ℓ : Loc Cert.SsmSampleRefIdeal.nD Cert.SsmSampleRefIdeal.τ Cert.SsmSampleRefIdeal.sig) → Buf (Elt Ideal) ℓ) : Prop :=
  ∀ c : Dev Cert.SsmSampleRefIdeal.nD,
    (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).1 = (fun _ => 1#1)
    ∧ (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).2.1 = (fun _ => 1#1)
    ∧ (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).2.2.1 = (fun _ => 1#1)
    ∧ (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).2.2.2.1 = (fun _ => 1#1)
    ∧ (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).2.2.2.2.1 = (fun _ => 1#1)
    ∧ (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).2.2.2.2.2.1 = (fun _ => 1#1)
    ∧ (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).2.2.2.2.2.2.1 = (fun _ => 1#1)
    ∧ (Cert.Pre_finite_powers.fn (F := Ideal) (m ((c.tc : Thread Cert.SsmSampleRefIdeal.nD Cert.SsmSampleRefIdeal.τ).loc Cert.SsmSampleRefIdeal.main_arg0)) (m ((c.tc : Thread Cert.SsmSampleRefIdeal.nD Cert.SsmSampleRefIdeal.τ).loc Cert.SsmSampleRefIdeal.main_arg1)) (m ((c.tc : Thread Cert.SsmSampleRefIdeal.nD Cert.SsmSampleRefIdeal.τ).loc Cert.SsmSampleRefIdeal.main_arg2)) (m ((c.tc : Thread Cert.SsmSampleRefIdeal.nD Cert.SsmSampleRefIdeal.τ).loc Cert.SsmSampleRefIdeal.main_arg3)) (m ((c.tc : Thread Cert.SsmSampleRefIdeal.nD Cert.SsmSampleRefIdeal.τ).loc Cert.SsmSampleRefIdeal.main_arg4)) (m ((c.tc : Thread Cert.SsmSampleRefIdeal.nD Cert.SsmSampleRefIdeal.τ).loc Cert.SsmSampleRefIdeal.main_arg5))).2.2.2.2.2.2.2 = (fun _ => 1#1)

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoRefIdeal (m : (ℓ : Loc Cert.FfnTwoRefIdeal.nD Cert.FfnTwoRefIdeal.τ Cert.FfnTwoRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneRefIdeal (m : (ℓ : Loc Cert.FfnOneRefIdeal.nD Cert.FfnOneRefIdeal.τ Cert.FfnOneRefIdeal.sig) → Buf (Elt Ideal) ℓ) : Prop :=
  True

def quiescent_MemAtt [hMemAtt : Cert.MemAtt.Facts] : Prop :=
  ∀ (m : (ℓ : Loc Cert.MemAtt.nD Cert.MemAtt.τ Cert.MemAtt.sig) → Buf (Elt Bits) ℓ) (g : Dev Cert.MemAtt.nD → PrngReg), Pre_MemAtt m →
    θ_run (Cert.MemAtt.defs (F := Bits)) (onTc (τ := Cert.MemAtt.τ) (Cert.MemAtt.main (F := Bits))) ⟨m, fun _ => 0, g⟩ (fun r => (∀ c : Dev Cert.MemAtt.nD,
      r.2.mem ((c.tc : Thread Cert.MemAtt.nD Cert.MemAtt.τ).loc Cert.MemAtt.main_arg0) = m ((c.tc : Thread Cert.MemAtt.nD Cert.MemAtt.τ).loc Cert.MemAtt.main_arg0)
      ∧ r.2.mem ((c.tc : Thread Cert.MemAtt.nD Cert.MemAtt.τ).loc Cert.MemAtt.main_arg1) = m ((c.tc : Thread Cert.MemAtt.nD Cert.MemAtt.τ).loc Cert.MemAtt.main_arg1)
      ∧ r.2.mem ((c.tc : Thread Cert.MemAtt.nD Cert.MemAtt.τ).loc Cert.MemAtt.main_arg2) = m ((c.tc : Thread Cert.MemAtt.nD Cert.MemAtt.τ).loc Cert.MemAtt.main_arg2))
      ∧ r.2.sem = fun _ => 0)

def quiescent_MemAttIdeal [hMemAttIdeal : Cert.MemAttIdeal.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttIdeal_pre_finite_scores [hMemAttIdeal : Cert.MemAttIdeal.Facts] [hPre_finite_scores : Cert.Pre_finite_scores.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal_finite_scores m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttRefIdeal [hMemAttRefIdeal : Cert.MemAttRefIdeal.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_MemAttRefIdeal_pre_finite_scores [hMemAttRefIdeal : Cert.MemAttRefIdeal.Facts] [hPre_finite_scores : Cert.Pre_finite_scores.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal_finite_scores m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_InpSample [hInpSample : Cert.InpSample.Facts] : Prop :=
  ∀ (m : (ℓ : Loc Cert.InpSample.nD Cert.InpSample.τ Cert.InpSample.sig) → Buf (Elt Bits) ℓ) (g : Dev Cert.InpSample.nD → PrngReg), Pre_InpSample m →
    θ_run (Cert.InpSample.defs (F := Bits)) (onTc (τ := Cert.InpSample.τ) (Cert.InpSample.main (F := Bits))) ⟨m, fun _ => 0, g⟩ (fun r => (∀ c : Dev Cert.InpSample.nD,
      r.2.mem ((c.tc : Thread Cert.InpSample.nD Cert.InpSample.τ).loc Cert.InpSample.main_arg0) = m ((c.tc : Thread Cert.InpSample.nD Cert.InpSample.τ).loc Cert.InpSample.main_arg0)
      ∧ r.2.mem ((c.tc : Thread Cert.InpSample.nD Cert.InpSample.τ).loc Cert.InpSample.main_arg1) = m ((c.tc : Thread Cert.InpSample.nD Cert.InpSample.τ).loc Cert.InpSample.main_arg1)
      ∧ r.2.mem ((c.tc : Thread Cert.InpSample.nD Cert.InpSample.τ).loc Cert.InpSample.main_arg2) = m ((c.tc : Thread Cert.InpSample.nD Cert.InpSample.τ).loc Cert.InpSample.main_arg2))
      ∧ r.2.sem = fun _ => 0)

def quiescent_InpSampleIdeal [hInpSampleIdeal : Cert.InpSampleIdeal.Facts] : Prop :=
  ∀ (m : (ℓ : Loc Cert.InpSampleIdeal.nD Cert.InpSampleIdeal.τ Cert.InpSampleIdeal.sig) → Buf (Elt Ideal) ℓ) (g : Dev Cert.InpSampleIdeal.nD → PrngReg), Pre_InpSampleIdeal m →
    θ_run (Cert.InpSampleIdeal.defs (F := Ideal)) (onTc (τ := Cert.InpSampleIdeal.τ) (Cert.InpSampleIdeal.main (F := Ideal))) ⟨m, fun _ => 0, g⟩ (fun r => (∀ c : Dev Cert.InpSampleIdeal.nD,
      r.2.mem ((c.tc : Thread Cert.InpSampleIdeal.nD Cert.InpSampleIdeal.τ).loc Cert.InpSampleIdeal.main_arg0) = m ((c.tc : Thread Cert.InpSampleIdeal.nD Cert.InpSampleIdeal.τ).loc Cert.InpSampleIdeal.main_arg0)
      ∧ r.2.mem ((c.tc : Thread Cert.InpSampleIdeal.nD Cert.InpSampleIdeal.τ).loc Cert.InpSampleIdeal.main_arg1) = m ((c.tc : Thread Cert.InpSampleIdeal.nD Cert.InpSampleIdeal.τ).loc Cert.InpSampleIdeal.main_arg1)
      ∧ r.2.mem ((c.tc : Thread Cert.InpSampleIdeal.nD Cert.InpSampleIdeal.τ).loc Cert.InpSampleIdeal.main_arg2) = m ((c.tc : Thread Cert.InpSampleIdeal.nD Cert.InpSampleIdeal.τ).loc Cert.InpSampleIdeal.main_arg2))
      ∧ r.2.sem = fun _ => 0)

def quiescent_InpSampleRefIdeal [hInpSampleRefIdeal : Cert.InpSampleRefIdeal.Facts] : Prop :=
  ∀ (m : (ℓ : Loc Cert.InpSampleRefIdeal.nD Cert.InpSampleRefIdeal.τ Cert.InpSampleRefIdeal.sig) → Buf (Elt Ideal) ℓ) (g : Dev Cert.InpSampleRefIdeal.nD → PrngReg), Pre_InpSampleRefIdeal m →
    θ_run (Cert.InpSampleRefIdeal.defs (F := Ideal)) (onTc (τ := Cert.InpSampleRefIdeal.τ) (Cert.InpSampleRefIdeal.main (F := Ideal))) ⟨m, fun _ => 0, g⟩ (fun r => (∀ c : Dev Cert.InpSampleRefIdeal.nD,
      r.2.mem ((c.tc : Thread Cert.InpSampleRefIdeal.nD Cert.InpSampleRefIdeal.τ).loc Cert.InpSampleRefIdeal.main_arg0) = m ((c.tc : Thread Cert.InpSampleRefIdeal.nD Cert.InpSampleRefIdeal.τ).loc Cert.InpSampleRefIdeal.main_arg0)
      ∧ r.2.mem ((c.tc : Thread Cert.InpSampleRefIdeal.nD Cert.InpSampleRefIdeal.τ).loc Cert.InpSampleRefIdeal.main_arg1) = m ((c.tc : Thread Cert.InpSampleRefIdeal.nD Cert.InpSampleRefIdeal.τ).loc Cert.InpSampleRefIdeal.main_arg1)
      ∧ r.2.mem ((c.tc : Thread Cert.InpSampleRefIdeal.nD Cert.InpSampleRefIdeal.τ).loc Cert.InpSampleRefIdeal.main_arg2) = m ((c.tc : Thread Cert.InpSampleRefIdeal.nD Cert.InpSampleRefIdeal.τ).loc Cert.InpSampleRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_SsmSample [hSsmSample : Cert.SsmSample.Facts] : Prop :=
  ∀ (m : (ℓ : Loc Cert.SsmSample.nD Cert.SsmSample.τ Cert.SsmSample.sig) → Buf (Elt Bits) ℓ) (g : Dev Cert.SsmSample.nD → PrngReg), Pre_SsmSample m →
    θ_run (Cert.SsmSample.defs (F := Bits)) (onTc (τ := Cert.SsmSample.τ) (Cert.SsmSample.main (F := Bits))) ⟨m, fun _ => 0, g⟩ (fun r => (∀ c : Dev Cert.SsmSample.nD,
      r.2.mem ((c.tc : Thread Cert.SsmSample.nD Cert.SsmSample.τ).loc Cert.SsmSample.main_arg0) = m ((c.tc : Thread Cert.SsmSample.nD Cert.SsmSample.τ).loc Cert.SsmSample.main_arg0)
      ∧ r.2.mem ((c.tc : Thread Cert.SsmSample.nD Cert.SsmSample.τ).loc Cert.SsmSample.main_arg1) = m ((c.tc : Thread Cert.SsmSample.nD Cert.SsmSample.τ).loc Cert.SsmSample.main_arg1)
      ∧ r.2.mem ((c.tc : Thread Cert.SsmSample.nD Cert.SsmSample.τ).loc Cert.SsmSample.main_arg2) = m ((c.tc : Thread Cert.SsmSample.nD Cert.SsmSample.τ).loc Cert.SsmSample.main_arg2)
      ∧ r.2.mem ((c.tc : Thread Cert.SsmSample.nD Cert.SsmSample.τ).loc Cert.SsmSample.main_arg3) = m ((c.tc : Thread Cert.SsmSample.nD Cert.SsmSample.τ).loc Cert.SsmSample.main_arg3)
      ∧ r.2.mem ((c.tc : Thread Cert.SsmSample.nD Cert.SsmSample.τ).loc Cert.SsmSample.main_arg4) = m ((c.tc : Thread Cert.SsmSample.nD Cert.SsmSample.τ).loc Cert.SsmSample.main_arg4)
      ∧ r.2.mem ((c.tc : Thread Cert.SsmSample.nD Cert.SsmSample.τ).loc Cert.SsmSample.main_arg5) = m ((c.tc : Thread Cert.SsmSample.nD Cert.SsmSample.τ).loc Cert.SsmSample.main_arg5))
      ∧ r.2.sem = fun _ => 0)

def quiescent_SsmSampleIdeal [hSsmSampleIdeal : Cert.SsmSampleIdeal.Facts] : Prop :=
  ∀ (m : (ℓ : Loc Cert.SsmSampleIdeal.nD Cert.SsmSampleIdeal.τ Cert.SsmSampleIdeal.sig) → Buf (Elt Ideal) ℓ) (g : Dev Cert.SsmSampleIdeal.nD → PrngReg), Pre_SsmSampleIdeal m →
    θ_run (Cert.SsmSampleIdeal.defs (F := Ideal)) (onTc (τ := Cert.SsmSampleIdeal.τ) (Cert.SsmSampleIdeal.main (F := Ideal))) ⟨m, fun _ => 0, g⟩ (fun r => (∀ c : Dev Cert.SsmSampleIdeal.nD,
      r.2.mem ((c.tc : Thread Cert.SsmSampleIdeal.nD Cert.SsmSampleIdeal.τ).loc Cert.SsmSampleIdeal.main_arg0) = m ((c.tc : Thread Cert.SsmSampleIdeal.nD Cert.SsmSampleIdeal.τ).loc Cert.SsmSampleIdeal.main_arg0)
      ∧ r.2.mem ((c.tc : Thread Cert.SsmSampleIdeal.nD Cert.SsmSampleIdeal.τ).loc Cert.SsmSampleIdeal.main_arg1) = m ((c.tc : Thread Cert.SsmSampleIdeal.nD Cert.SsmSampleIdeal.τ).loc Cert.SsmSampleIdeal.main_arg1)
      ∧ r.2.mem ((c.tc : Thread Cert.SsmSampleIdeal.nD Cert.SsmSampleIdeal.τ).loc Cert.SsmSampleIdeal.main_arg2) = m ((c.tc : Thread Cert.SsmSampleIdeal.nD Cert.SsmSampleIdeal.τ).loc Cert.SsmSampleIdeal.main_arg2)
      ∧ r.2.mem ((c.tc : Thread Cert.SsmSampleIdeal.nD Cert.SsmSampleIdeal.τ).loc Cert.SsmSampleIdeal.main_arg3) = m ((c.tc : Thread Cert.SsmSampleIdeal.nD Cert.SsmSampleIdeal.τ).loc Cert.SsmSampleIdeal.main_arg3)
      ∧ r.2.mem ((c.tc : Thread Cert.SsmSampleIdeal.nD Cert.SsmSampleIdeal.τ).loc Cert.SsmSampleIdeal.main_arg4) = m ((c.tc : Thread Cert.SsmSampleIdeal.nD Cert.SsmSampleIdeal.τ).loc Cert.SsmSampleIdeal.main_arg4)
      ∧ r.2.mem ((c.tc : Thread Cert.SsmSampleIdeal.nD Cert.SsmSampleIdeal.τ).loc Cert.SsmSampleIdeal.main_arg5) = m ((c.tc : Thread Cert.SsmSampleIdeal.nD Cert.SsmSampleIdeal.τ).loc Cert.SsmSampleIdeal.main_arg5))
      ∧ r.2.sem = fun _ => 0)

def quiescent_SsmSampleIdeal_pre_finite_powers [hSsmSampleIdeal : Cert.SsmSampleIdeal.Facts] [hPre_finite_powers : Cert.Pre_finite_powers.Facts] : Prop :=
  ∀ (m : (ℓ : Loc Cert.SsmSampleIdeal.nD Cert.SsmSampleIdeal.τ Cert.SsmSampleIdeal.sig) → Buf (Elt Ideal) ℓ) (g : Dev Cert.SsmSampleIdeal.nD → PrngReg), Pre_SsmSampleIdeal_finite_powers m →
    θ_run (Cert.SsmSampleIdeal.defs (F := Ideal)) (onTc (τ := Cert.SsmSampleIdeal.τ) (Cert.SsmSampleIdeal.main (F := Ideal))) ⟨m, fun _ => 0, g⟩ (fun r => (∀ c : Dev Cert.SsmSampleIdeal.nD,
      r.2.mem ((c.tc : Thread Cert.SsmSampleIdeal.nD Cert.SsmSampleIdeal.τ).loc Cert.SsmSampleIdeal.main_arg0) = m ((c.tc : Thread Cert.SsmSampleIdeal.nD Cert.SsmSampleIdeal.τ).loc Cert.SsmSampleIdeal.main_arg0)
      ∧ r.2.mem ((c.tc : Thread Cert.SsmSampleIdeal.nD Cert.SsmSampleIdeal.τ).loc Cert.SsmSampleIdeal.main_arg1) = m ((c.tc : Thread Cert.SsmSampleIdeal.nD Cert.SsmSampleIdeal.τ).loc Cert.SsmSampleIdeal.main_arg1)
      ∧ r.2.mem ((c.tc : Thread Cert.SsmSampleIdeal.nD Cert.SsmSampleIdeal.τ).loc Cert.SsmSampleIdeal.main_arg2) = m ((c.tc : Thread Cert.SsmSampleIdeal.nD Cert.SsmSampleIdeal.τ).loc Cert.SsmSampleIdeal.main_arg2)
      ∧ r.2.mem ((c.tc : Thread Cert.SsmSampleIdeal.nD Cert.SsmSampleIdeal.τ).loc Cert.SsmSampleIdeal.main_arg3) = m ((c.tc : Thread Cert.SsmSampleIdeal.nD Cert.SsmSampleIdeal.τ).loc Cert.SsmSampleIdeal.main_arg3)
      ∧ r.2.mem ((c.tc : Thread Cert.SsmSampleIdeal.nD Cert.SsmSampleIdeal.τ).loc Cert.SsmSampleIdeal.main_arg4) = m ((c.tc : Thread Cert.SsmSampleIdeal.nD Cert.SsmSampleIdeal.τ).loc Cert.SsmSampleIdeal.main_arg4)
      ∧ r.2.mem ((c.tc : Thread Cert.SsmSampleIdeal.nD Cert.SsmSampleIdeal.τ).loc Cert.SsmSampleIdeal.main_arg5) = m ((c.tc : Thread Cert.SsmSampleIdeal.nD Cert.SsmSampleIdeal.τ).loc Cert.SsmSampleIdeal.main_arg5))
      ∧ r.2.sem = fun _ => 0)

def quiescent_SsmSampleRefIdeal [hSsmSampleRefIdeal : Cert.SsmSampleRefIdeal.Facts] : Prop :=
  ∀ (m : (ℓ : Loc Cert.SsmSampleRefIdeal.nD Cert.SsmSampleRefIdeal.τ Cert.SsmSampleRefIdeal.sig) → Buf (Elt Ideal) ℓ) (g : Dev Cert.SsmSampleRefIdeal.nD → PrngReg), Pre_SsmSampleRefIdeal m →
    θ_run (Cert.SsmSampleRefIdeal.defs (F := Ideal)) (onTc (τ := Cert.SsmSampleRefIdeal.τ) (Cert.SsmSampleRefIdeal.main (F := Ideal))) ⟨m, fun _ => 0, g⟩ (fun r => (∀ c : Dev Cert.SsmSampleRefIdeal.nD,
      r.2.mem ((c.tc : Thread Cert.SsmSampleRefIdeal.nD Cert.SsmSampleRefIdeal.τ).loc Cert.SsmSampleRefIdeal.main_arg0) = m ((c.tc : Thread Cert.SsmSampleRefIdeal.nD Cert.SsmSampleRefIdeal.τ).loc Cert.SsmSampleRefIdeal.main_arg0)
      ∧ r.2.mem ((c.tc : Thread Cert.SsmSampleRefIdeal.nD Cert.SsmSampleRefIdeal.τ).loc Cert.SsmSampleRefIdeal.main_arg1) = m ((c.tc : Thread Cert.SsmSampleRefIdeal.nD Cert.SsmSampleRefIdeal.τ).loc Cert.SsmSampleRefIdeal.main_arg1)
      ∧ r.2.mem ((c.tc : Thread Cert.SsmSampleRefIdeal.nD Cert.SsmSampleRefIdeal.τ).loc Cert.SsmSampleRefIdeal.main_arg2) = m ((c.tc : Thread Cert.SsmSampleRefIdeal.nD Cert.SsmSampleRefIdeal.τ).loc Cert.SsmSampleRefIdeal.main_arg2)
      ∧ r.2.mem ((c.tc : Thread Cert.SsmSampleRefIdeal.nD Cert.SsmSampleRefIdeal.τ).loc Cert.SsmSampleRefIdeal.main_arg3) = m ((c.tc : Thread Cert.SsmSampleRefIdeal.nD Cert.SsmSampleRefIdeal.τ).loc Cert.SsmSampleRefIdeal.main_arg3)
      ∧ r.2.mem ((c.tc : Thread Cert.SsmSampleRefIdeal.nD Cert.SsmSampleRefIdeal.τ).loc Cert.SsmSampleRefIdeal.main_arg4) = m ((c.tc : Thread Cert.SsmSampleRefIdeal.nD Cert.SsmSampleRefIdeal.τ).loc Cert.SsmSampleRefIdeal.main_arg4)
      ∧ r.2.mem ((c.tc : Thread Cert.SsmSampleRefIdeal.nD Cert.SsmSampleRefIdeal.τ).loc Cert.SsmSampleRefIdeal.main_arg5) = m ((c.tc : Thread Cert.SsmSampleRefIdeal.nD Cert.SsmSampleRefIdeal.τ).loc Cert.SsmSampleRefIdeal.main_arg5))
      ∧ r.2.sem = fun _ => 0)

def quiescent_SsmSampleRefIdeal_pre_finite_powers [hSsmSampleRefIdeal : Cert.SsmSampleRefIdeal.Facts] [hPre_finite_powers : Cert.Pre_finite_powers.Facts] : Prop :=
  ∀ (m : (ℓ : Loc Cert.SsmSampleRefIdeal.nD Cert.SsmSampleRefIdeal.τ Cert.SsmSampleRefIdeal.sig) → Buf (Elt Ideal) ℓ) (g : Dev Cert.SsmSampleRefIdeal.nD → PrngReg), Pre_SsmSampleRefIdeal_finite_powers m →
    θ_run (Cert.SsmSampleRefIdeal.defs (F := Ideal)) (onTc (τ := Cert.SsmSampleRefIdeal.τ) (Cert.SsmSampleRefIdeal.main (F := Ideal))) ⟨m, fun _ => 0, g⟩ (fun r => (∀ c : Dev Cert.SsmSampleRefIdeal.nD,
      r.2.mem ((c.tc : Thread Cert.SsmSampleRefIdeal.nD Cert.SsmSampleRefIdeal.τ).loc Cert.SsmSampleRefIdeal.main_arg0) = m ((c.tc : Thread Cert.SsmSampleRefIdeal.nD Cert.SsmSampleRefIdeal.τ).loc Cert.SsmSampleRefIdeal.main_arg0)
      ∧ r.2.mem ((c.tc : Thread Cert.SsmSampleRefIdeal.nD Cert.SsmSampleRefIdeal.τ).loc Cert.SsmSampleRefIdeal.main_arg1) = m ((c.tc : Thread Cert.SsmSampleRefIdeal.nD Cert.SsmSampleRefIdeal.τ).loc Cert.SsmSampleRefIdeal.main_arg1)
      ∧ r.2.mem ((c.tc : Thread Cert.SsmSampleRefIdeal.nD Cert.SsmSampleRefIdeal.τ).loc Cert.SsmSampleRefIdeal.main_arg2) = m ((c.tc : Thread Cert.SsmSampleRefIdeal.nD Cert.SsmSampleRefIdeal.τ).loc Cert.SsmSampleRefIdeal.main_arg2)
      ∧ r.2.mem ((c.tc : Thread Cert.SsmSampleRefIdeal.nD Cert.SsmSampleRefIdeal.τ).loc Cert.SsmSampleRefIdeal.main_arg3) = m ((c.tc : Thread Cert.SsmSampleRefIdeal.nD Cert.SsmSampleRefIdeal.τ).loc Cert.SsmSampleRefIdeal.main_arg3)
      ∧ r.2.mem ((c.tc : Thread Cert.SsmSampleRefIdeal.nD Cert.SsmSampleRefIdeal.τ).loc Cert.SsmSampleRefIdeal.main_arg4) = m ((c.tc : Thread Cert.SsmSampleRefIdeal.nD Cert.SsmSampleRefIdeal.τ).loc Cert.SsmSampleRefIdeal.main_arg4)
      ∧ r.2.mem ((c.tc : Thread Cert.SsmSampleRefIdeal.nD Cert.SsmSampleRefIdeal.τ).loc Cert.SsmSampleRefIdeal.main_arg5) = m ((c.tc : Thread Cert.SsmSampleRefIdeal.nD Cert.SsmSampleRefIdeal.τ).loc Cert.SsmSampleRefIdeal.main_arg5))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4)
      ∧ r.2.mem ((c.tc : Thread Cert.FfnTwo.nD Cert.FfnTwo.τ).loc Cert.FfnTwo.main_arg5) = m ((c.tc : Thread Cert.FfnTwo.nD Cert.FfnTwo.τ).loc Cert.FfnTwo.main_arg5))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
      ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4)
      ∧ r.2.mem ((c.tc : Thread Cert.FfnTwoRefIdeal.nD Cert.FfnTwoRefIdeal.τ).loc Cert.FfnTwoRefIdeal.main_arg5) = m ((c.tc : Thread Cert.FfnTwoRefIdeal.nD Cert.FfnTwoRefIdeal.τ).loc Cert.FfnTwoRefIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4)
      ∧ r.2.mem ((c.tc : Thread Cert.FfnOne.nD Cert.FfnOne.τ).loc Cert.FfnOne.main_arg5) = m ((c.tc : Thread Cert.FfnOne.nD Cert.FfnOne.τ).loc Cert.FfnOne.main_arg5)
      ∧ r.2.mem ((c.tc : Thread Cert.FfnOne.nD Cert.FfnOne.τ).loc Cert.FfnOne.main_arg6) = m ((c.tc : Thread Cert.FfnOne.nD Cert.FfnOne.τ).loc Cert.FfnOne.main_arg6))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
      ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5)
      ∧ r.2.mem ((c.tc : Thread Cert.FfnOneIdeal.nD Cert.FfnOneIdeal.τ).loc Cert.FfnOneIdeal.main_arg6) = m ((c.tc : Thread Cert.FfnOneIdeal.nD Cert.FfnOneIdeal.τ).loc Cert.FfnOneIdeal.main_arg6))
      ∧ r.2.sem = fun _ => 0)

def quiescent_FfnOneRefIdeal [hFfnOneRefIdeal : Cert.FfnOneRefIdeal.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4)
      ∧ r.2.mem ((c.tc : Thread Cert.FfnOneRefIdeal.nD Cert.FfnOneRefIdeal.τ).loc Cert.FfnOneRefIdeal.main_arg5) = m ((c.tc : Thread Cert.FfnOneRefIdeal.nD Cert.FfnOneRefIdeal.τ).loc Cert.FfnOneRefIdeal.main_arg5)
      ∧ r.2.mem ((c.tc : Thread Cert.FfnOneRefIdeal.nD Cert.FfnOneRefIdeal.τ).loc Cert.FfnOneRefIdeal.main_arg6) = m ((c.tc : Thread Cert.FfnOneRefIdeal.nD Cert.FfnOneRefIdeal.τ).loc Cert.FfnOneRefIdeal.main_arg6))
      ∧ r.2.sem = fun _ => 0)

def preserves_MemAtt_MemAttIdeal : Prop :=
  IdealRules.named_const.Statement Cert.MemAttIdeal.κ "sixteenth_log2e" .f32 0x3DB8AA3B#32 (((1 / 16) * (Real.log 2)⁻¹ : ℝ) : EReal)

def algebraic_MemAttIdeal_MemAttRefIdeal_pre_finite_scores [hMemAttIdeal : Cert.MemAttIdeal.Facts] [hMemAttRefIdeal : Cert.MemAttRefIdeal.Facts] [hPre_finite_scores : Cert.Pre_finite_scores.Facts] : Prop :=
  ∀ (m : (ℓ : Loc Cert.MemAttIdeal.nD Cert.MemAttIdeal.τ Cert.MemAttIdeal.sig) → Buf (Elt Ideal) ℓ) (g : Dev Cert.MemAttIdeal.nD → PrngReg)
    (m' : (ℓ : Loc Cert.MemAttRefIdeal.nD Cert.MemAttRefIdeal.τ Cert.MemAttRefIdeal.sig) → Buf (Elt Ideal) ℓ) (g' : Dev Cert.MemAttRefIdeal.nD → PrngReg), Pre_MemAttIdeal_finite_scores m →
    (∀ c : Dev Cert.MemAttIdeal.nD,
      m' ((c.tc : Thread Cert.MemAttRefIdeal.nD Cert.MemAttRefIdeal.τ).loc Cert.MemAttRefIdeal.main_arg0) = m ((c.tc : Thread Cert.MemAttIdeal.nD Cert.MemAttIdeal.τ).loc Cert.MemAttIdeal.main_arg0)
      ∧ m' ((c.tc : Thread Cert.MemAttRefIdeal.nD Cert.MemAttRefIdeal.τ).loc Cert.MemAttRefIdeal.main_arg1) = m ((c.tc : Thread Cert.MemAttIdeal.nD Cert.MemAttIdeal.τ).loc Cert.MemAttIdeal.main_arg1)
      ∧ m' ((c.tc : Thread Cert.MemAttRefIdeal.nD Cert.MemAttRefIdeal.τ).loc Cert.MemAttRefIdeal.main_arg2) = m ((c.tc : Thread Cert.MemAttIdeal.nD Cert.MemAttIdeal.τ).loc Cert.MemAttIdeal.main_arg2)) →
    ∃ (v0 : (c : Dev Cert.MemAttIdeal.nD) → Buf (Elt Ideal) ((c.tc : Thread Cert.MemAttIdeal.nD Cert.MemAttIdeal.τ).loc Cert.MemAttIdeal.main_v0)),
      θ_run (Cert.MemAttIdeal.defs (F := Ideal)) (onTc (τ := Cert.MemAttIdeal.τ) (Cert.MemAttIdeal.main (F := Ideal))) ⟨m, fun _ => 0, g⟩ (fun r => ∀ c : Dev Cert.MemAttIdeal.nD,
          r.2.mem ((c.tc : Thread Cert.MemAttIdeal.nD Cert.MemAttIdeal.τ).loc Cert.MemAttIdeal.main_v0) = v0 c
          ∧ r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
          ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
          ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ θ_run (Cert.MemAttRefIdeal.defs (F := Ideal)) (onTc (τ := Cert.MemAttRefIdeal.τ) (Cert.MemAttRefIdeal.main (F := Ideal))) ⟨m', fun _ => 0, g'⟩ (fun r => ∀ c : Dev Cert.MemAttRefIdeal.nD,
          r.2.mem ((c.tc : Thread Cert.MemAttRefIdeal.nD Cert.MemAttRefIdeal.τ).loc Cert.MemAttRefIdeal.main_v22) = v0 c
          ∧ r.2.mem ((c.tc : Thread Cert.MemAttRefIdeal.nD Cert.MemAttRefIdeal.τ).loc Cert.MemAttRefIdeal.main_arg0) = m' ((c.tc : Thread Cert.MemAttRefIdeal.nD Cert.MemAttRefIdeal.τ).loc Cert.MemAttRefIdeal.main_arg0)
          ∧ r.2.mem ((c.tc : Thread Cert.MemAttRefIdeal.nD Cert.MemAttRefIdeal.τ).loc Cert.MemAttRefIdeal.main_arg1) = m' ((c.tc : Thread Cert.MemAttRefIdeal.nD Cert.MemAttRefIdeal.τ).loc Cert.MemAttRefIdeal.main_arg1)
          ∧ r.2.mem ((c.tc : Thread Cert.MemAttRefIdeal.nD Cert.MemAttRefIdeal.τ).loc Cert.MemAttRefIdeal.main_arg2) = m' ((c.tc : Thread Cert.MemAttRefIdeal.nD Cert.MemAttRefIdeal.τ).loc Cert.MemAttRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v30) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7_0)) (v1 : (c : Dev Cert.MemKvIdeal.nD) → Buf (Elt Ideal) ((c.tc : Thread Cert.MemKvIdeal.nD Cert.MemKvIdeal.τ).loc Cert.MemKvIdeal.main_v7_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7_0) = v0 c
          ∧ r.2.mem ((c.tc : Thread Cert.MemKvIdeal.nD Cert.MemKvIdeal.τ).loc Cert.MemKvIdeal.main_v7_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v19) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v17) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v0_0)) (v1 : (c : Dev Cert.InpIdeal.nD) → Buf (Elt Ideal) ((c.tc : Thread Cert.InpIdeal.nD Cert.InpIdeal.τ).loc Cert.InpIdeal.main_v0_1)) (v2 : (c : Dev Cert.InpIdeal.nD) → Buf (Elt Ideal) ((c.tc : Thread Cert.InpIdeal.nD Cert.InpIdeal.τ).loc Cert.InpIdeal.main_v0_2)) (v3 : (c : Dev Cert.InpIdeal.nD) → Buf (Elt Ideal) ((c.tc : Thread Cert.InpIdeal.nD Cert.InpIdeal.τ).loc Cert.InpIdeal.main_v0_3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0_0) = v0 c
          ∧ r.2.mem ((c.tc : Thread Cert.InpIdeal.nD Cert.InpIdeal.τ).loc Cert.InpIdeal.main_v0_1) = v1 c
          ∧ r.2.mem ((c.tc : Thread Cert.InpIdeal.nD Cert.InpIdeal.τ).loc Cert.InpIdeal.main_v0_2) = v2 c
          ∧ r.2.mem ((c.tc : Thread Cert.InpIdeal.nD Cert.InpIdeal.τ).loc Cert.InpIdeal.main_v0_3) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v7) = v0 c
          ∧ r.2.mem ((c.tc : Thread Cert.InpRefIdeal.nD Cert.InpRefIdeal.τ).loc Cert.InpRefIdeal.main_v9) = v1 c
          ∧ r.2.mem ((c.tc : Thread Cert.InpRefIdeal.nD Cert.InpRefIdeal.τ).loc Cert.InpRefIdeal.main_v11) = v2 c
          ∧ r.2.mem ((c.tc : Thread Cert.InpRefIdeal.nD Cert.InpRefIdeal.τ).loc Cert.InpRefIdeal.main_v14) = v3 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_InpSample_InpSampleIdeal : Prop :=
  True

def algebraic_InpSampleIdeal_InpSampleRefIdeal [hInpSampleIdeal : Cert.InpSampleIdeal.Facts] [hInpSampleRefIdeal : Cert.InpSampleRefIdeal.Facts] : Prop :=
  ∀ (m : (ℓ : Loc Cert.InpSampleIdeal.nD Cert.InpSampleIdeal.τ Cert.InpSampleIdeal.sig) → Buf (Elt Ideal) ℓ) (g : Dev Cert.InpSampleIdeal.nD → PrngReg)
    (m' : (ℓ : Loc Cert.InpSampleRefIdeal.nD Cert.InpSampleRefIdeal.τ Cert.InpSampleRefIdeal.sig) → Buf (Elt Ideal) ℓ) (g' : Dev Cert.InpSampleRefIdeal.nD → PrngReg), Pre_InpSampleIdeal m →
    (∀ c : Dev Cert.InpSampleIdeal.nD,
      m' ((c.tc : Thread Cert.InpSampleRefIdeal.nD Cert.InpSampleRefIdeal.τ).loc Cert.InpSampleRefIdeal.main_arg0) = m ((c.tc : Thread Cert.InpSampleIdeal.nD Cert.InpSampleIdeal.τ).loc Cert.InpSampleIdeal.main_arg0)
      ∧ m' ((c.tc : Thread Cert.InpSampleRefIdeal.nD Cert.InpSampleRefIdeal.τ).loc Cert.InpSampleRefIdeal.main_arg1) = m ((c.tc : Thread Cert.InpSampleIdeal.nD Cert.InpSampleIdeal.τ).loc Cert.InpSampleIdeal.main_arg1)
      ∧ m' ((c.tc : Thread Cert.InpSampleRefIdeal.nD Cert.InpSampleRefIdeal.τ).loc Cert.InpSampleRefIdeal.main_arg2) = m ((c.tc : Thread Cert.InpSampleIdeal.nD Cert.InpSampleIdeal.τ).loc Cert.InpSampleIdeal.main_arg2)) →
    ∃ (v0 : (c : Dev Cert.InpSampleIdeal.nD) → Buf (Elt Ideal) ((c.tc : Thread Cert.InpSampleIdeal.nD Cert.InpSampleIdeal.τ).loc Cert.InpSampleIdeal.main_v0_0)) (v1 : (c : Dev Cert.InpSampleIdeal.nD) → Buf (Elt Ideal) ((c.tc : Thread Cert.InpSampleIdeal.nD Cert.InpSampleIdeal.τ).loc Cert.InpSampleIdeal.main_v0_1)) (v2 : (c : Dev Cert.InpSampleIdeal.nD) → Buf (Elt Ideal) ((c.tc : Thread Cert.InpSampleIdeal.nD Cert.InpSampleIdeal.τ).loc Cert.InpSampleIdeal.main_v0_2)) (v3 : (c : Dev Cert.InpSampleIdeal.nD) → Buf (Elt Ideal) ((c.tc : Thread Cert.InpSampleIdeal.nD Cert.InpSampleIdeal.τ).loc Cert.InpSampleIdeal.main_v0_3)),
      θ_run (Cert.InpSampleIdeal.defs (F := Ideal)) (onTc (τ := Cert.InpSampleIdeal.τ) (Cert.InpSampleIdeal.main (F := Ideal))) ⟨m, fun _ => 0, g⟩ (fun r => ∀ c : Dev Cert.InpSampleIdeal.nD,
          r.2.mem ((c.tc : Thread Cert.InpSampleIdeal.nD Cert.InpSampleIdeal.τ).loc Cert.InpSampleIdeal.main_v0_0) = v0 c
          ∧ r.2.mem ((c.tc : Thread Cert.InpSampleIdeal.nD Cert.InpSampleIdeal.τ).loc Cert.InpSampleIdeal.main_v0_1) = v1 c
          ∧ r.2.mem ((c.tc : Thread Cert.InpSampleIdeal.nD Cert.InpSampleIdeal.τ).loc Cert.InpSampleIdeal.main_v0_2) = v2 c
          ∧ r.2.mem ((c.tc : Thread Cert.InpSampleIdeal.nD Cert.InpSampleIdeal.τ).loc Cert.InpSampleIdeal.main_v0_3) = v3 c
          ∧ r.2.mem ((c.tc : Thread Cert.InpSampleIdeal.nD Cert.InpSampleIdeal.τ).loc Cert.InpSampleIdeal.main_arg0) = m ((c.tc : Thread Cert.InpSampleIdeal.nD Cert.InpSampleIdeal.τ).loc Cert.InpSampleIdeal.main_arg0)
          ∧ r.2.mem ((c.tc : Thread Cert.InpSampleIdeal.nD Cert.InpSampleIdeal.τ).loc Cert.InpSampleIdeal.main_arg1) = m ((c.tc : Thread Cert.InpSampleIdeal.nD Cert.InpSampleIdeal.τ).loc Cert.InpSampleIdeal.main_arg1)
          ∧ r.2.mem ((c.tc : Thread Cert.InpSampleIdeal.nD Cert.InpSampleIdeal.τ).loc Cert.InpSampleIdeal.main_arg2) = m ((c.tc : Thread Cert.InpSampleIdeal.nD Cert.InpSampleIdeal.τ).loc Cert.InpSampleIdeal.main_arg2))
      ∧ θ_run (Cert.InpSampleRefIdeal.defs (F := Ideal)) (onTc (τ := Cert.InpSampleRefIdeal.τ) (Cert.InpSampleRefIdeal.main (F := Ideal))) ⟨m', fun _ => 0, g'⟩ (fun r => ∀ c : Dev Cert.InpSampleRefIdeal.nD,
          r.2.mem ((c.tc : Thread Cert.InpSampleRefIdeal.nD Cert.InpSampleRefIdeal.τ).loc Cert.InpSampleRefIdeal.main_v5) = v0 c
          ∧ r.2.mem ((c.tc : Thread Cert.InpSampleRefIdeal.nD Cert.InpSampleRefIdeal.τ).loc Cert.InpSampleRefIdeal.main_v6) = v1 c
          ∧ r.2.mem ((c.tc : Thread Cert.InpSampleRefIdeal.nD Cert.InpSampleRefIdeal.τ).loc Cert.InpSampleRefIdeal.main_v7) = v2 c
          ∧ r.2.mem ((c.tc : Thread Cert.InpSampleRefIdeal.nD Cert.InpSampleRefIdeal.τ).loc Cert.InpSampleRefIdeal.main_v10) = v3 c
          ∧ r.2.mem ((c.tc : Thread Cert.InpSampleRefIdeal.nD Cert.InpSampleRefIdeal.τ).loc Cert.InpSampleRefIdeal.main_arg0) = m' ((c.tc : Thread Cert.InpSampleRefIdeal.nD Cert.InpSampleRefIdeal.τ).loc Cert.InpSampleRefIdeal.main_arg0)
          ∧ r.2.mem ((c.tc : Thread Cert.InpSampleRefIdeal.nD Cert.InpSampleRefIdeal.τ).loc Cert.InpSampleRefIdeal.main_arg1) = m' ((c.tc : Thread Cert.InpSampleRefIdeal.nD Cert.InpSampleRefIdeal.τ).loc Cert.InpSampleRefIdeal.main_arg1)
          ∧ r.2.mem ((c.tc : Thread Cert.InpSampleRefIdeal.nD Cert.InpSampleRefIdeal.τ).loc Cert.InpSampleRefIdeal.main_arg2) = m' ((c.tc : Thread Cert.InpSampleRefIdeal.nD Cert.InpSampleRefIdeal.τ).loc Cert.InpSampleRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v26) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_SsmSample_SsmSampleIdeal : Prop :=
  True

def algebraic_SsmSampleIdeal_SsmSampleRefIdeal_pre_finite_powers [hSsmSampleIdeal : Cert.SsmSampleIdeal.Facts] [hSsmSampleRefIdeal : Cert.SsmSampleRefIdeal.Facts] [hPre_finite_powers : Cert.Pre_finite_powers.Facts] : Prop :=
  ∀ (m : (ℓ : Loc Cert.SsmSampleIdeal.nD Cert.SsmSampleIdeal.τ Cert.SsmSampleIdeal.sig) → Buf (Elt Ideal) ℓ) (g : Dev Cert.SsmSampleIdeal.nD → PrngReg)
    (m' : (ℓ : Loc Cert.SsmSampleRefIdeal.nD Cert.SsmSampleRefIdeal.τ Cert.SsmSampleRefIdeal.sig) → Buf (Elt Ideal) ℓ) (g' : Dev Cert.SsmSampleRefIdeal.nD → PrngReg), Pre_SsmSampleIdeal_finite_powers m →
    (∀ c : Dev Cert.SsmSampleIdeal.nD,
      m' ((c.tc : Thread Cert.SsmSampleRefIdeal.nD Cert.SsmSampleRefIdeal.τ).loc Cert.SsmSampleRefIdeal.main_arg0) = m ((c.tc : Thread Cert.SsmSampleIdeal.nD Cert.SsmSampleIdeal.τ).loc Cert.SsmSampleIdeal.main_arg0)
      ∧ m' ((c.tc : Thread Cert.SsmSampleRefIdeal.nD Cert.SsmSampleRefIdeal.τ).loc Cert.SsmSampleRefIdeal.main_arg1) = m ((c.tc : Thread Cert.SsmSampleIdeal.nD Cert.SsmSampleIdeal.τ).loc Cert.SsmSampleIdeal.main_arg1)
      ∧ m' ((c.tc : Thread Cert.SsmSampleRefIdeal.nD Cert.SsmSampleRefIdeal.τ).loc Cert.SsmSampleRefIdeal.main_arg2) = m ((c.tc : Thread Cert.SsmSampleIdeal.nD Cert.SsmSampleIdeal.τ).loc Cert.SsmSampleIdeal.main_arg2)
      ∧ m' ((c.tc : Thread Cert.SsmSampleRefIdeal.nD Cert.SsmSampleRefIdeal.τ).loc Cert.SsmSampleRefIdeal.main_arg3) = m ((c.tc : Thread Cert.SsmSampleIdeal.nD Cert.SsmSampleIdeal.τ).loc Cert.SsmSampleIdeal.main_arg3)
      ∧ m' ((c.tc : Thread Cert.SsmSampleRefIdeal.nD Cert.SsmSampleRefIdeal.τ).loc Cert.SsmSampleRefIdeal.main_arg4) = m ((c.tc : Thread Cert.SsmSampleIdeal.nD Cert.SsmSampleIdeal.τ).loc Cert.SsmSampleIdeal.main_arg4)
      ∧ m' ((c.tc : Thread Cert.SsmSampleRefIdeal.nD Cert.SsmSampleRefIdeal.τ).loc Cert.SsmSampleRefIdeal.main_arg5) = m ((c.tc : Thread Cert.SsmSampleIdeal.nD Cert.SsmSampleIdeal.τ).loc Cert.SsmSampleIdeal.main_arg5)) →
    ∃ (v0 : (c : Dev Cert.SsmSampleIdeal.nD) → Buf (Elt Ideal) ((c.tc : Thread Cert.SsmSampleIdeal.nD Cert.SsmSampleIdeal.τ).loc Cert.SsmSampleIdeal.main_v1_1)),
      θ_run (Cert.SsmSampleIdeal.defs (F := Ideal)) (onTc (τ := Cert.SsmSampleIdeal.τ) (Cert.SsmSampleIdeal.main (F := Ideal))) ⟨m, fun _ => 0, g⟩ (fun r => ∀ c : Dev Cert.SsmSampleIdeal.nD,
          r.2.mem ((c.tc : Thread Cert.SsmSampleIdeal.nD Cert.SsmSampleIdeal.τ).loc Cert.SsmSampleIdeal.main_v1_1) = v0 c
          ∧ r.2.mem ((c.tc : Thread Cert.SsmSampleIdeal.nD Cert.SsmSampleIdeal.τ).loc Cert.SsmSampleIdeal.main_arg0) = m ((c.tc : Thread Cert.SsmSampleIdeal.nD Cert.SsmSampleIdeal.τ).loc Cert.SsmSampleIdeal.main_arg0)
          ∧ r.2.mem ((c.tc : Thread Cert.SsmSampleIdeal.nD Cert.SsmSampleIdeal.τ).loc Cert.SsmSampleIdeal.main_arg1) = m ((c.tc : Thread Cert.SsmSampleIdeal.nD Cert.SsmSampleIdeal.τ).loc Cert.SsmSampleIdeal.main_arg1)
          ∧ r.2.mem ((c.tc : Thread Cert.SsmSampleIdeal.nD Cert.SsmSampleIdeal.τ).loc Cert.SsmSampleIdeal.main_arg2) = m ((c.tc : Thread Cert.SsmSampleIdeal.nD Cert.SsmSampleIdeal.τ).loc Cert.SsmSampleIdeal.main_arg2)
          ∧ r.2.mem ((c.tc : Thread Cert.SsmSampleIdeal.nD Cert.SsmSampleIdeal.τ).loc Cert.SsmSampleIdeal.main_arg3) = m ((c.tc : Thread Cert.SsmSampleIdeal.nD Cert.SsmSampleIdeal.τ).loc Cert.SsmSampleIdeal.main_arg3)
          ∧ r.2.mem ((c.tc : Thread Cert.SsmSampleIdeal.nD Cert.SsmSampleIdeal.τ).loc Cert.SsmSampleIdeal.main_arg4) = m ((c.tc : Thread Cert.SsmSampleIdeal.nD Cert.SsmSampleIdeal.τ).loc Cert.SsmSampleIdeal.main_arg4)
          ∧ r.2.mem ((c.tc : Thread Cert.SsmSampleIdeal.nD Cert.SsmSampleIdeal.τ).loc Cert.SsmSampleIdeal.main_arg5) = m ((c.tc : Thread Cert.SsmSampleIdeal.nD Cert.SsmSampleIdeal.τ).loc Cert.SsmSampleIdeal.main_arg5))
      ∧ θ_run (Cert.SsmSampleRefIdeal.defs (F := Ideal)) (onTc (τ := Cert.SsmSampleRefIdeal.τ) (Cert.SsmSampleRefIdeal.main (F := Ideal))) ⟨m', fun _ => 0, g'⟩ (fun r => ∀ c : Dev Cert.SsmSampleRefIdeal.nD,
          r.2.mem ((c.tc : Thread Cert.SsmSampleRefIdeal.nD Cert.SsmSampleRefIdeal.τ).loc Cert.SsmSampleRefIdeal.main_v261) = v0 c
          ∧ r.2.mem ((c.tc : Thread Cert.SsmSampleRefIdeal.nD Cert.SsmSampleRefIdeal.τ).loc Cert.SsmSampleRefIdeal.main_arg0) = m' ((c.tc : Thread Cert.SsmSampleRefIdeal.nD Cert.SsmSampleRefIdeal.τ).loc Cert.SsmSampleRefIdeal.main_arg0)
          ∧ r.2.mem ((c.tc : Thread Cert.SsmSampleRefIdeal.nD Cert.SsmSampleRefIdeal.τ).loc Cert.SsmSampleRefIdeal.main_arg1) = m' ((c.tc : Thread Cert.SsmSampleRefIdeal.nD Cert.SsmSampleRefIdeal.τ).loc Cert.SsmSampleRefIdeal.main_arg1)
          ∧ r.2.mem ((c.tc : Thread Cert.SsmSampleRefIdeal.nD Cert.SsmSampleRefIdeal.τ).loc Cert.SsmSampleRefIdeal.main_arg2) = m' ((c.tc : Thread Cert.SsmSampleRefIdeal.nD Cert.SsmSampleRefIdeal.τ).loc Cert.SsmSampleRefIdeal.main_arg2)
          ∧ r.2.mem ((c.tc : Thread Cert.SsmSampleRefIdeal.nD Cert.SsmSampleRefIdeal.τ).loc Cert.SsmSampleRefIdeal.main_arg3) = m' ((c.tc : Thread Cert.SsmSampleRefIdeal.nD Cert.SsmSampleRefIdeal.τ).loc Cert.SsmSampleRefIdeal.main_arg3)
          ∧ r.2.mem ((c.tc : Thread Cert.SsmSampleRefIdeal.nD Cert.SsmSampleRefIdeal.τ).loc Cert.SsmSampleRefIdeal.main_arg4) = m' ((c.tc : Thread Cert.SsmSampleRefIdeal.nD Cert.SsmSampleRefIdeal.τ).loc Cert.SsmSampleRefIdeal.main_arg4)
          ∧ r.2.mem ((c.tc : Thread Cert.SsmSampleRefIdeal.nD Cert.SsmSampleRefIdeal.τ).loc Cert.SsmSampleRefIdeal.main_arg5) = m' ((c.tc : Thread Cert.SsmSampleRefIdeal.nD Cert.SsmSampleRefIdeal.τ).loc Cert.SsmSampleRefIdeal.main_arg5))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)
      ∧ m' ((c.tc : Thread Cert.FfnTwoRefIdeal.nD Cert.FfnTwoRefIdeal.τ).loc Cert.FfnTwoRefIdeal.main_arg5) = m ((c.tc : Thread Cert.FfnTwoIdeal.nD Cert.FfnTwoIdeal.τ).loc Cert.FfnTwoIdeal.main_arg5)) →
    ∃ (v0 : (c : Dev Cert.FfnTwoIdeal.nD) → Buf (Elt Ideal) ((c.tc : Thread Cert.FfnTwoIdeal.nD Cert.FfnTwoIdeal.τ).loc Cert.FfnTwoIdeal.main_v0)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v0) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
          ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v38) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4)
          ∧ r.2.mem ((c.tc : Thread Cert.FfnTwoRefIdeal.nD Cert.FfnTwoRefIdeal.τ).loc Cert.FfnTwoRefIdeal.main_arg5) = m' ((c.tc : Thread Cert.FfnTwoRefIdeal.nD Cert.FfnTwoRefIdeal.τ).loc Cert.FfnTwoRefIdeal.main_arg5))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v0)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v0) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v38) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_FfnOne_FfnOneIdeal : Prop :=
  True

def algebraic_FfnOneIdeal_FfnOneRefIdeal [hFfnOneIdeal : Cert.FfnOneIdeal.Facts] [hFfnOneRefIdeal : Cert.FfnOneRefIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneRefIdeal.nD Cert.FfnOneRefIdeal.τ Cert.FfnOneRefIdeal.sig) → Buf (Elt Ideal) ℓ) (g' : Dev Cert.FfnOneRefIdeal.nD → PrngReg), Pre_FfnOneIdeal m →
    (∀ c : Dev Cert.FfnOneIdeal.nD,
      m' ((c.tc : Thread Cert.FfnOneRefIdeal.nD Cert.FfnOneRefIdeal.τ).loc Cert.FfnOneRefIdeal.main_arg0) = m ((c.tc : Thread Cert.FfnOneIdeal.nD Cert.FfnOneIdeal.τ).loc Cert.FfnOneIdeal.main_arg0)
      ∧ m' ((c.tc : Thread Cert.FfnOneRefIdeal.nD Cert.FfnOneRefIdeal.τ).loc Cert.FfnOneRefIdeal.main_arg1) = m ((c.tc : Thread Cert.FfnOneIdeal.nD Cert.FfnOneIdeal.τ).loc Cert.FfnOneIdeal.main_arg1)
      ∧ m' ((c.tc : Thread Cert.FfnOneRefIdeal.nD Cert.FfnOneRefIdeal.τ).loc Cert.FfnOneRefIdeal.main_arg2) = m ((c.tc : Thread Cert.FfnOneIdeal.nD Cert.FfnOneIdeal.τ).loc Cert.FfnOneIdeal.main_arg2)
      ∧ m' ((c.tc : Thread Cert.FfnOneRefIdeal.nD Cert.FfnOneRefIdeal.τ).loc Cert.FfnOneRefIdeal.main_arg3) = m ((c.tc : Thread Cert.FfnOneIdeal.nD Cert.FfnOneIdeal.τ).loc Cert.FfnOneIdeal.main_arg3)
      ∧ m' ((c.tc : Thread Cert.FfnOneRefIdeal.nD Cert.FfnOneRefIdeal.τ).loc Cert.FfnOneRefIdeal.main_arg4) = m ((c.tc : Thread Cert.FfnOneIdeal.nD Cert.FfnOneIdeal.τ).loc Cert.FfnOneIdeal.main_arg4)
      ∧ m' ((c.tc : Thread Cert.FfnOneRefIdeal.nD Cert.FfnOneRefIdeal.τ).loc Cert.FfnOneRefIdeal.main_arg5) = m ((c.tc : Thread Cert.FfnOneIdeal.nD Cert.FfnOneIdeal.τ).loc Cert.FfnOneIdeal.main_arg5)
      ∧ m' ((c.tc : Thread Cert.FfnOneRefIdeal.nD Cert.FfnOneRefIdeal.τ).loc Cert.FfnOneRefIdeal.main_arg6) = m ((c.tc : Thread Cert.FfnOneIdeal.nD Cert.FfnOneIdeal.τ).loc Cert.FfnOneIdeal.main_arg6)) →
    ∃ (v0 : (c : Dev Cert.FfnOneIdeal.nD) → Buf (Elt Ideal) ((c.tc : Thread Cert.FfnOneIdeal.nD Cert.FfnOneIdeal.τ).loc Cert.FfnOneIdeal.main_v0_0)) (v1 : (c : Dev Cert.FfnOneIdeal.nD) → Buf (Elt Ideal) ((c.tc : Thread Cert.FfnOneIdeal.nD Cert.FfnOneIdeal.τ).loc Cert.FfnOneIdeal.main_v0_1)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v0_0) = v0 c
          ∧ r.2.mem ((c.tc : Thread Cert.FfnOneIdeal.nD Cert.FfnOneIdeal.τ).loc Cert.FfnOneIdeal.main_v0_1) = v1 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
          ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5)
          ∧ r.2.mem ((c.tc : Thread Cert.FfnOneIdeal.nD Cert.FfnOneIdeal.τ).loc Cert.FfnOneIdeal.main_arg6) = m ((c.tc : Thread Cert.FfnOneIdeal.nD Cert.FfnOneIdeal.τ).loc Cert.FfnOneIdeal.main_arg6))
      ∧ θ_run (Cert.FfnOneRefIdeal.defs (F := Ideal)) (onTc (τ := Cert.FfnOneRefIdeal.τ) (Cert.FfnOneRefIdeal.main (F := Ideal))) ⟨m', fun _ => 0, g'⟩ (fun r => ∀ c : Dev Cert.FfnOneRefIdeal.nD,
          r.2.mem ((c.tc : Thread Cert.FfnOneRefIdeal.nD Cert.FfnOneRefIdeal.τ).loc Cert.FfnOneRefIdeal.main_v38) = v0 c
          ∧ r.2.mem ((c.tc : Thread Cert.FfnOneRefIdeal.nD Cert.FfnOneRefIdeal.τ).loc Cert.FfnOneRefIdeal.main_v53) = v1 c
          ∧ r.2.mem ((c.tc : Thread Cert.FfnOneRefIdeal.nD Cert.FfnOneRefIdeal.τ).loc Cert.FfnOneRefIdeal.main_arg0) = m' ((c.tc : Thread Cert.FfnOneRefIdeal.nD Cert.FfnOneRefIdeal.τ).loc Cert.FfnOneRefIdeal.main_arg0)
          ∧ r.2.mem ((c.tc : Thread Cert.FfnOneRefIdeal.nD Cert.FfnOneRefIdeal.τ).loc Cert.FfnOneRefIdeal.main_arg1) = m' ((c.tc : Thread Cert.FfnOneRefIdeal.nD Cert.FfnOneRefIdeal.τ).loc Cert.FfnOneRefIdeal.main_arg1)
          ∧ r.2.mem ((c.tc : Thread Cert.FfnOneRefIdeal.nD Cert.FfnOneRefIdeal.τ).loc Cert.FfnOneRefIdeal.main_arg2) = m' ((c.tc : Thread Cert.FfnOneRefIdeal.nD Cert.FfnOneRefIdeal.τ).loc Cert.FfnOneRefIdeal.main_arg2)
          ∧ r.2.mem ((c.tc : Thread Cert.FfnOneRefIdeal.nD Cert.FfnOneRefIdeal.τ).loc Cert.FfnOneRefIdeal.main_arg3) = m' ((c.tc : Thread Cert.FfnOneRefIdeal.nD Cert.FfnOneRefIdeal.τ).loc Cert.FfnOneRefIdeal.main_arg3)
          ∧ r.2.mem ((c.tc : Thread Cert.FfnOneRefIdeal.nD Cert.FfnOneRefIdeal.τ).loc Cert.FfnOneRefIdeal.main_arg4) = m' ((c.tc : Thread Cert.FfnOneRefIdeal.nD Cert.FfnOneRefIdeal.τ).loc Cert.FfnOneRefIdeal.main_arg4)
          ∧ r.2.mem ((c.tc : Thread Cert.FfnOneRefIdeal.nD Cert.FfnOneRefIdeal.τ).loc Cert.FfnOneRefIdeal.main_arg5) = m' ((c.tc : Thread Cert.FfnOneRefIdeal.nD Cert.FfnOneRefIdeal.τ).loc Cert.FfnOneRefIdeal.main_arg5)
          ∧ r.2.mem ((c.tc : Thread Cert.FfnOneRefIdeal.nD Cert.FfnOneRefIdeal.τ).loc Cert.FfnOneRefIdeal.main_arg6) = m' ((c.tc : Thread Cert.FfnOneRefIdeal.nD Cert.FfnOneRefIdeal.τ).loc Cert.FfnOneRefIdeal.main_arg6))

def Claim : Prop :=
  ∃ (hMemAtt : Cert.MemAtt.Facts) (hMemAttIdeal : Cert.MemAttIdeal.Facts) (hMemAttRefIdeal : Cert.MemAttRefIdeal.Facts) (hGate : Cert.Gate.Facts) (hGateIdeal : Cert.GateIdeal.Facts) (hGateRefIdeal : Cert.GateRefIdeal.Facts) (hMemKv : Cert.MemKv.Facts) (hMemKvIdeal : Cert.MemKvIdeal.Facts) (hMemKvRefIdeal : Cert.MemKvRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hInpSample : Cert.InpSample.Facts) (hInpSampleIdeal : Cert.InpSampleIdeal.Facts) (hInpSampleRefIdeal : Cert.InpSampleRefIdeal.Facts) (hGlu : Cert.Glu.Facts) (hGluIdeal : Cert.GluIdeal.Facts) (hGluRefIdeal : Cert.GluRefIdeal.Facts) (hSsmSample : Cert.SsmSample.Facts) (hSsmSampleIdeal : Cert.SsmSampleIdeal.Facts) (hSsmSampleRefIdeal : Cert.SsmSampleRefIdeal.Facts) (hFfnTwo : Cert.FfnTwo.Facts) (hFfnTwoIdeal : Cert.FfnTwoIdeal.Facts) (hFfnTwoRefIdeal : Cert.FfnTwoRefIdeal.Facts) (hFfnSample : Cert.FfnSample.Facts) (hFfnSampleIdeal : Cert.FfnSampleIdeal.Facts) (hFfnSampleRefIdeal : Cert.FfnSampleRefIdeal.Facts) (hFfnOne : Cert.FfnOne.Facts) (hFfnOneIdeal : Cert.FfnOneIdeal.Facts) (hFfnOneRefIdeal : Cert.FfnOneRefIdeal.Facts) (hPre_finite_scores : Cert.Pre_finite_scores.Facts) (hPre_finite_powers : Cert.Pre_finite_powers.Facts),
    quiescent_MemAtt (hMemAtt := hMemAtt)
    ∧ quiescent_MemAttIdeal (hMemAttIdeal := hMemAttIdeal)
    ∧ quiescent_MemAttIdeal_pre_finite_scores (hMemAttIdeal := hMemAttIdeal) (hPre_finite_scores := hPre_finite_scores)
    ∧ quiescent_MemAttRefIdeal (hMemAttRefIdeal := hMemAttRefIdeal)
    ∧ quiescent_MemAttRefIdeal_pre_finite_scores (hMemAttRefIdeal := hMemAttRefIdeal) (hPre_finite_scores := hPre_finite_scores)
    ∧ quiescent_Gate (hGate := hGate)
    ∧ quiescent_GateIdeal (hGateIdeal := hGateIdeal)
    ∧ quiescent_GateRefIdeal (hGateRefIdeal := hGateRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_InpSample (hInpSample := hInpSample)
    ∧ quiescent_InpSampleIdeal (hInpSampleIdeal := hInpSampleIdeal)
    ∧ quiescent_InpSampleRefIdeal (hInpSampleRefIdeal := hInpSampleRefIdeal)
    ∧ quiescent_Glu (hGlu := hGlu)
    ∧ quiescent_GluIdeal (hGluIdeal := hGluIdeal)
    ∧ quiescent_GluRefIdeal (hGluRefIdeal := hGluRefIdeal)
    ∧ quiescent_SsmSample (hSsmSample := hSsmSample)
    ∧ quiescent_SsmSampleIdeal (hSsmSampleIdeal := hSsmSampleIdeal)
    ∧ quiescent_SsmSampleIdeal_pre_finite_powers (hSsmSampleIdeal := hSsmSampleIdeal) (hPre_finite_powers := hPre_finite_powers)
    ∧ quiescent_SsmSampleRefIdeal (hSsmSampleRefIdeal := hSsmSampleRefIdeal)
    ∧ quiescent_SsmSampleRefIdeal_pre_finite_powers (hSsmSampleRefIdeal := hSsmSampleRefIdeal) (hPre_finite_powers := hPre_finite_powers)
    ∧ quiescent_FfnTwo (hFfnTwo := hFfnTwo)
    ∧ quiescent_FfnTwoIdeal (hFfnTwoIdeal := hFfnTwoIdeal)
    ∧ quiescent_FfnTwoRefIdeal (hFfnTwoRefIdeal := hFfnTwoRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_FfnOne (hFfnOne := hFfnOne)
    ∧ quiescent_FfnOneIdeal (hFfnOneIdeal := hFfnOneIdeal)
    ∧ quiescent_FfnOneRefIdeal (hFfnOneRefIdeal := hFfnOneRefIdeal)
    ∧ preserves_MemAtt_MemAttIdeal
    ∧ algebraic_MemAttIdeal_MemAttRefIdeal_pre_finite_scores (hMemAttIdeal := hMemAttIdeal) (hMemAttRefIdeal := hMemAttRefIdeal) (hPre_finite_scores := hPre_finite_scores)
    ∧ preserves_Gate_GateIdeal
    ∧ algebraic_GateIdeal_GateRefIdeal (hGateIdeal := hGateIdeal) (hGateRefIdeal := hGateRefIdeal)
    ∧ preserves_MemKv_MemKvIdeal
    ∧ algebraic_MemKvIdeal_MemKvRefIdeal (hMemKvIdeal := hMemKvIdeal) (hMemKvRefIdeal := hMemKvRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_InpSample_InpSampleIdeal
    ∧ algebraic_InpSampleIdeal_InpSampleRefIdeal (hInpSampleIdeal := hInpSampleIdeal) (hInpSampleRefIdeal := hInpSampleRefIdeal)
    ∧ preserves_Glu_GluIdeal
    ∧ algebraic_GluIdeal_GluRefIdeal (hGluIdeal := hGluIdeal) (hGluRefIdeal := hGluRefIdeal)
    ∧ preserves_SsmSample_SsmSampleIdeal
    ∧ algebraic_SsmSampleIdeal_SsmSampleRefIdeal_pre_finite_powers (hSsmSampleIdeal := hSsmSampleIdeal) (hSsmSampleRefIdeal := hSsmSampleRefIdeal) (hPre_finite_powers := hPre_finite_powers)
    ∧ preserves_FfnTwo_FfnTwoIdeal
    ∧ algebraic_FfnTwoIdeal_FfnTwoRefIdeal (hFfnTwoIdeal := hFfnTwoIdeal) (hFfnTwoRefIdeal := hFfnTwoRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_FfnOne_FfnOneIdeal
    ∧ algebraic_FfnOneIdeal_FfnOneRefIdeal (hFfnOneIdeal := hFfnOneIdeal) (hFfnOneRefIdeal := hFfnOneRefIdeal)
-- ==== Pre_finite_powers.lean ====
abbrev S8x16x2048 : Shape := ⟨3, ![8, 16, 2048]⟩
abbrev S8x16x1024 : Shape := ⟨3, ![8, 16, 1024]⟩
abbrev S8x128x1024 : Shape := ⟨3, ![8, 128, 1024]⟩
abbrev S8x17x1024 : Shape := ⟨3, ![8, 17, 1024]⟩
abbrev S8x1x128 : Shape := ⟨3, ![8, 1, 128]⟩
abbrev S8x17x512 : Shape := ⟨3, ![8, 17, 512]⟩
abbrev S8x1x512 : Shape := ⟨3, ![8, 1, 512]⟩
abbrev S_ : Shape := ⟨0, ![]⟩
abbrev S8x512 : Shape := ⟨2, ![8, 512]⟩
abbrev S8x16x512 : Shape := ⟨3, ![8, 16, 512]⟩

class Facts : Prop where
  slices_S8x17x1024_S8x17x512_0_0_0 : S8x17x1024.Slices ![0, 0, 0] S8x17x512
  slices_S8x17x1024_S8x17x512_0_0_512 : S8x17x1024.Slices ![0, 0, 512] S8x17x512
  slices_S8x17x512_S8x1x512_0_1_0 : S8x17x512.Slices ![0, 1, 0] S8x1x512
  bcast_S_S8x16x2048 : S_.BroadcastsInDim S8x16x2048 (![] : Fin 0 → Fin S8x16x2048.rank)
  bcast_S_S8x16x1024 : S_.BroadcastsInDim S8x16x1024 (![] : Fin 0 → Fin S8x16x1024.rank)
  bcast_S_S8x128x1024 : S_.BroadcastsInDim S8x128x1024 (![] : Fin 0 → Fin S8x128x1024.rank)
  bcast_S_S8x17x1024 : S_.BroadcastsInDim S8x17x1024 (![] : Fin 0 → Fin S8x17x1024.rank)
  slices_S8x17x512_S8x1x512_0_0_0 : S8x17x512.Slices ![0, 0, 0] S8x1x512
  shapeCasts_S8x1x512_S8x512 : S8x1x512.ShapeCasts S8x512
  bcast_S_S8x512 : S_.BroadcastsInDim S8x512 (![] : Fin 0 → Fin S8x512.rank)
  slices_S8x17x512_S8x16x512_0_1_0 : S8x17x512.Slices ![0, 1, 0] S8x16x512
  slices_S8x17x512_S8x16x512_0_0_0 : S8x17x512.Slices ![0, 0, 0] S8x16x512
  bcast_S8x1x512_S8x16x512_0_1_2 : S8x1x512.BroadcastsInDim S8x16x512 (![0, 1, 2] : Fin 3 → Fin S8x16x512.rank)

variable [Facts]

def fn_part1 {F : FTy → Type} [FloatOps F] (main_v0 : FVec F S8x17x512 .f32) (main_v1 : FVec F S8x17x512 .f32) (main_v2 : FVec F S8x1x512 .f32) (main_v3 : FVec F S8x1x512 .f32) (main_v6 : IVec S8x16x2048 1) (main_v9 : IVec S8x16x1024 1) (main_v12 : IVec S8x128x1024 1) (main_v15 : IVec S8x17x1024 1) (main_v17 : FVec F S8x512 .f32) (main_v18 : FVec F S8x512 .f32) : IVec S8x16x2048 1 × IVec S8x16x1024 1 × IVec S8x128x1024 1 × IVec S8x17x1024 1 × IVec S8x512 1 × IVec S8x512 1 × IVec S8x16x512 1 × IVec S8x16x512 1 :=
  let main_v19 : IVec S8x512 1 := cmpf .oeq main_v17 main_v18
  let main_v20 : FVec F S8x1x512 .f32 := (extractStridedSlice S8x1x512 ![0, 0, 0] · slices_S8x17x512_S8x1x512_0_0_0) main_v1
  let main_v21 : FVec F S8x512 .f32 := shapeCast S8x512 main_v20 shapeCasts_S8x1x512_S8x512
  let main_cst_4 : FVec F S_ .f32 := constant S_ .f32 0x00000000#32
  let main_v22 : FVec F S8x512 .f32 := broadcastInDim S8x512 ![] bcast_S_S8x512 main_cst_4
  let main_v23 : IVec S8x512 1 := cmpf .oeq main_v21 main_v22
  let main_v24 : FVec F S8x16x512 .f32 := (extractStridedSlice S8x16x512 ![0, 1, 0] · slices_S8x17x512_S8x16x512_0_1_0) main_v0
  let main_v25 : FVec F S8x16x512 .f32 := (extractStridedSlice S8x16x512 ![0, 0, 0] · slices_S8x17x512_S8x16x512_0_0_0) main_v0
  let main_v26 : FVec F S8x16x512 .f32 := broadcastInDim S8x16x512 ![0, 1, 2] bcast_S8x1x512_S8x16x512_0_1_2 main_v2
  let main_v27 : FVec F S8x16x512 .f32 := mulf main_v25 main_v26
  let main_v28 : FVec F S8x16x512 .f32 := (extractStridedSlice S8x16x512 ![0, 0, 0] · slices_S8x17x512_S8x16x512_0_0_0) main_v1
  let main_v29 : FVec F S8x16x512 .f32 := broadcastInDim S8x16x512 ![0, 1, 2] bcast_S8x1x512_S8x16x512_0_1_2 main_v3
  let main_v30 : FVec F S8x16x512 .f32 := mulf main_v28 main_v29
  let main_v31 : FVec F S8x16x512 .f32 := subf main_v27 main_v30
  let main_v32 : IVec S8x16x512 1 := cmpf .oeq main_v24 main_v31
  let main_v33 : FVec F S8x16x512 .f32 := (extractStridedSlice S8x16x512 ![0, 1, 0] · slices_S8x17x512_S8x16x512_0_1_0) main_v1
  let main_v34 : FVec F S8x16x512 .f32 := (extractStridedSlice S8x16x512 ![0, 0, 0] · slices_S8x17x512_S8x16x512_0_0_0) main_v0
  let main_v35 : FVec F S8x16x512 .f32 := broadcastInDim S8x16x512 ![0, 1, 2] bcast_S8x1x512_S8x16x512_0_1_2 main_v3
  let main_v36 : FVec F S8x16x512 .f32 := mulf main_v34 main_v35
  let main_v37 : FVec F S8x16x512 .f32 := (extractStridedSlice S8x16x512 ![0, 0, 0] · slices_S8x17x512_S8x16x512_0_0_0) main_v1
  let main_v38 : FVec F S8x16x512 .f32 := broadcastInDim S8x16x512 ![0, 1, 2] bcast_S8x1x512_S8x16x512_0_1_2 main_v2
  let main_v39 : FVec F S8x16x512 .f32 := mulf main_v37 main_v38
  let main_v40 : FVec F S8x16x512 .f32 := addf main_v36 main_v39
  let main_v41 : IVec S8x16x512 1 := cmpf .oeq main_v33 main_v40
  (main_v6, main_v9, main_v12, main_v15, main_v19, main_v23, main_v32, main_v41)

def fn {F : FTy → Type} [FloatOps F] (main_arg0 : FVec F S8x16x2048 .f32) (main_arg1 : FVec F S8x16x1024 .f32) (main_arg2 : FVec F S8x128x1024 .f32) (main_arg3 : FVec F S8x128x1024 .f32) (main_arg4 : FVec F S8x17x1024 .f32) (main_arg5 : FVec F S8x1x128 .f32) : IVec S8x16x2048 1 × IVec S8x16x1024 1 × IVec S8x128x1024 1 × IVec S8x17x1024 1 × IVec S8x512 1 × IVec S8x512 1 × IVec S8x16x512 1 × IVec S8x16x512 1 :=
  let main_v0 : FVec F S8x17x512 .f32 := (extractStridedSlice S8x17x512 ![0, 0, 0] · slices_S8x17x1024_S8x17x512_0_0_0) main_arg4
  let main_v1 : FVec F S8x17x512 .f32 := (extractStridedSlice S8x17x512 ![0, 0, 512] · slices_S8x17x1024_S8x17x512_0_0_512) main_arg4
  let main_v2 : FVec F S8x1x512 .f32 := (extractStridedSlice S8x1x512 ![0, 1, 0] · slices_S8x17x512_S8x1x512_0_1_0) main_v0
  let main_v3 : FVec F S8x1x512 .f32 := (extractStridedSlice S8x1x512 ![0, 1, 0] · slices_S8x17x512_S8x1x512_0_1_0) main_v1
  let main_v4 : FVec F S8x16x2048 .f32 := Host.absf main_arg0
  let main_cst : FVec F S_ .f32 := constant S_ .f32 0x7F800000#32
  let main_v5 : FVec F S8x16x2048 .f32 := broadcastInDim S8x16x2048 ![] bcast_S_S8x16x2048 main_cst
  let main_v6 : IVec S8x16x2048 1 := cmpf .olt main_v4 main_v5
  let main_v7 : FVec F S8x16x1024 .f32 := Host.absf main_arg1
  let main_cst_0 : FVec F S_ .f32 := constant S_ .f32 0x7F800000#32
  let main_v8 : FVec F S8x16x1024 .f32 := broadcastInDim S8x16x1024 ![] bcast_S_S8x16x1024 main_cst_0
  let main_v9 : IVec S8x16x1024 1 := cmpf .olt main_v7 main_v8
  let main_v10 : FVec F S8x128x1024 .f32 := Host.absf main_arg2
  let main_cst_1 : FVec F S_ .f32 := constant S_ .f32 0x7F800000#32
  let main_v11 : FVec F S8x128x1024 .f32 := broadcastInDim S8x128x1024 ![] bcast_S_S8x128x1024 main_cst_1
  let main_v12 : IVec S8x128x1024 1 := cmpf .olt main_v10 main_v11
  let main_v13 : FVec F S8x17x1024 .f32 := Host.absf main_arg4
  let main_cst_2 : FVec F S_ .f32 := constant S_ .f32 0x7F800000#32
  let main_v14 : FVec F S8x17x1024 .f32 := broadcastInDim S8x17x1024 ![] bcast_S_S8x17x1024 main_cst_2
  let main_v15 : IVec S8x17x1024 1 := cmpf .olt main_v13 main_v14
  let main_v16 : FVec F S8x1x512 .f32 := (extractStridedSlice S8x1x512 ![0, 0, 0] · slices_S8x17x512_S8x1x512_0_0_0) main_v0
  let main_v17 : FVec F S8x512 .f32 := shapeCast S8x512 main_v16 shapeCasts_S8x1x512_S8x512
  let main_cst_3 : FVec F S_ .f32 := constant S_ .f32 0x3F800000#32
  let main_v18 : FVec F S8x512 .f32 := broadcastInDim S8x512 ![] bcast_S_S8x512 main_cst_3
  fn_part1 (F := F) main_v0 main_v1 main_v2 main_v3 main_v6 main_v9 main_v12 main_v15 main_v17 main_v18
-- ==== Pre_finite_scores.lean ====
abbrev S32768x4096 : Shape := ⟨2, ![32768, 4096]⟩
abbrev S8x256x1024 : Shape := ⟨3, ![8, 256, 1024]⟩
abbrev S32768x1024 : Shape := ⟨2, ![32768, 1024]⟩
abbrev S_ : Shape := ⟨0, ![]⟩

class Facts : Prop where
  slices_S32768x4096_S32768x1024_0_3072 : S32768x4096.Slices ![0, 3072] S32768x1024
  bitsLt_bf16_f32 : FTy.bits .bf16 < FTy.bits .f32
  bcast_S_S32768x1024 : S_.BroadcastsInDim S32768x1024 (![] : Fin 0 → Fin S32768x1024.rank)
  bcast_S_S8x256x1024 : S_.BroadcastsInDim S8x256x1024 (![] : Fin 0 → Fin S8x256x1024.rank)

variable [Facts]

def fn {F : FTy → Type} [FloatOps F] (main_arg0 : FVec F S32768x4096 .bf16) (main_arg1 : FVec F S8x256x1024 .f32) (main_arg2 : FVec F S8x256x1024 .f32) : IVec S32768x1024 1 × IVec S8x256x1024 1 :=
  let main_v0 : FVec F S32768x1024 .bf16 := (extractStridedSlice S32768x1024 ![0, 3072] · slices_S32768x4096_S32768x1024_0_3072) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_v5 : FVec F S8x256x1024 .f32 := Host.absf main_arg1
  let main_cst_0 : FVec F S_ .f32 := constant S_ .f32 0x7F800000#32
  let main_v6 : FVec F S8x256x1024 .f32 := broadcastInDim S8x256x1024 ![] bcast_S_S8x256x1024 main_cst_0
  let main_v7 : IVec S8x256x1024 1 := cmpf .olt main_v5 main_v6
  (main_v4, main_v7)
-- ==== MemAtt.lean ====
abbrev S32768x4096 : Shape := ⟨2, ![32768, 4096]⟩
abbrev S8x256x1024 : Shape := ⟨3, ![8, 256, 1024]⟩
abbrev S32768x1024 : Shape := ⟨2, ![32768, 1024]⟩
abbrev S4096x1024 : Shape := ⟨2, ![4096, 1024]⟩
abbrev S1x256x1024 : Shape := ⟨3, ![1, 256, 1024]⟩
abbrev S256x1024 : Shape := ⟨2, ![256, 1024]⟩
abbrev S4096x256 : Shape := ⟨2, ![4096, 256]⟩
abbrev S256x256 : Shape := ⟨2, ![256, 256]⟩
abbrev S4096 : Shape := ⟨1, ![4096]⟩
abbrev S4096x1 : Shape := ⟨2, ![4096, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S8x256x1024, .f32⟩
  | .hbm, ⟨2, _⟩ => ⟨S8x256x1024, .f32⟩
  | .hbm, ⟨3, _⟩ => ⟨S32768x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S4096x1024, .bf16⟩
  | .local _ .vmem, ⟨7, _⟩ => ⟨S4096x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttIdeal.lean ====
variable {F : FTy → Type} [FloatOps F] [Named F]
def κ : String → Option EReal := fun
  | "sixteenth_log2e" => some (((1 / 16) * (Real.log 2)⁻¹ : ℝ) : EReal)
  | _ => none
-- ==== MemAttRefIdeal.lean ====
abbrev S32768x4096 : Shape := ⟨2, ![32768, 4096]⟩
abbrev S8x256x1024 : Shape := ⟨3, ![8, 256, 1024]⟩
abbrev S32768x1024 : Shape := ⟨2, ![32768, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S8x256x1024, .f32⟩
  | .hbm, ⟨2, _⟩ => ⟨S8x256x1024, .f32⟩
  | .hbm, ⟨3, _⟩ => ⟨S32768x1024, .bf16⟩
  | .hbm, ⟨4, _⟩ => ⟨S32768x1024, .f32⟩
  | .hbm, ⟨5, _⟩ => ⟨S8x4096x4x256, .f32⟩
  | .hbm, ⟨6, _⟩ => ⟨S8x256x4x256, .f32⟩
  | .hbm, ⟨7, _⟩ => ⟨S8x256x4x256, .f32⟩
  | .hbm, ⟨8, _⟩ => ⟨S8x4x4096x256, .f32⟩
  | .hbm, ⟨9, _⟩ => ⟨S_, .f32⟩
  | .hbm, ⟨10, _⟩ => ⟨S8x4x4096x256, .f32⟩
  | .hbm, ⟨11, _⟩ => ⟨S8x4x4096x256, .f32⟩
  | .hbm, ⟨12, _⟩ => ⟨S_, .f32⟩
  | .hbm, ⟨13, _⟩ => ⟨S8x4x4096, .f32⟩
  | .hbm, ⟨14, _⟩ => ⟨S_, .f32⟩
  | .hbm, ⟨15, _⟩ => ⟨S8x4x4096, .f32⟩
  | .hbm, ⟨16, _⟩ => ⟨S8x4x4096, .f32⟩
  | .hbm, ⟨17, _⟩ => ⟨S8x4x4096x1, .f32⟩
  | .hbm, ⟨18, _⟩ => ⟨S8x4x4096x256, .f32⟩
  | .hbm, ⟨19, _⟩ => ⟨S8x4x4096x256, .f32⟩
  | .hbm, ⟨20, _⟩ => ⟨S8x4x4096x256, .f32⟩
  | .hbm, ⟨21, _⟩ => ⟨S_, .f32⟩
  | .hbm, ⟨22, _⟩ => ⟨S8x4x4096, .f32⟩
  | .hbm, ⟨23, _⟩ => ⟨S8x4x4096x1, .f32⟩
  | .hbm, ⟨24, _⟩ => ⟨S8x4x4096x256, .f32⟩
  | .hbm, ⟨25, _⟩ => ⟨S8x4x4096x256, .f32⟩
  | .hbm, ⟨26, _⟩ => ⟨S8x4x256x4096, .f32⟩
  | .hbm, ⟨27, _⟩ => ⟨S8x4096x4x256, .f32⟩
  | .hbm, ⟨28, _⟩ => ⟨S32768x1024, .f32⟩
  | .hbm, ⟨29, _⟩ => ⟨S32768x1024, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Gate.lean ====
abbrev S32768x2048 : Shape := ⟨2, ![32768, 2048]⟩
abbrev S32768x1024 : Shape := ⟨2, ![32768, 1024]⟩
abbrev S2048x6144 : Shape := ⟨2, ![2048, 6144]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 9
  | .vmem => 22
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S2048x6144, .bf16⟩
  | .hbm, ⟨5, _⟩ => ⟨S1024x2048, .bf16⟩
  | .hbm, ⟨6, _⟩ => ⟨S1024x2048, .bf16⟩
  | .hbm, ⟨7, _⟩ => ⟨S1024x2048, .bf16⟩
  | .hbm, ⟨8, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GateRefIdeal.lean ====
abbrev S32768x2048 : Shape := ⟨2, ![32768, 2048]⟩
abbrev S32768x1024 : Shape := ⟨2, ![32768, 1024]⟩
abbrev S2048x6144 : Shape := ⟨2, ![2048, 6144]⟩
abbrev S1024x2048 : Shape := ⟨2, ![1024, 2048]⟩
abbrev S32768x6144 : Shape := ⟨2, ![32768, 6144]⟩
abbrev S32768x3x2048 : Shape := ⟨3, ![32768, 3, 2048]⟩
abbrev S_ : Shape := ⟨0, ![]⟩
abbrev S32768x1x2048 : Shape := ⟨3, ![32768, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S2048x6144, .bf16⟩
  | .hbm, ⟨5, _⟩ => ⟨S1024x2048, .bf16⟩
  | .hbm, ⟨6, _⟩ => ⟨S1024x2048, .bf16⟩
  | .hbm, ⟨7, _⟩ => ⟨S1024x2048, .bf16⟩
  | .hbm, ⟨8, _⟩ => ⟨S32768x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S2048x6144, .f32⟩
  | .hbm, ⟨13, _⟩ => ⟨S32768x6144, .f32⟩
  | .hbm, ⟨14, _⟩ => ⟨S32768x3x2048, .f32⟩
  | .hbm, ⟨15, _⟩ => ⟨S32768x3x2048, .f32⟩
  | .hbm, ⟨16, _⟩ => ⟨S32768x3x2048, .f32⟩
  | .hbm, ⟨17, _⟩ => ⟨S_, .f32⟩
  | .hbm, ⟨18, _⟩ => ⟨S32768x3x2048, .f32⟩
  | .hbm, ⟨19, _⟩ => ⟨S32768x3x2048, .f32⟩
  | .hbm, ⟨20, _⟩ => ⟨S_, .f32⟩
  | .hbm, ⟨21, _⟩ => ⟨S32768x3x2048, .f32⟩
  | .hbm, ⟨22, _⟩ => ⟨S32768x3x2048, .f32⟩
  | .hbm, ⟨23, _⟩ => ⟨S32768x1x2048, .f32⟩
  | .hbm, ⟨24, _⟩ => ⟨S32768x2048, .f32⟩
  | .hbm, ⟨25, _⟩ => ⟨S32768x1024, .f32⟩
  | .hbm, ⟨26, _⟩ => ⟨S32768x2048, .f32⟩
  | .hbm, ⟨27, _⟩ => ⟨S32768x2048, .f32⟩
  | .hbm, ⟨28, _⟩ => ⟨S32768x1x2048, .f32⟩
  | .hbm, ⟨29, _⟩ => ⟨S32768x2048, .f32⟩
  | .hbm, ⟨30, _⟩ => ⟨S32768x1024, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x1x2048, .f32⟩
  | .hbm, ⟨35, _⟩ => ⟨S32768x2048, .f32⟩
  | .hbm, ⟨36, _⟩ => ⟨S32768x1024, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== MemKv.lean ====
abbrev S8x256x2048 : Shape := ⟨3, ![8, 256, 2048]⟩
abbrev S1x2048 : Shape := ⟨2, ![1, 2048]⟩
abbrev S1x2048x1024 : Shape := ⟨3, ![1, 2048, 1024]⟩
abbrev S2048x1024 : Shape := ⟨2, ![2048, 1024]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x1024, .f32⟩
  | .hbm, ⟨3, _⟩ => ⟨S1x2048x1024, .f32⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048, .f32⟩
  | .hbm, ⟨10, _⟩ => ⟨S1x2048, .f32⟩
  | .hbm, ⟨11, _⟩ => ⟨S2048x1024, .f32⟩
  | .hbm, ⟨12, _⟩ => ⟨S2048x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S8x256x2048 : Shape := ⟨3, ![8, 256, 2048]⟩
abbrev S1x2048 : Shape := ⟨2, ![1, 2048]⟩
abbrev S1x2048x1024 : Shape := ⟨3, ![1, 2048, 1024]⟩
abbrev S_ : Shape := ⟨0, ![]⟩
abbrev S8x256 : Shape := ⟨2, ![8, 256]⟩
abbrev S8x256x1 : Shape := ⟨3, ![8, 256, 1]⟩
abbrev S2048 : Shape := ⟨1, ![2048]⟩
abbrev S1x1x2048 : Shape := ⟨3, ![1, 1, 2048]⟩
abbrev S2048x1024 : Shape := ⟨2, ![2048, 1024]⟩
abbrev S8x256x1024 : Shape := ⟨3, ![8, 256, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x1024, .f32⟩
  | .hbm, ⟨3, _⟩ => ⟨S1x2048x1024, .f32⟩
  | .hbm, ⟨4, _⟩ => ⟨S8x256x2048, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x2048, .f32⟩
  | .hbm, ⟨16, _⟩ => ⟨S8x256x2048, .f32⟩
  | .hbm, ⟨17, _⟩ => ⟨S2048, .f32⟩
  | .hbm, ⟨18, _⟩ => ⟨S1x1x2048, .f32⟩
  | .hbm, ⟨19, _⟩ => ⟨S8x256x2048, .f32⟩
  | .hbm, ⟨20, _⟩ => ⟨S8x256x2048, .f32⟩
  | .hbm, ⟨21, _⟩ => ⟨S2048x1024, .f32⟩
  | .hbm, ⟨22, _⟩ => ⟨S8x256x1024, .f32⟩
  | .hbm, ⟨23, _⟩ => ⟨S2048x1024, .f32⟩
  | .hbm, ⟨24, _⟩ => ⟨S2048x1024, .f32⟩
  | .hbm, ⟨25, _⟩ => ⟨S8x256x1024, .f32⟩
  | .hbm, ⟨26, _⟩ => ⟨S2048x1024, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S1x2048, .f32⟩
  | .hbm, ⟨4, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S32768x2048 : Shape := ⟨2, ![32768, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S1x2048, .f32⟩
  | .hbm, ⟨4, _⟩ => ⟨S32768x2048, .f32⟩
  | .hbm, ⟨5, _⟩ => ⟨S2048x2048, .f32⟩
  | .hbm, ⟨6, _⟩ => ⟨S32768x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Inp.lean ====
abbrev S32768x2048 : Shape := ⟨2, ![32768, 2048]⟩
abbrev S2048x4096 : Shape := ⟨2, ![2048, 4096]⟩
abbrev S2048x1024 : Shape := ⟨2, ![2048, 1024]⟩
abbrev S32768x4096 : Shape := ⟨2, ![32768, 4096]⟩
abbrev S4096x1024 : Shape := ⟨2, ![4096, 1024]⟩
abbrev S8x2048x2048 : Shape := ⟨3, ![8, 2048, 2048]⟩
abbrev S512x2048 : Shape := ⟨2, ![512, 2048]⟩
abbrev S512x4096 : Shape := ⟨2, ![512, 4096]⟩
abbrev S512x1024 : Shape := ⟨2, ![512, 1024]⟩
abbrev S8x32x2048 : Shape := ⟨3, ![8, 32, 2048]⟩
abbrev S8x512x128 : Shape := ⟨3, ![8, 512, 128]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩

abbrev nBuf : Space → Nat
  | .hbm => 7
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S2048x1024, .bf16⟩
  | .hbm, ⟨3, _⟩ => ⟨S32768x4096, .bf16⟩
  | .hbm, ⟨4, _⟩ => ⟨S4096x1024, .f32⟩
  | .hbm, ⟨5, _⟩ => ⟨S4096x1024, .f32⟩
  | .hbm, ⟨6, _⟩ => ⟨S8x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x4096, .bf16⟩
  | .local _ .vmem, ⟨3, _⟩ => ⟨S2048x1024, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x32x2048, .f32⟩
  | .local _ .vmem, ⟨11, _⟩ => ⟨S8x32x2048, .f32⟩
  | .local _ .vmem, ⟨12, _⟩ => ⟨S8x512x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InpRefIdeal.lean ====
abbrev S32768x2048 : Shape := ⟨2, ![32768, 2048]⟩
abbrev S2048x4096 : Shape := ⟨2, ![2048, 4096]⟩
abbrev S2048x1024 : Shape := ⟨2, ![2048, 1024]⟩
abbrev S32768x4096 : Shape := ⟨2, ![32768, 4096]⟩
abbrev S32768x1024 : Shape := ⟨2, ![32768, 1024]⟩
abbrev S8x4096x4096 : Shape := ⟨3, ![8, 4096, 4096]⟩
abbrev S8x512x4096 : Shape := ⟨3, ![8, 512, 4096]⟩
abbrev S8x512x1024 : Shape := ⟨3, ![8, 512, 1024]⟩
abbrev S4096x1024 : Shape := ⟨2, ![4096, 1024]⟩
abbrev S2048x16x8x128 : Shape := ⟨4, ![2048, 16, 8, 128]⟩
abbrev S8x2048x16x128 : Shape := ⟨4, ![8, 2048, 16, 128]⟩
abbrev S8x2048x2048 : Shape := ⟨3, ![8, 2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S2048x1024, .bf16⟩
  | .hbm, ⟨3, _⟩ => ⟨S32768x2048, .f32⟩
  | .hbm, ⟨4, _⟩ => ⟨S2048x4096, .f32⟩
  | .hbm, ⟨5, _⟩ => ⟨S32768x4096, .f32⟩
  | .hbm, ⟨6, _⟩ => ⟨S2048x1024, .f32⟩
  | .hbm, ⟨7, _⟩ => ⟨S32768x1024, .f32⟩
  | .hbm, ⟨8, _⟩ => ⟨S8x4096x4096, .f32⟩
  | .hbm, ⟨9, _⟩ => ⟨S8x512x4096, .f32⟩
  | .hbm, ⟨10, _⟩ => ⟨S32768x4096, .bf16⟩
  | .hbm, ⟨11, _⟩ => ⟨S8x512x1024, .f32⟩
  | .hbm, ⟨12, _⟩ => ⟨S4096x1024, .f32⟩
  | .hbm, ⟨13, _⟩ => ⟨S8x512x1024, .f32⟩
  | .hbm, ⟨14, _⟩ => ⟨S4096x1024, .f32⟩
  | .hbm, ⟨15, _⟩ => ⟨S2048x16x8x128, .f32⟩
  | .hbm, ⟨16, _⟩ => ⟨S8x2048x16x128, .f32⟩
  | .hbm, ⟨17, _⟩ => ⟨S8x2048x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== InpSample.lean ====
abbrev S256x2048 : Shape := ⟨2, ![256, 2048]⟩
abbrev S2048x4096 : Shape := ⟨2, ![2048, 4096]⟩
abbrev S2048x1024 : Shape := ⟨2, ![2048, 1024]⟩
abbrev S256x4096 : Shape := ⟨2, ![256, 4096]⟩
abbrev S256x1024 : Shape := ⟨2, ![256, 1024]⟩
abbrev S8x16x2048 : Shape := ⟨3, ![8, 16, 2048]⟩
abbrev S8x256x128 : Shape := ⟨3, ![8, 256, 128]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩

abbrev nBuf : Space → Nat
  | .hbm => 7
  | .vmem => 8
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S2048x1024, .bf16⟩
  | .hbm, ⟨3, _⟩ => ⟨S256x4096, .bf16⟩
  | .hbm, ⟨4, _⟩ => ⟨S256x1024, .f32⟩
  | .hbm, ⟨5, _⟩ => ⟨S256x1024, .f32⟩
  | .hbm, ⟨6, _⟩ => ⟨S8x16x2048, .f32⟩
  | .local _ .vmem, ⟨0, _⟩ => ⟨S256x2048, .bf16⟩
  | .local _ .vmem, ⟨1, _⟩ => ⟨S2048x4096, .bf16⟩
  | .local _ .vmem, ⟨2, _⟩ => ⟨S2048x1024, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S8x16x2048, .f32⟩
  | .local _ .vmem, ⟨7, _⟩ => ⟨S8x256x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== InpSampleRefIdeal.lean ====
abbrev S256x2048 : Shape := ⟨2, ![256, 2048]⟩
abbrev S2048x4096 : Shape := ⟨2, ![2048, 4096]⟩
abbrev S2048x1024 : Shape := ⟨2, ![2048, 1024]⟩
abbrev S256x4096 : Shape := ⟨2, ![256, 4096]⟩
abbrev S256x1024 : Shape := ⟨2, ![256, 1024]⟩
abbrev S16x16x8x128 : Shape := ⟨4, ![16, 16, 8, 128]⟩
abbrev S8x16x16x128 : Shape := ⟨4, ![8, 16, 16, 128]⟩
abbrev S8x16x2048 : Shape := ⟨3, ![8, 16, 2048]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S2048x1024, .bf16⟩
  | .hbm, ⟨3, _⟩ => ⟨S256x2048, .f32⟩
  | .hbm, ⟨4, _⟩ => ⟨S2048x4096, .f32⟩
  | .hbm, ⟨5, _⟩ => ⟨S256x4096, .f32⟩
  | .hbm, ⟨6, _⟩ => ⟨S2048x1024, .f32⟩
  | .hbm, ⟨7, _⟩ => ⟨S256x1024, .f32⟩
  | .hbm, ⟨8, _⟩ => ⟨S256x4096, .bf16⟩
  | .hbm, ⟨9, _⟩ => ⟨S256x1024, .f32⟩
  | .hbm, ⟨10, _⟩ => ⟨S256x1024, .f32⟩
  | .hbm, ⟨11, _⟩ => ⟨S16x16x8x128, .f32⟩
  | .hbm, ⟨12, _⟩ => ⟨S8x16x16x128, .f32⟩
  | .hbm, ⟨13, _⟩ => ⟨S8x16x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Glu.lean ====
abbrev S32768x1024 : Shape := ⟨2, ![32768, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .bf16⟩
  | .hbm, ⟨2, _⟩ => ⟨S1x1024, .f32⟩
  | .hbm, ⟨3, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S32768x1024 : Shape := ⟨2, ![32768, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .bf16⟩
  | .hbm, ⟨2, _⟩ => ⟨S1x1024, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1024x1024, .f32⟩
  | .hbm, ⟨21, _⟩ => ⟨S32768x1024, .f32⟩
  | .hbm, ⟨22, _⟩ => ⟨S1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== SsmSample.lean ====
abbrev S8x16x2048 : Shape := ⟨3, ![8, 16, 2048]⟩
abbrev S8x16x1024 : Shape := ⟨3, ![8, 16, 1024]⟩
abbrev S8x128x1024 : Shape := ⟨3, ![8, 128, 1024]⟩
abbrev S8x17x1024 : Shape := ⟨3, ![8, 17, 1024]⟩
abbrev S8x1x128 : Shape := ⟨3, ![8, 1, 128]⟩
abbrev S8x1x16x1024 : Shape := ⟨4, ![8, 1, 16, 1024]⟩
abbrev S256x1024 : Shape := ⟨2, ![256, 1024]⟩
abbrev S1x16x2048 : Shape := ⟨3, ![1, 16, 2048]⟩
abbrev S1x1x16x1024 : Shape := ⟨4, ![1, 1, 16, 1024]⟩
abbrev S1x128x1024 : Shape := ⟨3, ![1, 128, 1024]⟩
abbrev S1x17x1024 : Shape := ⟨3, ![1, 17, 1024]⟩
abbrev S1x1x128 : Shape := ⟨3, ![1, 1, 128]⟩
abbrev S256x128 : Shape := ⟨2, ![256, 128]⟩
abbrev S2048x2048 : Shape := ⟨2, ![2048, 2048]⟩
abbrev S2048x1024 : Shape := ⟨2, ![2048, 1024]⟩
abbrev S8x16x128 : Shape := ⟨3, ![8, 16, 128]⟩
abbrev S1x128x512 : Shape := ⟨3, ![1, 128, 512]⟩
abbrev S128x512 : Shape := ⟨2, ![128, 512]⟩
abbrev S128x1024 : Shape := ⟨2, ![128, 1024]⟩
abbrev S128x128 : Shape := ⟨2, ![128, 128]⟩
abbrev S1x1x512 : Shape := ⟨3, ![1, 1, 512]⟩
abbrev S1x512 : Shape := ⟨2, ![1, 512]⟩
abbrev S16x2048 : Shape := ⟨2, ![16, 2048]⟩
abbrev S16x1024 : Shape := ⟨2, ![16, 1024]⟩
abbrev S1x1x1024 : Shape := ⟨3, ![1, 1, 1024]⟩
abbrev S1x1024 : Shape := ⟨2, ![1, 1024]⟩
abbrev S16x512 : Shape := ⟨2, ![16, 512]⟩
abbrev S1x128 : Shape := ⟨2, ![1, 128]⟩
abbrev S16x256 : Shape := ⟨2, ![16, 256]⟩
abbrev S256x256 : Shape := ⟨2, ![256, 256]⟩
abbrev S16x128 : Shape := ⟨2, ![16, 128]⟩
abbrev S1x16x128 : Shape := ⟨3, ![1, 16, 128]⟩
abbrev S512x256 : Shape := ⟨2, ![512, 256]⟩
abbrev S16x768 : Shape := ⟨2, ![16, 768]⟩
abbrev S768x256 : Shape := ⟨2, ![768, 256]⟩
abbrev S1024x256 : Shape := ⟨2, ![1024, 256]⟩
abbrev S16x1280 : Shape := ⟨2, ![16, 1280]⟩
abbrev S1280x256 : Shape := ⟨2, ![1280, 256]⟩
abbrev S16x1536 : Shape := ⟨2, ![16, 1536]⟩
abbrev S1536x256 : Shape := ⟨2, ![1536, 256]⟩
abbrev S16x1792 : Shape := ⟨2, ![16, 1792]⟩
abbrev S1792x256 : Shape := ⟨2, ![1792, 256]⟩
abbrev S2048x256 : Shape := ⟨2, ![2048, 256]⟩

abbrev nBuf : Space → Nat
  | .hbm => 9
  | .vmem => 21
  | .smem => 0
  | _ => 0

abbrev bufTy : (tb : Table) → Fin (tcTables nBuf tb) → BufTy
  | .hbm, ⟨0, _⟩ => ⟨S8x16x2048, .f32⟩
  | .hbm, ⟨1, _⟩ => ⟨S8x16x1024, .f32⟩
  | .hbm, ⟨2, _⟩ => ⟨S8x128x1024, .f32⟩
  | .hbm, ⟨3, _⟩ => ⟨S8x128x1024, .f32⟩
  | .hbm, ⟨4, _⟩ => ⟨S8x17x1024, .f32⟩
  | .hbm, ⟨5, _⟩ => ⟨S8x1x128, .f32⟩
  | .hbm, ⟨6, _⟩ => ⟨S8x1x16x1024, .f32⟩
  | .hbm, ⟨7, _⟩ => ⟨S256x1024, .f32⟩
  | .hbm, ⟨8, _⟩ => ⟨S8x1x16x1024, .f32⟩
  | .local _ .vmem, ⟨0, _⟩ => ⟨S1x16x2048, .f32⟩
  | .local _ .vmem, ⟨1, _⟩ => ⟨S1x16x2048, .f32⟩
  | .local _ .vmem, ⟨2, _⟩ => ⟨S1x1x16x1024, .f32⟩
  | .local _ .vmem, ⟨3, _⟩ => ⟨S1x1x16x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x17x1024, .f32⟩
  | .local _ .vmem, ⟨9, _⟩ => ⟨S1x17x1024, .f32⟩
  | .local _ .vmem, ⟨10, _⟩ => ⟨S1x1x128, .f32⟩
  | .local _ .vmem, ⟨11, _⟩ => ⟨S1x1x128, .f32⟩
  | .local _ .vmem, ⟨12, _⟩ => ⟨S256x128, .f32⟩
  | .local _ .vmem, ⟨13, _⟩ => ⟨S256x128, .f32⟩
  | .local _ .vmem, ⟨14, _⟩ => ⟨S1x1x16x1024, .f32⟩
  | .local _ .vmem, ⟨15, _⟩ => ⟨S1x1x16x1024, .f32⟩
  | .local _ .vmem, ⟨16, _⟩ => ⟨S2048x2048, .bf16⟩
  | .local _ .vmem, ⟨17, _⟩ => ⟨S2048x1024, .bf16⟩
  | .local _ .vmem, ⟨18, _⟩ => ⟨S2048x1024, .bf16⟩
  | .local _ .vmem, ⟨19, _⟩ => ⟨S8x16x128, .f32⟩
  | .local _ .vmem, ⟨20, _⟩ => ⟨S8x16x128, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x17x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SsmSampleRefIdeal.lean ====
abbrev S8x16x2048 : Shape := ⟨3, ![8, 16, 2048]⟩
abbrev S8x16x1024 : Shape := ⟨3, ![8, 16, 1024]⟩
abbrev S8x128x1024 : Shape := ⟨3, ![8, 128, 1024]⟩
abbrev S8x17x1024 : Shape := ⟨3, ![8, 17, 1024]⟩
abbrev S8x1x128 : Shape := ⟨3, ![8, 1, 128]⟩
abbrev S8x1x512 : Shape := ⟨3, ![8, 1, 512]⟩
abbrev S8x16x512 : Shape := ⟨3, ![8, 16, 512]⟩
abbrev S8x16x128 : Shape := ⟨3, ![8, 16, 128]⟩
abbrev S8x1x16x1024 : Shape := ⟨4, ![8, 1, 16, 1024]⟩

abbrev nBuf : Space → Nat
  | .hbm => 268
  | .vmem => 0
  | .smem => 0
  | _ => 0

abbrev hbmTy0_0 (i : Nat) : BufTy := match i % 128 with
  | 0 => ⟨S8x16x2048, .f32⟩
  | 1 => ⟨S8x16x1024, .f32⟩
  | 2 => ⟨S8x128x1024, .f32⟩
  | 3 => ⟨S8x128x1024, .f32⟩
  | 4 => ⟨S8x17x1024, .f32⟩
  | 5 => ⟨S8x1x128, .f32⟩
  | 6 => ⟨S8x1x512, .f32⟩
  | 7 => ⟨S8x1x512, .f32⟩
  | 8 => ⟨S8x16x512, .f32⟩
  | 9 => ⟨S8x16x512, .f32⟩
  | 10 => ⟨S8x16x128, .f32⟩
  | 11 => ⟨S8x16x1024, .f32⟩
  | 12 => ⟨S8x16x512, .f32⟩
  | 13 => ⟨S8x16x512, .f32⟩
  | 14 => ⟨S8x16x512, .f32⟩
  | 15 => ⟨S8x16x512, .f32⟩
  | 16 => ⟨S8x16x512, .f32⟩
  | 17 => ⟨S8x16x512, .f32⟩
  | 18 => ⟨S8x16x512, .f32⟩
  | 19 => ⟨S8x16x512, .f32⟩
  | 20 => ⟨S8x16x512, .f32⟩
  | 21 => ⟨S8x16x512, .f32⟩
  | 22 => ⟨S8x16x512, .f32⟩
  | 23 => ⟨S8x16x512, .f32⟩
  | 24 => ⟨S8x16x512, .f32⟩
  | 25 => ⟨S8x16x512, .f32⟩
  | 26 => ⟨S8x16x128, .f32⟩
  | 27 => ⟨S8x16x1024, .f32⟩
  | 28 => ⟨S8x16x512, .f32⟩
  | 29 => ⟨S8x16x512, .f32⟩
  | 30 => ⟨S8x16x512, .f32⟩
  | 31 => ⟨S8x16x512, .f32⟩
  | 32 => ⟨S8x16x512, .f32⟩
  | 33 => ⟨S8x16x512, .f32⟩
  | 34 => ⟨S8x16x512, .f32⟩
  | 35 => ⟨S8x16x512, .f32⟩
  | 36 => ⟨S8x16x512, .f32⟩
  | 37 => ⟨S8x16x512, .f32⟩
  | 38 => ⟨S8x16x512, .f32⟩
  | 39 => ⟨S8x16x512, .f32⟩
  | 40 => ⟨S8x16x512, .f32⟩
  | 41 => ⟨S8x16x512, .f32⟩
  | 42 => ⟨S8x16x128, .f32⟩
  | 43 => ⟨S8x16x1024, .f32⟩
  | 44 => ⟨S8x16x512, .f32⟩
  | 45 => ⟨S8x16x512, .f32⟩
  | 46 => ⟨S8x16x512, .f32⟩
  | 47 => ⟨S8x16x512, .f32⟩
  | 48 => ⟨S8x16x512, .f32⟩
  | 49 => ⟨S8x16x512, .f32⟩
  | 50 => ⟨S8x16x512, .f32⟩
  | 51 => ⟨S8x16x512, .f32⟩
  | 52 => ⟨S8x16x512, .f32⟩
  | 53 => ⟨S8x16x512, .f32⟩
  | 54 => ⟨S8x16x512, .f32⟩
  | 55 => ⟨S8x16x512, .f32⟩
  | 56 => ⟨S8x16x512, .f32⟩
  | 57 => ⟨S8x16x512, .f32⟩
  | 58 => ⟨S8x16x128, .f32⟩
  | 59 => ⟨S8x16x1024, .f32⟩
  | 60 => ⟨S8x16x512, .f32⟩
  | 61 => ⟨S8x16x512, .f32⟩
  | 62 => ⟨S8x16x512, .f32⟩
  | 63 => ⟨S8x16x512, .f32⟩
  | 64 => ⟨S8x16x512, .f32⟩
  | 65 => ⟨S8x16x512, .f32⟩
  | 66 => ⟨S8x16x512, .f32⟩
  | 67 => ⟨S8x16x512, .f32⟩
  | 68 => ⟨S8x16x512, .f32⟩
  | 69 => ⟨S8x16x512, .f32⟩
  | 70 => ⟨S8x16x512, .f32⟩
  | 71 => ⟨S8x16x512, .f32⟩
  | 72 => ⟨S8x16x512, .f32⟩
  | 73 => ⟨S8x16x512, .f32⟩
  | 74 => ⟨S8x16x128, .f32⟩
  | 75 => ⟨S8x16x1024, .f32⟩
  | 76 => ⟨S8x16x512, .f32⟩
  | 77 => ⟨S8x16x512, .f32⟩
  | 78 => ⟨S8x16x512, .f32⟩
  | 79 => ⟨S8x16x512, .f32⟩
  | 80 => ⟨S8x16x512, .f32⟩
  | 81 => ⟨S8x16x512, .f32⟩
  | 82 => ⟨S8x16x512, .f32⟩
  | 83 => ⟨S8x16x512, .f32⟩
  | 84 => ⟨S8x16x512, .f32⟩
  | 85 => ⟨S8x16x512, .f32⟩
  | 86 => ⟨S8x16x512, .f32⟩
  | 87 => ⟨S8x16x512, .f32⟩
  | 88 => ⟨S8x16x512, .f32⟩
  | 89 => ⟨S8x16x512, .f32⟩
  | 90 => ⟨S8x16x128, .f32⟩
  | 91 => ⟨S8x16x1024, .f32⟩
  | 92 => ⟨S8x16x512, .f32⟩
  | 93 => ⟨S8x16x512, .f32⟩
  | 94 => ⟨S8x16x512, .f32⟩
  | 95 => ⟨S8x16x512, .f32⟩
  | 96 => ⟨S8x16x512, .f32⟩
  | 97 => ⟨S8x16x512, .f32⟩
  | 98 => ⟨S8x16x512, .f32⟩
  | 99 => ⟨S8x16x512, .f32⟩
  | 100 => ⟨S8x16x512, .f32⟩
  | 101 => ⟨S8x16x512, .f32⟩
  | 102 => ⟨S8x16x512, .f32⟩
  | 103 => ⟨S8x16x512, .f32⟩
  | 104 => ⟨S8x16x512, .f32⟩
  | 105 => ⟨S8x16x512, .f32⟩
  | 106 => ⟨S8x16x128, .f32⟩
  | 107 => ⟨S8x16x1024, .f32⟩
  | 108 => ⟨S8x16x512, .f32⟩
  | 109 => ⟨S8x16x512, .f32⟩
  | 110 => ⟨S8x16x512, .f32⟩
  | 111 => ⟨S8x16x512, .f32⟩
  | 112 => ⟨S8x16x512, .f32⟩
  | 113 => ⟨S8x16x512, .f32⟩
  | 114 => ⟨S8x16x512, .f32⟩
  | 115 => ⟨S8x16x512, .f32⟩
  | 116 => ⟨S8x16x512, .f32⟩
  | 117 => ⟨S8x16x512, .f32⟩
  | 118 => ⟨S8x16x512, .f32⟩
  | 119 => ⟨S8x16x512, .f32⟩
  | 120 => ⟨S8x16x512, .f32⟩
  | 121 => ⟨S8x16x512, .f32⟩
  | 122 => ⟨S8x16x128, .f32⟩
  | 123 => ⟨S8x16x1024, .f32⟩
  | 124 => ⟨S8x16x512, .f32⟩
  | 125 => ⟨S8x16x512, .f32⟩
  | 126 => ⟨S8x16x512, .f32⟩
  | 127 => ⟨S8x16x512, .f32⟩
  | _ => ⟨S8x16x2048, .f32⟩

abbrev hbmTy0_1 (i : Nat) : BufTy := match i % 128 with
  | 0 => ⟨S8x16x512, .f32⟩
  | 1 => ⟨S8x16x512, .f32⟩
  | 2 => ⟨S8x16x512, .f32⟩
  | 3 => ⟨S8x16x512, .f32⟩
  | 4 => ⟨S8x16x512, .f32⟩
  | 5 => ⟨S8x16x512, .f32⟩
  | 6 => ⟨S8x16x512, .f32⟩
  | 7 => ⟨S8x16x512, .f32⟩
  | 8 => ⟨S8x16x512, .f32⟩
  | 9 => ⟨S8x16x512, .f32⟩
  | 10 => ⟨S8x16x128, .f32⟩
  | 11 => ⟨S8x16x1024, .f32⟩
  | 12 => ⟨S8x16x512, .f32⟩
  | 13 => ⟨S8x16x512, .f32⟩
  | 14 => ⟨S8x16x512, .f32⟩
  | 15 => ⟨S8x16x512, .f32⟩
  | 16 => ⟨S8x16x512, .f32⟩
  | 17 => ⟨S8x16x512, .f32⟩
  | 18 => ⟨S8x16x512, .f32⟩
  | 19 => ⟨S8x16x512, .f32⟩
  | 20 => ⟨S8x16x512, .f32⟩
  | 21 => ⟨S8x16x512, .f32⟩
  | 22 => ⟨S8x16x512, .f32⟩
  | 23 => ⟨S8x16x512, .f32⟩
  | 24 => ⟨S8x16x512, .f32⟩
  | 25 => ⟨S8x16x512, .f32⟩
  | 26 => ⟨S8x16x128, .f32⟩
  | 27 => ⟨S8x16x1024, .f32⟩
  | 28 => ⟨S8x16x512, .f32⟩
  | 29 => ⟨S8x16x512, .f32⟩
  | 30 => ⟨S8x16x512, .f32⟩
  | 31 => ⟨S8x16x512, .f32⟩
  | 32 => ⟨S8x16x512, .f32⟩
  | 33 => ⟨S8x16x512, .f32⟩
  | 34 => ⟨S8x16x512, .f32⟩
  | 35 => ⟨S8x16x512, .f32⟩
  | 36 => ⟨S8x16x512, .f32⟩
  | 37 => ⟨S8x16x512, .f32⟩
  | 38 => ⟨S8x16x512, .f32⟩
  | 39 => ⟨S8x16x512, .f32⟩
  | 40 => ⟨S8x16x512, .f32⟩
  | 41 => ⟨S8x16x512, .f32⟩
  | 42 => ⟨S8x16x128, .f32⟩
  | 43 => ⟨S8x16x1024, .f32⟩
  | 44 => ⟨S8x16x512, .f32⟩
  | 45 => ⟨S8x16x512, .f32⟩
  | 46 => ⟨S8x16x512, .f32⟩
  | 47 => ⟨S8x16x512, .f32⟩
  | 48 => ⟨S8x16x512, .f32⟩
  | 49 => ⟨S8x16x512, .f32⟩
  | 50 => ⟨S8x16x512, .f32⟩
  | 51 => ⟨S8x16x512, .f32⟩
  | 52 => ⟨S8x16x512, .f32⟩
  | 53 => ⟨S8x16x512, .f32⟩
  | 54 => ⟨S8x16x512, .f32⟩
  | 55 => ⟨S8x16x512, .f32⟩
  | 56 => ⟨S8x16x512, .f32⟩
  | 57 => ⟨S8x16x512, .f32⟩
  | 58 => ⟨S8x16x128, .f32⟩
  | 59 => ⟨S8x16x1024, .f32⟩
  | 60 => ⟨S8x16x512, .f32⟩
  | 61 => ⟨S8x16x512, .f32⟩
  | 62 => ⟨S8x16x512, .f32⟩
  | 63 => ⟨S8x16x512, .f32⟩
  | 64 => ⟨S8x16x512, .f32⟩
  | 65 => ⟨S8x16x512, .f32⟩
  | 66 => ⟨S8x16x512, .f32⟩
  | 67 => ⟨S8x16x512, .f32⟩
  | 68 => ⟨S8x16x512, .f32⟩
  | 69 => ⟨S8x16x512, .f32⟩
  | 70 => ⟨S8x16x512, .f32⟩
  | 71 => ⟨S8x16x512, .f32⟩
  | 72 => ⟨S8x16x512, .f32⟩
  | 73 => ⟨S8x16x512, .f32⟩
  | 74 => ⟨S8x16x128, .f32⟩
  | 75 => ⟨S8x16x1024, .f32⟩
  | 76 => ⟨S8x16x512, .f32⟩
  | 77 => ⟨S8x16x512, .f32⟩
  | 78 => ⟨S8x16x512, .f32⟩
  | 79 => ⟨S8x16x512, .f32⟩
  | 80 => ⟨S8x16x512, .f32⟩
  | 81 => ⟨S8x16x512, .f32⟩
  | 82 => ⟨S8x16x512, .f32⟩
  | 83 => ⟨S8x16x512, .f32⟩
  | 84 => ⟨S8x16x512, .f32⟩
  | 85 => ⟨S8x16x512, .f32⟩
  | 86 => ⟨S8x16x512, .f32⟩
  | 87 => ⟨S8x16x512, .f32⟩
  | 88 => ⟨S8x16x512, .f32⟩
  | 89 => ⟨S8x16x512, .f32⟩
  | 90 => ⟨S8x16x128, .f32⟩
  | 91 => ⟨S8x16x1024, .f32⟩
  | 92 => ⟨S8x16x512, .f32⟩
  | 93 => ⟨S8x16x512, .f32⟩
  | 94 => ⟨S8x16x512, .f32⟩
  | 95 => ⟨S8x16x512, .f32⟩
  | 96 => ⟨S8x16x512, .f32⟩
  | 97 => ⟨S8x16x512, .f32⟩
  | 98 => ⟨S8x16x512, .f32⟩
  | 99 => ⟨S8x16x512, .f32⟩
  | 100 => ⟨S8x16x512, .f32⟩
  | 101 => ⟨S8x16x512, .f32⟩
  | 102 => ⟨S8x16x512, .f32⟩
  | 103 => ⟨S8x16x512, .f32⟩
  | 104 => ⟨S8x16x512, .f32⟩
  | 105 => ⟨S8x16x512, .f32⟩
  | 106 => ⟨S8x16x128, .f32⟩
  | 107 => ⟨S8x16x1024, .f32⟩
  | 108 => ⟨S8x16x512, .f32⟩
  | 109 => ⟨S8x16x512, .f32⟩
  | 110 => ⟨S8x16x512, .f32⟩
  | 111 => ⟨S8x16x512, .f32⟩
  | 112 => ⟨S8x16x512, .f32⟩
  | 113 => ⟨S8x16x512, .f32⟩
  | 114 => ⟨S8x16x512, .f32⟩
  | 115 => ⟨S8x16x512, .f32⟩
  | 116 => ⟨S8x16x512, .f32⟩
  | 117 => ⟨S8x16x512, .f32⟩
  | 118 => ⟨S8x16x512, .f32⟩
  | 119 => ⟨S8x16x512, .f32⟩
  | 120 => ⟨S8x16x512, .f32⟩
  | 121 => ⟨S8x16x512, .f32⟩
  | 122 => ⟨S8x16x128, .f32⟩
  | 123 => ⟨S8x16x1024, .f32⟩
  | 124 => ⟨S8x16x512, .f32⟩
  | 125 => ⟨S8x16x512, .f32⟩
  | 126 => ⟨S8x16x512, .f32⟩
  | 127 => ⟨S8x16x512, .f32⟩
  | _ => ⟨S8x16x2048, .f32⟩

abbrev hbmTy0_2 (i : Nat) : BufTy := match i % 128 with
  | 0 => ⟨S8x16x512, .f32⟩
  | 1 => ⟨S8x16x512, .f32⟩
  | 2 => ⟨S8x16x512, .f32⟩
  | 3 => ⟨S8x16x512, .f32⟩
  | 4 => ⟨S8x16x512, .f32⟩
  | 5 => ⟨S8x16x512, .f32⟩
  | 6 => ⟨S8x16x512, .f32⟩
  | 7 => ⟨S8x16x512, .f32⟩
  | 8 => ⟨S8x16x512, .f32⟩
  | 9 => ⟨S8x16x512, .f32⟩
  | 10 => ⟨S8x16x1024, .f32⟩
  | 11 => ⟨S8x1x16x1024, .f32⟩
  | _ => ⟨S8x16x2048, .f32⟩

abbrev hbmTy (i : Nat) : BufTy := match i / 128 with
  | 0 => hbmTy0_0 i
  | 1 => hbmTy0_1 i
  | 2 => hbmTy0_2 i
  | _ => ⟨S8x16x2048, .f32⟩

abbrev bufTy : (tb : Table) → Fin (tcTables nBuf tb) → BufTy
  | .hbm, ⟨i, _⟩ => hbmTy i
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩

abbrev nD : Nat := 1
abbrev τ : Topo := Topo.v7x

variable {F : FTy → Type} [FloatOps F]
-- ==== FfnTwo.lean ====
abbrev S32768x2048 : Shape := ⟨2, ![32768, 2048]⟩
abbrev S1x2048 : Shape := ⟨2, ![1, 2048]⟩
abbrev S2048x5632 : Shape := ⟨2, ![2048, 5632]⟩
abbrev S5632x2048 : Shape := ⟨2, ![5632, 2048]⟩
abbrev S128x2048 : Shape := ⟨2, ![128, 2048]⟩
abbrev S2048x512 : Shape := ⟨2, ![2048, 512]⟩
abbrev S512x2048 : Shape := ⟨2, ![512, 2048]⟩
abbrev S1024x2048 : Shape := ⟨2, ![1024, 2048]⟩
abbrev S128 : Shape := ⟨1, ![128]⟩
abbrev S128x1 : Shape := ⟨2, ![128, 1]⟩
abbrev S1024x512 : Shape := ⟨2, ![1024, 512]⟩

abbrev nBuf : Space → Nat
  | .hbm => 7
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S32768x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S128x2048, .f32⟩
  | .local _ .vmem, ⟨13, _⟩ => ⟨S128x2048, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .f32⟩
  | .local _ .vmem, ⟨17, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![34, 11], ![false, false]⟩

def k0_mult1 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  v1
def k0_cond2 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_off1 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v45 : Index := Scalar.indexCast v2
  let c0_17 : Index := 0#32
  ![v45.toNat, 0]
def k0_cond3 (i : grid0.Coords) : BitVec 1 :=
  let arg0 : BitVec 32 := BitVec.ofNat 32 (i 0).val
  let c1_i32 : BitVec 32 := 1#32
  let v11 : BitVec 1 := Scalar.cmpi .sge arg0 c1_i32
  let c32_i32 : BitVec 32 := 32#32
  let v12 : BitVec 1 := Scalar.cmpi .sle arg0 c32_i32
  let v13 : BitVec 1 := Scalar.andi v11 v12
  let c2_i32 : BitVec 32 := 2#32
  let v14 : BitVec 32 := Scalar.remsi arg0 c2_i32
  let c0_i32_4 : BitVec 32 := 0#32
  let v15 : BitVec 1 := Scalar.cmpi .eq v14 c0_i32_4
  let v16 : BitVec 1 := Scalar.andi v13 v15
  let v17 : BitVec 32 := Scalar.extui v16
  let c0_i32_5 : BitVec 32 := 0#32
  let v18 : BitVec 1 := Scalar.cmpi .ne v17 c0_i32_5
  v18

def k0_off2 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v31 : Index := Scalar.indexCast v2
  let c0_13 : Index := 0#32
  ![v31.toNat, 0]
def k0_cond4 (i : grid0.Coords) : BitVec 1 :=
  let arg0 : BitVec 32 := BitVec.ofNat 32 (i 0).val
  let c1_i32_6 : BitVec 32 := 1#32
  let v19 : BitVec 1 := Scalar.cmpi .sge arg0 c1_i32_6
  let c32_i32_7 : BitVec 32 := 32#32
  let v20 : BitVec 1 := Scalar.cmpi .sle arg0 c32_i32_7
  let v21 : BitVec 1 := Scalar.andi v19 v20
  let c2_i32_8 : BitVec 32 := 2#32
  let v22 : BitVec 32 := Scalar.remsi arg0 c2_i32_8
  let c1_i32_9 : BitVec 32 := 1#32
  let v23 : BitVec 1 := Scalar.cmpi .eq v22 c1_i32_9
  let v24 : BitVec 1 := Scalar.andi v21 v23
  let v25 : BitVec 32 := Scalar.extui v24
  let c0_i32_10 : BitVec 32 := 0#32
  let v26 : BitVec 1 := Scalar.cmpi .ne v25 c0_i32_10
  v26

def k0_off3 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v31 : Index := Scalar.indexCast v2
  let c0_13 : Index := 0#32
  ![v31.toNat, 0]
def k0_cond5 (i : grid0.Coords) : BitVec 1 :=
  let arg0 : BitVec 32 := BitVec.ofNat 32 (i 0).val
  let c33_i32 : BitVec 32 := 33#32
  let v27 : BitVec 1 := Scalar.cmpi .eq arg0 c33_i32
  let v28 : BitVec 32 := Scalar.extui v27
  let c0_i32_11 : BitVec 32 := 0#32
  let v29 : BitVec 1 := Scalar.cmpi .ne v28 c0_i32_11
  v29

def k0_off4 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v31 : Index := Scalar.indexCast v2
  let c0_13 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let v2 : BitVec 32 := Scalar.muli v1 c8_i32
  let c2_i32_0 : BitVec 32 := 2#32
  let v3 : BitVec 1 := Scalar.cmpi .sge arg0 c2_i32_0
  let c7_i32 : BitVec 32 := 7#32
  let v4 : BitVec 32 := Scalar.minsi arg1 c7_i32
  let c0_i32_1 : BitVec 32 := 0#32
  let v5 : BitVec 32 := Scalar.select v3 v4 c0_i32_1
  let v6 : BitVec 32 := Scalar.addi v2 v5
  let c0_i32_2 : BitVec 32 := 0#32
  let c0_i32_3 : BitVec 32 := 0#32
  ![v6.toNat, c0_i32_2.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c32_i32 : BitVec 32 := 32#32
  let v1 : BitVec 1 := Scalar.cmpi .sle arg0 c32_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c32_i32 : BitVec 32 := 32#32
  let v1 : BitVec 1 := Scalar.cmpi .sle arg0 c32_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![c0_i32_0.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c32_i32 : BitVec 32 := 32#32
  let v1 : BitVec 1 := Scalar.cmpi .sle arg0 c32_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let v2 : BitVec 32 := Scalar.muli v1 c8_i32
  let c2_i32_0 : BitVec 32 := 2#32
  let v3 : BitVec 1 := Scalar.cmpi .sge arg0 c2_i32_0
  let c7_i32 : BitVec 32 := 7#32
  let v4 : BitVec 32 := Scalar.minsi arg1 c7_i32
  let c0_i32_1 : BitVec 32 := 0#32
  let v5 : BitVec 32 := Scalar.select v3 v4 c0_i32_1
  let v6 : BitVec 32 := Scalar.addi v2 v5
  let c0_i32_2 : BitVec 32 := 0#32
  let c0_i32_3 : BitVec 32 := 0#32
  ![v6.toNat, c0_i32_2.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnTwoRefIdeal.lean ====
abbrev S32768x2048 : Shape := ⟨2, ![32768, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩

abbrev nBuf : Space → Nat
  | .hbm => 60
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S32768x5632, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S32768x5632, .f32⟩
  | .hbm, ⟨38, _⟩ => ⟨S32768x2048, .f32⟩
  | .hbm, ⟨39, _⟩ => ⟨S2048, .f32⟩
  | .hbm, ⟨40, _⟩ => ⟨S32768x2048, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S1x2048, .f32⟩
  | .hbm, ⟨54, _⟩ => ⟨S32768x2048, .f32⟩
  | .hbm, ⟨55, _⟩ => ⟨S32768x2048, .f32⟩
  | .hbm, ⟨56, _⟩ => ⟨S_, .f32⟩
  | .hbm, ⟨57, _⟩ => ⟨S32768x2048, .f32⟩
  | .hbm, ⟨58, _⟩ => ⟨S32768x2048, .f32⟩
  | .hbm, ⟨59, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== FfnSample.lean ====
abbrev S256x2048 : Shape := ⟨2, ![256, 2048]⟩
abbrev S1x2048 : Shape := ⟨2, ![1, 2048]⟩
abbrev S2048x5632 : Shape := ⟨2, ![2048, 5632]⟩
abbrev S5632x2048 : Shape := ⟨2, ![5632, 2048]⟩
abbrev S32x2048 : Shape := ⟨2, ![32, 2048]⟩
abbrev S2048x512 : Shape := ⟨2, ![2048, 512]⟩
abbrev S512x2048 : Shape := ⟨2, ![512, 2048]⟩
abbrev S32 : Shape := ⟨1, ![32]⟩
abbrev S32x1 : Shape := ⟨2, ![32, 1]⟩
abbrev S256x512 : Shape := ⟨2, ![256, 512]⟩

abbrev nBuf : Space → Nat
  | .hbm => 7
  | .vmem => 18
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S256x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S32x2048, .f32⟩
  | .local _ .vmem, ⟨13, _⟩ => ⟨S32x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .f32⟩
  | .local _ .vmem, ⟨17, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![3, 11], ![false, false]⟩

def k0_mult1 (i : grid0.Coords) : BitVec 32 :=
  let arg1 : BitVec 32 := BitVec.ofNat 32 (i 1).val
  let c7_i32 : BitVec 32 := 7#32
  let v0 : BitVec 32 := Scalar.minsi arg1 c7_i32
  let c32_i32 : BitVec 32 := 32#32
  let v1 : BitVec 32 := Scalar.muli v0 c32_i32
  v1
def k0_cond2 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_off1 (i : grid0.Coords) : Fin 2 → Nat :=
  let arg1 : BitVec 32 := BitVec.ofNat 32 (i 1).val
  let c7_i32 : BitVec 32 := 7#32
  let v0 : BitVec 32 := Scalar.minsi arg1 c7_i32
  let c32_i32 : BitVec 32 := 32#32
  let v1 : BitVec 32 := Scalar.muli v0 c32_i32
  let v2 : BitVec 32 := v1
  let v45 : Index := Scalar.indexCast v2
  let c0_19 : Index := 0#32
  ![v45.toNat, 0]
def k0_cond3 (i : grid0.Coords) : BitVec 1 :=
  let arg0 : BitVec 32 := BitVec.ofNat 32 (i 0).val
  let c1_i32 : BitVec 32 := 1#32
  let v11 : BitVec 1 := Scalar.cmpi .sge arg0 c1_i32
  let c1_i32_4 : BitVec 32 := 1#32
  let v12 : BitVec 1 := Scalar.cmpi .sle arg0 c1_i32_4
  let v13 : BitVec 1 := Scalar.andi v11 v12
  let c2_i32 : BitVec 32 := 2#32
  let v14 : BitVec 32 := Scalar.remsi arg0 c2_i32
  let c0_i32_5 : BitVec 32 := 0#32
  let v15 : BitVec 1 := Scalar.cmpi .eq v14 c0_i32_5
  let v16 : BitVec 1 := Scalar.andi v13 v15
  let v17 : BitVec 32 := Scalar.extui v16
  let c0_i32_6 : BitVec 32 := 0#32
  let v18 : BitVec 1 := Scalar.cmpi .ne v17 c0_i32_6
  v18

def k0_off2 (i : grid0.Coords) : Fin 2 → Nat :=
  let arg1 : BitVec 32 := BitVec.ofNat 32 (i 1).val
  let c7_i32 : BitVec 32 := 7#32
  let v0 : BitVec 32 := Scalar.minsi arg1 c7_i32
  let c32_i32 : BitVec 32 := 32#32
  let v1 : BitVec 32 := Scalar.muli v0 c32_i32
  let v2 : BitVec 32 := v1
  let v31 : Index := Scalar.indexCast v2
  let c0_15 : Index := 0#32
  ![v31.toNat, 0]
def k0_cond4 (i : grid0.Coords) : BitVec 1 :=
  let arg0 : BitVec 32 := BitVec.ofNat 32 (i 0).val
  let c1_i32_7 : BitVec 32 := 1#32
  let v19 : BitVec 1 := Scalar.cmpi .sge arg0 c1_i32_7
  let c1_i32_8 : BitVec 32 := 1#32
  let v20 : BitVec 1 := Scalar.cmpi .sle arg0 c1_i32_8
  let v21 : BitVec 1 := Scalar.andi v19 v20
  let c2_i32_9 : BitVec 32 := 2#32
  let v22 : BitVec 32 := Scalar.remsi arg0 c2_i32_9
  let c1_i32_10 : BitVec 32 := 1#32
  let v23 : BitVec 1 := Scalar.cmpi .eq v22 c1_i32_10
  let v24 : BitVec 1 := Scalar.andi v21 v23
  let v25 : BitVec 32 := Scalar.extui v24
  let c0_i32_11 : BitVec 32 := 0#32
  let v26 : BitVec 1 := Scalar.cmpi .ne v25 c0_i32_11
  v26

def k0_off3 (i : grid0.Coords) : Fin 2 → Nat :=
  let arg1 : BitVec 32 := BitVec.ofNat 32 (i 1).val
  let c7_i32 : BitVec 32 := 7#32
  let v0 : BitVec 32 := Scalar.minsi arg1 c7_i32
  let c32_i32 : BitVec 32 := 32#32
  let v1 : BitVec 32 := Scalar.muli v0 c32_i32
  let v2 : BitVec 32 := v1
  let v31 : Index := Scalar.indexCast v2
  let c0_15 : Index := 0#32
  ![v31.toNat, 0]
def k0_cond5 (i : grid0.Coords) : BitVec 1 :=
  let arg0 : BitVec 32 := BitVec.ofNat 32 (i 0).val
  let c2_i32_12 : BitVec 32 := 2#32
  let v27 : BitVec 1 := Scalar.cmpi .eq arg0 c2_i32_12
  let v28 : BitVec 32 := Scalar.extui v27
  let c0_i32_13 : BitVec 32 := 0#32
  let v29 : BitVec 1 := Scalar.cmpi .ne v28 c0_i32_13
  v29

def k0_off4 (i : grid0.Coords) : Fin 2 → Nat :=
  let arg1 : BitVec 32 := BitVec.ofNat 32 (i 1).val
  let c7_i32 : BitVec 32 := 7#32
  let v0 : BitVec 32 := Scalar.minsi arg1 c7_i32
  let c32_i32 : BitVec 32 := 32#32
  let v1 : BitVec 32 := Scalar.muli v0 c32_i32
  let v2 : BitVec 32 := v1
  let v31 : Index := Scalar.indexCast v2
  let c0_15 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let v2 : BitVec 32 := Scalar.muli v1 c8_i32
  let c2_i32_0 : BitVec 32 := 2#32
  let v3 : BitVec 1 := Scalar.cmpi .sge arg0 c2_i32_0
  let c7_i32 : BitVec 32 := 7#32
  let v4 : BitVec 32 := Scalar.minsi arg1 c7_i32
  let c0_i32_1 : BitVec 32 := 0#32
  let v5 : BitVec 32 := Scalar.select v3 v4 c0_i32_1
  let v6 : BitVec 32 := Scalar.addi v2 v5
  let c0_i32_2 : BitVec 32 := 0#32
  let c0_i32_3 : BitVec 32 := 0#32
  ![v6.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let v1 : BitVec 1 := Scalar.cmpi .sle arg0 c1_i32_0
  let v2 : BitVec 1 := Scalar.andi v0 v1
  let c0_i32 : BitVec 32 := 0#32
  let v3 : BitVec 32 := Scalar.select v2 arg1 c0_i32
  let c0_i32_1 : BitVec 32 := 0#32
  let c0_i32_2 : BitVec 32 := 0#32
  ![c0_i32_1.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let v1 : BitVec 1 := Scalar.cmpi .sle arg0 c1_i32_0
  let v2 : BitVec 1 := Scalar.andi v0 v1
  let c0_i32 : BitVec 32 := 0#32
  let v3 : BitVec 32 := Scalar.select v2 arg1 c0_i32
  let c0_i32_1 : BitVec 32 := 0#32
  let c0_i32_2 : BitVec 32 := 0#32
  ![c0_i32_1.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let v1 : BitVec 1 := Scalar.cmpi .sle arg0 c1_i32_0
  let v2 : BitVec 1 := Scalar.andi v0 v1
  let c0_i32 : BitVec 32 := 0#32
  let v3 : BitVec 32 := Scalar.select v2 arg1 c0_i32
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let v2 : BitVec 32 := Scalar.muli v1 c8_i32
  let c2_i32_0 : BitVec 32 := 2#32
  let v3 : BitVec 1 := Scalar.cmpi .sge arg0 c2_i32_0
  let c7_i32 : BitVec 32 := 7#32
  let v4 : BitVec 32 := Scalar.minsi arg1 c7_i32
  let c0_i32_1 : BitVec 32 := 0#32
  let v5 : BitVec 32 := Scalar.select v3 v4 c0_i32_1
  let v6 : BitVec 32 := Scalar.addi v2 v5
  let c0_i32_2 : BitVec 32 := 0#32
  let c0_i32_3 : BitVec 32 := 0#32
  ![v6.toNat, c0_i32_2.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnSampleRefIdeal.lean ====
abbrev S256x2048 : Shape := ⟨2, ![256, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S256 : Shape := ⟨1, ![256]⟩
abbrev S256x1 : Shape := ⟨2, ![256, 1]⟩
abbrev S256x5632 : Shape := ⟨2, ![256, 5632]⟩

abbrev nBuf : Space → Nat
  | .hbm => 60
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048, .f32⟩
  | .hbm, ⟨7, _⟩ => ⟨S256x2048, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S256x5632, .f32⟩
  | .hbm, ⟨27, _⟩ => ⟨S256x5632, .f32⟩
  | .hbm, ⟨28, _⟩ => ⟨S256x5632, .f32⟩
  | .hbm, ⟨29, _⟩ => ⟨S_, .f32⟩
  | .hbm, ⟨30, _⟩ => ⟨S256x5632, .f32⟩
  | .hbm, ⟨31, _⟩ => ⟨S256x5632, .f32⟩
  | .hbm, ⟨32, _⟩ => ⟨S_, .f32⟩
  | .hbm, ⟨33, _⟩ => ⟨S256x5632, .f32⟩
  | .hbm, ⟨34, _⟩ => ⟨S256x5632, .f32⟩
  | .hbm, ⟨35, _⟩ => ⟨S256x5632, .f32⟩
  | .hbm, ⟨36, _⟩ => ⟨S256x5632, .f32⟩
  | .hbm, ⟨37, _⟩ => ⟨S256x5632, .f32⟩
  | .hbm, ⟨38, _⟩ => ⟨S256x2048, .f32⟩
  | .hbm, ⟨39, _⟩ => ⟨S2048, .f32⟩
  | .hbm, ⟨40, _⟩ => ⟨S256x2048, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x2048, .f32⟩
  | .hbm, ⟨52, _⟩ => ⟨S256x2048, .f32⟩
  | .hbm, ⟨53, _⟩ => ⟨S1x2048, .f32⟩
  | .hbm, ⟨54, _⟩ => ⟨S256x2048, .f32⟩
  | .hbm, ⟨55, _⟩ => ⟨S256x2048, .f32⟩
  | .hbm, ⟨56, _⟩ => ⟨S_, .f32⟩
  | .hbm, ⟨57, _⟩ => ⟨S256x2048, .f32⟩
  | .hbm, ⟨58, _⟩ => ⟨S256x2048, .f32⟩
  | .hbm, ⟨59, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== FfnOne.lean ====
abbrev S32768x2048 : Shape := ⟨2, ![32768, 2048]⟩
abbrev S1x2048 : Shape := ⟨2, ![1, 2048]⟩
abbrev S2048x5632 : Shape := ⟨2, ![2048, 5632]⟩
abbrev S5632x2048 : Shape := ⟨2, ![5632, 2048]⟩
abbrev S128x2048 : Shape := ⟨2, ![128, 2048]⟩
abbrev S2048x512 : Shape := ⟨2, ![2048, 512]⟩
abbrev S512x2048 : Shape := ⟨2, ![512, 2048]⟩
abbrev S1024x2048 : Shape := ⟨2, ![1024, 2048]⟩
abbrev S128 : Shape := ⟨1, ![128]⟩
abbrev S128x1 : Shape := ⟨2, ![128, 1]⟩
abbrev S1024x512 : Shape := ⟨2, ![1024, 512]⟩

abbrev nBuf : Space → Nat
  | .hbm => 9
  | .vmem => 21
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .bf16⟩
  | .local _ .vmem, ⟨16, _⟩ => ⟨S128x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .f32⟩
  | .local _ .vmem, ⟨20, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![34, 11], ![false, false]⟩

def k0_mult1 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  v1
def k0_cond2 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_off1 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v45 : Index := Scalar.indexCast v2
  let c0_17 : Index := 0#32
  ![v45.toNat, 0]
def k0_cond3 (i : grid0.Coords) : BitVec 1 :=
  let arg0 : BitVec 32 := BitVec.ofNat 32 (i 0).val
  let c1_i32 : BitVec 32 := 1#32
  let v11 : BitVec 1 := Scalar.cmpi .sge arg0 c1_i32
  let c32_i32 : BitVec 32 := 32#32
  let v12 : BitVec 1 := Scalar.cmpi .sle arg0 c32_i32
  let v13 : BitVec 1 := Scalar.andi v11 v12
  let c2_i32 : BitVec 32 := 2#32
  let v14 : BitVec 32 := Scalar.remsi arg0 c2_i32
  let c0_i32_4 : BitVec 32 := 0#32
  let v15 : BitVec 1 := Scalar.cmpi .eq v14 c0_i32_4
  let v16 : BitVec 1 := Scalar.andi v13 v15
  let v17 : BitVec 32 := Scalar.extui v16
  let c0_i32_5 : BitVec 32 := 0#32
  let v18 : BitVec 1 := Scalar.cmpi .ne v17 c0_i32_5
  v18

def k0_off2 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v31 : Index := Scalar.indexCast v2
  let c0_13 : Index := 0#32
  ![v31.toNat, 0]
def k0_cond4 (i : grid0.Coords) : BitVec 1 :=
  let arg0 : BitVec 32 := BitVec.ofNat 32 (i 0).val
  let c1_i32_6 : BitVec 32 := 1#32
  let v19 : BitVec 1 := Scalar.cmpi .sge arg0 c1_i32_6
  let c32_i32_7 : BitVec 32 := 32#32
  let v20 : BitVec 1 := Scalar.cmpi .sle arg0 c32_i32_7
  let v21 : BitVec 1 := Scalar.andi v19 v20
  let c2_i32_8 : BitVec 32 := 2#32
  let v22 : BitVec 32 := Scalar.remsi arg0 c2_i32_8
  let c1_i32_9 : BitVec 32 := 1#32
  let v23 : BitVec 1 := Scalar.cmpi .eq v22 c1_i32_9
  let v24 : BitVec 1 := Scalar.andi v21 v23
  let v25 : BitVec 32 := Scalar.extui v24
  let c0_i32_10 : BitVec 32 := 0#32
  let v26 : BitVec 1 := Scalar.cmpi .ne v25 c0_i32_10
  v26

def k0_off3 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v31 : Index := Scalar.indexCast v2
  let c0_13 : Index := 0#32
  ![v31.toNat, 0]
def k0_cond5 (i : grid0.Coords) : BitVec 1 :=
  let arg0 : BitVec 32 := BitVec.ofNat 32 (i 0).val
  let c33_i32 : BitVec 32 := 33#32
  let v27 : BitVec 1 := Scalar.cmpi .eq arg0 c33_i32
  let v28 : BitVec 32 := Scalar.extui v27
  let c0_i32_11 : BitVec 32 := 0#32
  let v29 : BitVec 1 := Scalar.cmpi .ne v28 c0_i32_11
  v29

def k0_off4 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v31 : Index := Scalar.indexCast v2
  let c0_13 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let v2 : BitVec 32 := Scalar.muli v1 c8_i32
  let c2_i32_0 : BitVec 32 := 2#32
  let v3 : BitVec 1 := Scalar.cmpi .sge arg0 c2_i32_0
  let c7_i32 : BitVec 32 := 7#32
  let v4 : BitVec 32 := Scalar.minsi arg1 c7_i32
  let c0_i32_1 : BitVec 32 := 0#32
  let v5 : BitVec 32 := Scalar.select v3 v4 c0_i32_1
  let v6 : BitVec 32 := Scalar.addi v2 v5
  let c0_i32_2 : BitVec 32 := 0#32
  let c0_i32_3 : BitVec 32 := 0#32
  ![v6.toNat, c0_i32_2.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c32_i32 : BitVec 32 := 32#32
  let v1 : BitVec 1 := Scalar.cmpi .sle arg0 c32_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c32_i32 : BitVec 32 := 32#32
  let v1 : BitVec 1 := Scalar.cmpi .sle arg0 c32_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![c0_i32_0.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c32_i32 : BitVec 32 := 32#32
  let v1 : BitVec 1 := Scalar.cmpi .sle arg0 c32_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let v2 : BitVec 32 := Scalar.muli v1 c8_i32
  let c2_i32_0 : BitVec 32 := 2#32
  let v3 : BitVec 1 := Scalar.cmpi .sge arg0 c2_i32_0
  let c7_i32 : BitVec 32 := 7#32
  let v4 : BitVec 32 := Scalar.minsi arg1 c7_i32
  let c0_i32_1 : BitVec 32 := 0#32
  let v5 : BitVec 32 := Scalar.select v3 v4 c0_i32_1
  let v6 : BitVec 32 := Scalar.addi v2 v5
  let c0_i32_2 : BitVec 32 := 0#32
  let c0_i32_3 : BitVec 32 := 0#32
  ![v6.toNat, c0_i32_2.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let v2 : BitVec 32 := Scalar.muli v1 c8_i32
  let c2_i32_0 : BitVec 32 := 2#32
  let v3 : BitVec 1 := Scalar.cmpi .sge arg0 c2_i32_0
  let c7_i32 : BitVec 32 := 7#32
  let v4 : BitVec 32 := Scalar.minsi arg1 c7_i32
  let c0_i32_1 : BitVec 32 := 0#32
  let v5 : BitVec 32 := Scalar.select v3 v4 c0_i32_1
  let v6 : BitVec 32 := Scalar.addi v2 v5
  let c0_i32_2 : BitVec 32 := 0#32
  let c0_i32_3 : BitVec 32 := 0#32
  ![v6.toNat, c0_i32_2.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnOneRefIdeal.lean ====
abbrev S32768x2048 : Shape := ⟨2, ![32768, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩

abbrev nBuf : Space → Nat
  | .hbm => 79
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S32768x5632, .f32⟩
  | .hbm, ⟨28, _⟩ => ⟨S32768x5632, .f32⟩
  | .hbm, ⟨29, _⟩ => ⟨S32768x5632, .f32⟩
  | .hbm, ⟨30, _⟩ => ⟨S_, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S32768x5632, .f32⟩
  | .hbm, ⟨38, _⟩ => ⟨S32768x5632, .f32⟩
  | .hbm, ⟨39, _⟩ => ⟨S32768x2048, .f32⟩
  | .hbm, ⟨40, _⟩ => ⟨S2048, .f32⟩
  | .hbm, ⟨41, _⟩ => ⟨S32768x2048, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x2048, .f32⟩
  | .hbm, ⟨53, _⟩ => ⟨S32768x2048, .f32⟩
  | .hbm, ⟨54, _⟩ => ⟨S1x2048, .f32⟩
  | .hbm, ⟨55, _⟩ => ⟨S32768x2048, .f32⟩
  | .hbm, ⟨56, _⟩ => ⟨S32768x2048, .f32⟩
  | .hbm, ⟨57, _⟩ => ⟨S_, .f32⟩
  | .hbm, ⟨58, _⟩ => ⟨S32768x2048, .f32⟩
  | .hbm, ⟨59, _⟩ => ⟨S32768x2048, .f32⟩
  | .hbm, ⟨60, _⟩ => ⟨S32768x2048, .f32⟩
  | .hbm, ⟨61, _⟩ => ⟨S2048, .f32⟩
  | .hbm, ⟨62, _⟩ => ⟨S32768x2048, .f32⟩
  | .hbm, ⟨63, _⟩ => ⟨S_, .f32⟩
  | .hbm, ⟨64, _⟩ => ⟨S32768, .f32⟩
  | .hbm, ⟨65, _⟩ => ⟨S32768x1, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S32768x1, .f32⟩
  | .hbm, ⟨73, _⟩ => ⟨S32768x2048, .f32⟩
  | .hbm, ⟨74, _⟩ => ⟨S32768x2048, .f32⟩
  | .hbm, ⟨75, _⟩ => ⟨S1x2048, .f32⟩
  | .hbm, ⟨76, _⟩ => ⟨S32768x2048, .f32⟩
  | .hbm, ⟨77, _⟩ => ⟨S32768x2048, .f32⟩
  | .hbm, ⟨78, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.GateValue.lean ====
/-
  The value of the gated merge: the result array of the kernel's run is the reference's term of the same arguments.
  Every point stores one 1024 × 512 block, so the array is read block by block (`point`), and the reference's run is put
  beside it (`algebraic`).
-/
module

public import proofs.«01_k».proof.Defs
public import proofs.«01_k».proof.Proof.Gen.GateIdeal.Value
public import proofs.«01_k».proof.Proof.Gen.GateRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

/-- Where each window's block sits, at every point of the 32 × 4 grid. -/
theorem idx : ∀ t : Fin cfg0.N, win0_0.index t = ![t.val / 4, 0] ∧ win0_1.index t = ![t.val / 4, 0]
    ∧ win0_2.index t = ![t.val / 4, 0] ∧ win0_3.index t = ![t.val / 4, 0] ∧ win0_4.index t = ![0, t.val % 4]
    ∧ win0_5.index t = ![0, 4 + t.val % 4] ∧ win0_6.index t = ![0, 8 + t.val % 4] ∧ win0_7.index t = ![0, t.val % 4]
    ∧ win0_8.index t = ![0, t.val % 4] ∧ win0_9.index t = ![0, t.val % 4] ∧ win0_10.index t = ![t.val / 4, t.val % 4] :=
  (by decide +kernel : ∀ t : Fin grid0.N, _)

end Cert.GateIdeal.Value

namespace Cert.Proof

open Cert.GateIdeal Cert.GateIdeal.Gen Cert.GateIdeal.Value

theorem algebraic_gate : Cert.algebraic_GateIdeal_GateRefIdeal (hGateIdeal := Cert.GateIdeal.Gen.facts)
    (hGateRefIdeal := Cert.GateRefIdeal.Gen.facts) := by
  intro m g m' g' _ hargs
  refine ⟨fun c => (dats m 0 c).arrAt 10 cfg0.N, Cert.GateIdeal.Value.run_blocks m g, ?_⟩
  refine (θ_run (Cert.GateRefIdeal.defs (F := Ideal)) _ _).mono (fun r h c => ?_) (Cert.GateRefIdeal.Value.run (F := Ideal) m' g')
  obtain ⟨hv, hk⟩ := h c
  refine ⟨hv.trans ?_, hk⟩
  obtain ⟨e0, e1, e2, e3, e4, e5, e6, e7⟩ := hargs c
  rw [e0, e1, e2, e3, e4, e5, e6, e7]
  symm
  refine (dats m 0 c).arrAt_eq_of_covers 10 _ (by decide +kernel) fun t _ y => ?_
  blk_simp
  rw [after0_10]; frame_out
  pointwise [k0_pay1, Ideal.logistic]
  blk_point [iblk, V, idx t]

end Cert.Proof

end
-- ==== Proof.MemKvValue.lean ====
/-
  The value of the memory's keys and values: each result array of the kernel's run is the reference's term of the same
  arguments. The kernel's one product has the two weights side by side; each store takes its half of the columns.
-/
module

public import proofs.«01_k».proof.Defs
public import proofs.«01_k».proof.Proof.Gen.MemKvIdeal.Value
public import proofs.«01_k».proof.Proof.Gen.MemKvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvRefIdeal.Value

open Cert.MemKvRefIdeal Cert.MemKvRefIdeal.Gen

/-- The reference's projection by one weight, its composed term. -/
def proj (X : FVec Ideal S8x256x2048 .f32) (N : FVec Ideal S1x2048 .f32) (W : FVec Ideal S1x2048x1024 .f32) : FVec Ideal S2048x1024 .f32 :=
  shapeCast _ (Host.dotGeneral dot_S8x256x2048_S2048x1024_S8x256x1024_2_0_01_1_n_n none (mulf (mulf X (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf X X) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))) (broadcastInDim S8x256x2048 ![0, 1, 2] bcast_S1x1x2048_S8x256x2048_0_1_2 (broadcastInDim S1x1x2048 ![2] bcast_S2048_S1x1x2048_2 (shapeCast _ N shapeCasts_S1x2048_S2048)))) (shapeCast _ W shapeCasts_S1x2048x1024_S2048x1024)) shapeCasts_S8x256x1024_S2048x1024

/-- An element of the projection, as a sum over the model's width. -/
theorem proj_at (X : FVec Ideal S8x256x2048 .f32) (N : FVec Ideal S1x2048 .f32) (W : FVec Ideal S1x2048x1024 .f32) (r : Fin 2048) (l : Fin 1024) :
    proj X N W (ix2 r l) = ∑ k : Fin 2048, X (ix3 ⟨r.val / 256, by omega⟩ ⟨r.val % 256, by omega⟩ k)
        * Ideal.rsqrt (Ideal.div (∑ a : Fin 2048, X (ix3 ⟨r.val / 256, by omega⟩ ⟨r.val % 256, by omega⟩ a)
            * X (ix3 ⟨r.val / 256, by omega⟩ ⟨r.val % 256, by omega⟩ a)) (Ideal.ofBits .f32 0x45000000#32)
          + Ideal.ofBits .f32 0x358637BD#32) * N (ix2 0 k) * W (ix3 0 k l) := by
  pointwise [proj]

end Cert.MemKvRefIdeal.Value

namespace Cert.MemKvIdeal.Value

open Cert.MemKvIdeal Cert.MemKvIdeal.Gen

/-- Where each window's block sits, at every one of the four points. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 4 :=
  (by decide +kernel : ∀ t : Fin grid0.N, _)

/-- An element of the block that the body stores, as a sum over the model's width; `w` is the half of the weights. -/
theorem pay_at (x : FVec Ideal S512x2048 .f32) (n : FVec Ideal S1x2048 .f32) (w : FVec Ideal S2048x1024 .bf16) (r : Fin 512) (l : Fin 1024) :
    k0_pay2 (F := Ideal) x n w (ix2 r l) = ∑ k : Fin 2048, x (ix2 r k)
        * Ideal.rsqrt (Ideal.div (∑ a : Fin 2048, x (ix2 r a) * x (ix2 r a)) (Ideal.ofBits .f32 0x45000000#32)
          + Ideal.ofBits .f32 0x358637BD#32) * n (ix2 0 k) * w (ix2 k l) := by
  pointwise [k0_pay1, k0_pay2]

variable (m : (ℓ : Loc nD τ sig) → Buf (Elt Ideal) ℓ) (c : Dev nD)

/-- The arrays that the host's operations before the call leave, read at an index. -/
theorem rows_at (r k : Fin 2048) : V m c main_v4 (ix2 r k) = m ((c : Thread nD τ).loc main_arg0)
    (ix3 ⟨r.val / 256, by omega⟩ ⟨r.val % 256, by omega⟩ k) := by
  entry_read; pointwise

theorem norm_at (k : Fin 2048) : V m c main_v6 (ix2 0 k) = m ((c : Thread nD τ).loc main_arg1) (ix2 0 k) := by
  entry_read; pointwise

theorem keys_at (k : Fin 2048) (l : Fin 1024) : V m c main_v3 (ix2 k ⟨l.val, by omega⟩) = m ((c : Thread nD τ).loc main_arg2) (ix3 0 k l) := by
  entry_read; pointwise

theorem values_at (k : Fin 2048) (l : Fin 1024) : V m c main_v3 (ix2 k ⟨1024 + l.val, by omega⟩) = m ((c : Thread nD τ).loc main_arg3) (ix3 0 k l) := by
  entry_read; pointwise

theorem final3 : (dats m 0 c).arrAt 3 cfg0.N = Cert.MemKvRefIdeal.Value.proj (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨r, l, rfl⟩ : ∃ (r : Fin 512) (l : Fin 1024), y = ix2 r l := ⟨y 0, y 1, eq_ix2 y⟩
  refine (pay_at _ _ _ r l).trans ?_
  obtain ⟨i, j, hij⟩ : ∃ (i : Fin 2048) (j : Fin 1024), ((cfg0.win 3).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  rw [Cert.MemKvRefIdeal.Value.proj_at]
  blk_point [iblk, idx t, rows_at m c, norm_at m c]
  rw [← keys_at m c]; pointwise
  blk_ext [idx t]

/-- The two stored blocks are one function of their half of the weights. -/
theorem pay3_eq : k0_pay3 (F := Ideal) = k0_pay2 := rfl

theorem final4 : (dats m 0 c).arrAt 4 cfg0.N = Cert.MemKvRefIdeal.Value.proj (m ((c : Thread nD τ).loc main_arg0))
    (m ((c : Thread nD τ).loc main_arg1)) (m ((c : Thread nD τ).loc main_arg3)) := by
  refine (dats m 0 c).arrAt_eq_of_covers 4 _ (by decide +kernel) fun t _ y => ?_
  blk_simp
  rw [after0_4]; frame_out
  obtain ⟨r, l, rfl⟩ : ∃ (r : Fin 512) (l : Fin 1024), y = ix2 r l := ⟨y 0, y 1, eq_ix2 y⟩
  refine (pay_at _ _ _ r l).trans ?_
  obtain ⟨i, j, hij⟩ : ∃ (i : Fin 2048) (j : Fin 1024), ((cfg0.win 4).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  rw [Cert.MemKvRefIdeal.Value.proj_at]
  blk_point [iblk, idx t, rows_at m c, norm_at m c]
  rw [← values_at m c]; pointwise
  blk_ext [idx t]

end Cert.MemKvIdeal.Value

namespace Cert.Proof

open Cert.MemKvIdeal Cert.MemKvIdeal.Gen Cert.MemKvIdeal.Value

theorem algebraic_memKv : Cert.algebraic_MemKvIdeal_MemKvRefIdeal (hMemKvIdeal := Cert.MemKvIdeal.Gen.facts)
    (hMemKvRefIdeal := Cert.MemKvRefIdeal.Gen.facts) := by
  intro m g m' g' _ hargs
  refine ⟨fun c => (dats m 0 c).arrAt 3 cfg0.N, fun c => (dats m 0 c).arrAt 4 cfg0.N, Cert.MemKvIdeal.Value.run_blocks m g, ?_⟩
  refine (θ_run (Cert.MemKvRefIdeal.defs (F := Ideal)) _ _).mono (fun r h c => ?_) (Cert.MemKvRefIdeal.Value.run (F := Ideal) m' g')
  obtain ⟨hv, hw, hk⟩ := h c
  obtain ⟨e0, e1, e2, e3⟩ := hargs c
  refine ⟨hv.trans ?_, hw.trans ?_, hk⟩
  · rw [e0, e1, e2]; exact (final3 m c).symm
  · rw [e0, e1, e3]; exact (final4 m c).symm

end Cert.Proof

end
-- ==== Proof.MemAttRow.lean ====
/-
  One row of a softmax-weighted sum, in the two orders. The kernel takes powers of two of the scores times log₂e / 16, and
  divides the weighted sum by the sum of the weights; the reference takes exponentials of the scores over 16, and divides
  each weight before the sum. For finite scores they are one extended real.
-/
module

public import Idealize.ShloMosaic.Lib.Pointwise
public import Idealize.ShloMosaic.PureOps.Ideal

@[expose] public section

noncomputable section

namespace Cert.Proof.Row

open Idealize.ShloMosaic

/-- The factor of the scores in the power of two. -/
abbrev κ : ℝ := (1 / 16) * (Real.log 2)⁻¹

/-- The kernel's row: the weighted sum, then one division. -/
def kernelRow (s v : Fin 256 → EReal) : EReal :=
  (∑ j, Ideal.exp2 (s j * (κ : EReal) - Finset.fold max ⊥ (fun i => s i * (κ : EReal)) Finset.univ) * v j)
    * Ideal.div 1 (∑ j, Ideal.exp2 (s j * (κ : EReal) - Finset.fold max ⊥ (fun i => s i * (κ : EReal)) Finset.univ))

/-- The reference's row: every weight divided, then the sum. -/
def refRow (s v : Fin 256 → EReal) : EReal :=
  ∑ j, v j * Ideal.div (Ideal.exp (s j * ((1 / 16 : ℝ) : EReal) - max ⊥ (Finset.fold max ⊥ (fun i => s i * ((1 / 16 : ℝ) : EReal)) Finset.univ)))
    (∑ i, Ideal.exp (s i * ((1 / 16 : ℝ) : EReal) - max ⊥ (Finset.fold max ⊥ (fun i => s i * ((1 / 16 : ℝ) : EReal)) Finset.univ)))

/-- The largest of finitely many finite numbers, as the fold that both programs take. -/
theorem fold_max (a : Fin 256 → ℝ) : ∃ M : Fin 256, (∀ i, a i ≤ a M) ∧ ∀ c : ℝ, 0 ≤ c →
    Finset.fold max ⊥ (fun i => (a i : EReal) * (c : EReal)) Finset.univ = ((a M * c : ℝ) : EReal) := by
  obtain ⟨M, -, hM⟩ := Finset.exists_max_image (Finset.univ : Finset (Fin 256)) a ⟨0, Finset.mem_univ _⟩
  refine ⟨M, fun i => hM i (Finset.mem_univ i), fun c hc => ?_⟩
  refine le_antisymm ?_ ?_
  · refine (Finset.fold_max_le _).2 ⟨bot_le, fun i _ => ?_⟩
    rw [← EReal.coe_mul]
    exact EReal.coe_le_coe_iff.2 (mul_le_mul_of_nonneg_right (hM i (Finset.mem_univ i)) hc)
  · refine (Finset.le_fold_max _).2 (Or.inr ⟨M, Finset.mem_univ _, ?_⟩)
    rw [← EReal.coe_mul]

theorem exp2_coe (r : ℝ) : Ideal.exp2 (r : EReal) = ((2 ^ r : ℝ) : EReal) := rfl

theorem exp_coe (r : ℝ) : Ideal.exp (r : EReal) = ((Real.exp r : ℝ) : EReal) := rfl

/-- The power of two of a multiple of log₂e is the exponential. -/
theorem two_pow (x y : ℝ) : (2 : ℝ) ^ (x * κ - y * κ) = Real.exp (x * (1 / 16) - y * (1 / 16)) := by
  have h2 : Real.log 2 ≠ 0 := (Real.log_pos (by norm_num)).ne'
  rw [Real.rpow_def_of_pos (by norm_num)]
  congr 1
  simp only [κ]
  field_simp

/-- A sum times a finite factor that is not negative. -/
theorem sum_mul_coe {n : ℕ} (f : Fin n → EReal) (c : ℝ) (hc : 0 ≤ c) : (∑ j, f j) * (c : EReal) = ∑ j, f j * (c : EReal) := by
  have h : ∀ S : Finset (Fin n), (∑ j ∈ S, f j) * (c : EReal) = ∑ j ∈ S, f j * (c : EReal) := by
    intro S
    induction S using Finset.induction_on with
    | empty => simp
    | insert a S ha ih =>
      rw [Finset.sum_insert ha, Finset.sum_insert ha, ← ih]
      exact EReal.right_distrib_of_nonneg_of_ne_top (EReal.coe_nonneg.2 hc) (EReal.coe_ne_top c) _ _
  exact h _

theorem coe_sum {n : ℕ} (f : Fin n → ℝ) : (∑ j, ((f j : ℝ) : EReal)) = ((∑ j, f j : ℝ) : EReal) := by
  have h : ∀ S : Finset (Fin n), (∑ j ∈ S, ((f j : ℝ) : EReal)) = ((∑ j ∈ S, f j : ℝ) : EReal) := by
    intro S
    induction S using Finset.induction_on with
    | empty => simp
    | insert a S ha ih => rw [Finset.sum_insert ha, Finset.sum_insert ha, ih, EReal.coe_add]
  exact h _

theorem div_coe (x : EReal) (l : ℝ) (hl : 0 < l) : Ideal.div x (l : EReal) = x * ((l⁻¹ : ℝ) : EReal) := by
  unfold Ideal.div
  rw [if_neg (by exact_mod_cast hl.ne'), EReal.coe_inv]

/-- The two rows are equal where the scores are finite. -/
theorem rows_eq (s v : Fin 256 → EReal) (hs : ∀ j, s j ≠ ⊤ ∧ s j ≠ ⊥) : kernelRow s v = refRow s v := by
  obtain ⟨a, rfl⟩ : ∃ a : Fin 256 → ℝ, s = fun j => (a j : EReal) :=
    ⟨fun j => (s j).toReal, funext fun j => (EReal.coe_toReal (hs j).1 (hs j).2).symm⟩
  obtain ⟨M, hM, hfold⟩ := fold_max a
  have hκ : (0 : ℝ) ≤ κ := by
    have := Real.log_pos (show (1 : ℝ) < 2 by norm_num)
    positivity
  have h16 : (0 : ℝ) ≤ 1 / 16 := by norm_num
  unfold kernelRow refRow
  rw [hfold _ hκ, hfold _ h16, max_eq_right bot_le]
  simp only [← EReal.coe_mul, ← EReal.coe_sub, exp2_coe, exp_coe, two_pow]
  rw [coe_sum]
  have hl : 0 < ∑ i : Fin 256, Real.exp (a i * (1 / 16) - a M * (1 / 16)) :=
    Finset.sum_pos (fun i _ => Real.exp_pos _) ⟨0, Finset.mem_univ _⟩
  simp only [div_coe _ _ hl, one_mul]
  rw [sum_mul_coe _ _ (inv_nonneg.2 hl.le)]
  refine Finset.sum_congr rfl fun j _ => ?_
  rw [mul_comm _ (v j), mul_assoc]

end Cert.Proof.Row

end
-- ==== Proof.MemAttValue.lean ====
/-
  The value of the cross-attention into the memory: the result array of the kernel's run is the reference's term of the
  same arguments, where the queries and the keys are finite. Each point stores four column blocks, one per head; each is
  a row of Proof/MemAttRow.lean's `kernelRow`, the reference's element is a `refRow`.
-/
module

public import proofs.«01_k».proof.Defs
public import proofs.«01_k».proof.Proof.Gen.MemAttIdeal.Value
public import proofs.«01_k».proof.Proof.Gen.MemAttRefIdeal.Run
public import Idealize.ShloMosaic.Lib.Pipeline.ValueKit
public import Idealize.ShloMosaic.Lib.Claim
public import proofs.«01_k».proof.Proof.Gen.Pre_finite_scores
public import proofs.«01_k».proof.Proof.MemAttRow
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Proof.Row

/-- The word of minus infinity, and that of one sixteenth. -/
theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_sixteenth : Ideal.ofBits .f32 0x3D800000#32 = ((1 / 16 : ℝ) : EReal) := by
  simp [Ideal.ofBits, Ideal.ieee, -EReal.coe_mul]; norm_num

theorem named_log2e : Named.named (F := Ideal) Cert.MemAttIdeal.κ "sixteenth_log2e" (φ := .f32) 0x3DB8AA3B#32 = ((κ : ℝ) : EReal) :=
  IdealRules.named_const.ideal_named_scalar _ _ _ _ rfl

theorem exp2_eq (x : EReal) : FloatOps.exp2 (F := Ideal) (φ := .f32) x = Ideal.exp2 x := rfl

/-- What a comparison says, from its bit. -/
theorem of_bit {P : Prop} [Decidable P] (h : BitVec.ofBool (decide P) = 1#1) : P := by
  by_contra n
  simp [n] at h

/-- A finite extended real, from what the precondition compares. -/
theorem finite_of (x : EReal) (h : max x (-x) < ⊤) : x ≠ ⊤ ∧ x ≠ ⊥ := by
  refine ⟨fun e => ?_, fun e => ?_⟩ <;> subst e <;> simp at h

/-- A finite sum of products of finite extended reals is finite. -/
theorem sum_finite {n : ℕ} (f g : Fin n → EReal) (hf : ∀ j, f j ≠ ⊤ ∧ f j ≠ ⊥) (hg : ∀ j, g j ≠ ⊤ ∧ g j ≠ ⊥) :
    (∑ j, f j * g j) ≠ ⊤ ∧ (∑ j, f j * g j) ≠ ⊥ := by
  have e : ∀ j, f j * g j = (((f j).toReal * (g j).toReal : ℝ) : EReal) := fun j => by
    rw [EReal.coe_mul, EReal.coe_toReal (hf j).1 (hf j).2, EReal.coe_toReal (hg j).1 (hg j).2]
  simp only [e]
  rw [coe_sum]
  exact ⟨EReal.coe_ne_top _, EReal.coe_ne_bot _⟩

end Cert.Proof.Row

namespace Cert.MemAttRefIdeal.Value

open Cert.MemAttRefIdeal Cert.MemAttRefIdeal.Gen Cert.Proof.Row

/-- The scores of the reference, every head. -/
def scores (X0 : FVec Ideal S32768x4096 .bf16) (X1 : FVec Ideal S8x256x1024 .f32) : FVec Ideal S8x4x4096x256 .f32 :=
  mulf (Host.dotGeneral dot_S8x4096x4x256_S8x256x4x256_S8x4x4096x256_3_3_1_1_02_02 none (shapeCast _ (extf .f32 (extractStridedSlice S32768x1024 ![0, 3072] X0 slices_S32768x4096_S32768x1024_0_3072) bitsLt_bf16_f32) shapeCasts_S32768x1024_S8x4096x4x256) (shapeCast _ X1 shapeCasts_S8x256x1024_S8x256x4x256)) (broadcastInDim S8x4x4096x256 ![] bcast_S_S8x4x4096x256 (constant S_ .f32 0x3D800000#32))

/-- The exponentials of the scores less a value for every row, -/
def expsOf (s : FVec Ideal S8x4x4096x256 .f32) (x : FVec Ideal S8x4x4096 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 (maximumf (broadcastInDim S8x4x4096 ![] bcast_S_S8x4x4096 (constant S_ .f32 0xFF800000#32)) x))))

/-- and less the row's largest. -/
def exps (s : FVec Ideal S8x4x4096x256 .f32) : FVec Ideal S8x4x4096x256 .f32 :=
  expsOf s (Host.reduce FloatOps.maximumf s (constant S_ .f32 0xFF800000#32) reducesTo_S8x4x4096x256_S8x4x4096_d3 h_S_)

/-- The weighted sum of the values, every weight divided by its row's sum. -/
def attend (X2 : FVec Ideal S8x256x1024 .f32) (e : FVec Ideal S8x4x4096x256 .f32) : FVec Ideal S32768x1024 .bf16 :=
  truncf .bf16 (shapeCast _ (transpose S8x4096x4x256 [0, 3, 1, 2] (Host.dotGeneral dot_S8x256x4x256_S8x4x4096x256_S8x4x256x4096_1_3_3_2_02_01 none (shapeCast _ X2 shapeCasts_S8x256x1024_S8x256x4x256) (Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_))))) transposes_S8x4x256x4096_S8x4096x4x256_0_3_1_2) shapeCasts_S8x4096x4x256_S32768x1024) bitsLt_bf16_f32

/-- The score of row `r` against memory token `j`, in the head that holds column `l`, before the factor. -/
def dotAt (X0 : FVec Ideal S32768x4096 .bf16) (X1 : FVec Ideal S8x256x1024 .f32) (r : Fin 32768) (l : Fin 1024) (j : Fin 256) : EReal :=
  ∑ d : Fin 256, X0 (ix2 r ⟨3072 + (l.val / 256 * 256 + d.val), by omega⟩)
    * X1 (ix3 ⟨r.val / 4096, by omega⟩ j ⟨l.val / 256 * 256 + d.val, by omega⟩)

theorem scores_at (X0 : FVec Ideal S32768x4096 .bf16) (X1 : FVec Ideal S8x256x1024 .f32) (b : Fin 8) (h : Fin 4) (q : Fin 4096) (j : Fin 256) :
    scores X0 X1 (ix4 b h q j) = (∑ d : Fin 256, X0 (ix2 ⟨b.val * 4096 + q.val, by omega⟩ ⟨3072 + (h.val * 256 + d.val), by omega⟩)
      * X1 (ix3 b j ⟨h.val * 256 + d.val, by omega⟩)) * ((1 / 16 : ℝ) : EReal) := by
  pointwise [scores, ofBits_sixteenth]

theorem largest_at (s : FVec Ideal S8x4x4096x256 .f32) (b : Fin 8) (h : Fin 4) (q : Fin 4096) :
    Host.reduce FloatOps.maximumf s (constant S_ .f32 0xFF800000#32) reducesTo_S8x4x4096x256_S8x4x4096_d3 h_S_ (ix3 b h q)
      = Finset.fold max ⊥ (fun i : Fin 256 => s (ix4 b h q i)) Finset.univ := by
  pointwise [ofBits_bot]

theorem less_at (s : FVec Ideal S8x4x4096x256 .f32) (x : FVec Ideal S8x4x4096 .f32) (b : Fin 8) (h : Fin 4) (q : Fin 4096) (j : Fin 256) :
    expsOf s x (ix4 b h q j) = Ideal.exp (s (ix4 b h q j) - max ⊥ (x (ix3 b h q))) := by
  pointwise [expsOf, ofBits_bot]

theorem exps_at (s : FVec Ideal S8x4x4096x256 .f32) (b : Fin 8) (h : Fin 4) (q : Fin 4096) (j : Fin 256) :
    exps s (ix4 b h q j) = Ideal.exp (s (ix4 b h q j) - max ⊥ (Finset.fold max ⊥ (fun i : Fin 256 => s (ix4 b h q i)) Finset.univ)) :=
  (less_at s _ b h q j).trans (congrArg (fun z => Ideal.exp (s (ix4 b h q j) - max ⊥ z)) (largest_at s b h q))

theorem weigh_at (X2 : FVec Ideal S8x256x1024 .f32) (e : FVec Ideal S8x4x4096x256 .f32) (r : Fin 32768) (l : Fin 1024) :
    attend X2 e (ix2 r l) = ∑ j : Fin 256, X2 (ix3 ⟨r.val / 4096, by omega⟩ j l)
      * Ideal.div (e (ix4 ⟨r.val / 4096, by omega⟩ ⟨l.val / 256, by omega⟩ ⟨r.val % 4096, by omega⟩ j))
        (∑ i : Fin 256, e (ix4 ⟨r.val / 4096, by omega⟩ ⟨l.val / 256, by omega⟩ ⟨r.val % 4096, by omega⟩ i)) := by
  pointwise [attend]

/-- An element of the reference is a row of it. -/
theorem attend_at (X0 : FVec Ideal S32768x4096 .bf16) (X1 X2 : FVec Ideal S8x256x1024 .f32) (r : Fin 32768) (l : Fin 1024) :
    attend X2 (exps (scores X0 X1)) (ix2 r l)
      = refRow (dotAt X0 X1 r l) fun j => X2 (ix3 ⟨r.val / 4096, by omega⟩ j l) := by
  have hr : (⟨r.val / 4096 * 4096 + r.val % 4096, by omega⟩ : Fin 32768) = r := Fin.ext (by simp only []; omega)
  have e : ∀ j : Fin 256, scores X0 X1 (ix4 ⟨r.val / 4096, by omega⟩ ⟨l.val / 256, by omega⟩ ⟨r.val % 4096, by omega⟩ j)
      = dotAt X0 X1 r l j * ((1 / 16 : ℝ) : EReal) := fun j => by
    rw [scores_at]; simp only [hr]; rfl
  rw [weigh_at]
  simp only [exps_at, e]
  rfl

end Cert.MemAttRefIdeal.Value

namespace Cert.MemAttIdeal.Value

open Cert.MemAttIdeal Cert.MemAttIdeal.Gen Cert.Proof.Row

/-- Where each window's block sits, at every one of the eight points. -/
theorem idx : ∀ t : Fin cfg0.N, win0_0.index t = ![t.val, 3] ∧ win0_1.index t = ![t.val, 0, 0] ∧ win0_2.index t = ![t.val, 0, 0]
    ∧ win0_3.index t = ![t.val, 0] ∧ t.val < 8 :=
  (by decide +kernel : ∀ t : Fin grid0.N, _)

section heads

variable (k v : FVec Ideal S1x256x1024 .f32) (q : FVec Ideal S4096x256 .bf16) (r : Fin 4096) (l : Fin 256)

/-- The four stored blocks, each a row: the first head's, -/
theorem head0_at : k0_pay4 (F := Ideal) k v q (ix2 r l)
    = kernelRow (fun j => ∑ d : Fin 256, q (ix2 r d) * k (ix3 0 j ⟨d.val, by omega⟩)) fun j => v (ix3 0 j ⟨l.val, by omega⟩) := by
  pointwise [k0_pay2, k0_pay3, k0_pay4, kernelRow, named_log2e, exp2_eq, ofBits_bot]

/-- the second's, -/
theorem head1_at : k0_pay6 (F := Ideal) (k0_pay3 v) (k0_pay5 k q) (ix2 r l)
    = kernelRow (fun j => ∑ d : Fin 256, q (ix2 r d) * k (ix3 0 j ⟨256 + d.val, by omega⟩)) fun j => v (ix3 0 j ⟨256 + l.val, by omega⟩) := by
  pointwise [k0_pay2, k0_pay3, k0_pay5, k0_pay6, kernelRow, named_log2e, exp2_eq, ofBits_bot]

/-- the third's, -/
theorem head2_at : k0_pay7 (F := Ideal) (k0_pay2 k) (k0_pay3 v) q (ix2 r l)
    = kernelRow (fun j => ∑ d : Fin 256, q (ix2 r d) * k (ix3 0 j ⟨512 + d.val, by omega⟩)) fun j => v (ix3 0 j ⟨512 + l.val, by omega⟩) := by
  pointwise [k0_pay2, k0_pay3, k0_pay7, kernelRow, named_log2e, exp2_eq, ofBits_bot]

/-- and the fourth's. -/
theorem head3_at : k0_pay1 (F := Ideal) (k0_pay3 v) (k0_pay8 (k0_pay2 k) q) (ix2 r l)
    = kernelRow (fun j => ∑ d : Fin 256, q (ix2 r d) * k (ix3 0 j ⟨768 + d.val, by omega⟩)) fun j => v (ix3 0 j ⟨768 + l.val, by omega⟩) := by
  pointwise [k0_pay2, k0_pay3, k0_pay1, k0_pay8, kernelRow, named_log2e, exp2_eq, ofBits_bot]

end heads

variable (m : (ℓ : Loc nD τ sig) → Buf (Elt Ideal) ℓ) (c : Dev nD)

open Cert.MemAttRefIdeal.Value (attend exps scores dotAt attend_at) in
/-- What the body leaves in the output's block at a point, an element of the reference's result. -/
theorem point (hfin : ∀ r l j, dotAt (m ((c : Thread nD τ).loc main_arg0)) (m ((c : Thread nD τ).loc main_arg1)) r l j ≠ ⊤
      ∧ dotAt (m ((c : Thread nD τ).loc main_arg0)) (m ((c : Thread nD τ).loc main_arg1)) r l j ≠ ⊥) (t : Fin cfg0.N)
    (y : S4096x1024.Idx) (r : Fin 32768) (l : Fin 1024) (hr : r.val = t.val * 4096 + (y 0).val) (hl : l.val = (y 1).val) :
    out0_3 (F := Ideal) (iblk m c 0 t) (iblk m c 1 t) (iblk m c 2 t) y
      = attend (m ((c : Thread nD τ).loc main_arg2)) (exps (scores (m ((c : Thread nD τ).loc main_arg0)) (m ((c : Thread nD τ).loc main_arg1)))) (ix2 r l) := by
  rw [attend_at, ← rows_eq _ _ (hfin r l)]
  clear hfin
  unfold out0_3
  unfold k0_pay9 k0_pay10
  canon_tiles x h
  case piece0 =>
    obtain ⟨a, b, rfl⟩ : ∃ (a : Fin 4096) (b : Fin 256), x = ix2 a b := ⟨x 0, x 1, eq_ix2 x⟩
    simp only [ix2_0, ix2_1] at h0 h1
    refine (head3_at _ _ _ a b).trans (congrArg₂ kernelRow (funext fun j => ?_) (funext fun j => ?_))
    · unfold dotAt
      pointwise
      blk_point [iblk, V, idx t]
      all_goals omega
    · pointwise
      blk_point [iblk, V, idx t]
      all_goals omega
  case piece1 =>
    obtain ⟨a, b, rfl⟩ : ∃ (a : Fin 4096) (b : Fin 256), x = ix2 a b := ⟨x 0, x 1, eq_ix2 x⟩
    simp only [ix2_0, ix2_1] at h0 h1
    refine (head2_at _ _ _ a b).trans (congrArg₂ kernelRow (funext fun j => ?_) (funext fun j => ?_))
    · unfold dotAt
      pointwise
      blk_point [iblk, V, idx t]
      all_goals omega
    · pointwise
      blk_point [iblk, V, idx t]
      all_goals omega
  case piece2 =>
    obtain ⟨a, b, rfl⟩ : ∃ (a : Fin 4096) (b : Fin 256), x = ix2 a b := ⟨x 0, x 1, eq_ix2 x⟩
    simp only [ix2_0, ix2_1] at h0 h1
    refine (head1_at _ _ _ a b).trans (congrArg₂ kernelRow (funext fun j => ?_) (funext fun j => ?_))
    · unfold dotAt
      pointwise
      blk_point [iblk, V, idx t]
      all_goals omega
    · pointwise
      blk_point [iblk, V, idx t]
      all_goals omega
  case piece3 =>
    obtain ⟨a, b, rfl⟩ : ∃ (a : Fin 4096) (b : Fin 256), x = ix2 a b := ⟨x 0, x 1, eq_ix2 x⟩
    simp only [ix2_0, ix2_1] at h0 h1
    refine (head0_at _ _ _ a b).trans (congrArg₂ kernelRow (funext fun j => ?_) (funext fun j => ?_))
    · unfold dotAt
      pointwise
      blk_point [iblk, V, idx t]
      all_goals omega
    · pointwise
      blk_point [iblk, V, idx t]
      all_goals omega

/-- The scores are finite where the queries and the keys are. -/
theorem scores_finite (hpre : Cert.Pre_MemAttIdeal_finite_scores m) (r l j) :
    Cert.MemAttRefIdeal.Value.dotAt (m ((c : Thread nD τ).loc main_arg0)) (m ((c : Thread nD τ).loc main_arg1)) r l j ≠ ⊤
      ∧ Cert.MemAttRefIdeal.Value.dotAt (m ((c : Thread nD τ).loc main_arg0)) (m ((c : Thread nD τ).loc main_arg1)) r l j ≠ ⊥ := by
  obtain ⟨h0, h1⟩ := hpre c
  unfold Cert.Pre_finite_scores.fn at h0 h1
  refine sum_finite _ _ (fun d => finite_of _ ?_) (fun d => finite_of _ ?_)
  · have h := congrFun h0 (ix2 r ⟨l.val / 256 * 256 + d.val, by omega⟩)
    pointwise [ofBits_top] at h
    exact of_bit h
  · have h := congrFun h1 (ix3 ⟨r.val / 4096, by omega⟩ j ⟨l.val / 256 * 256 + d.val, by omega⟩)
    pointwise [ofBits_top] at h
    exact of_bit h

/-- The launch's result array is the reference's term. -/
theorem final3 (hpre : Cert.Pre_MemAttIdeal_finite_scores m) :
    (dats m 0 c).arrAt 3 cfg0.N = Cert.MemAttRefIdeal.Value.attend (m ((c : Thread nD τ).loc main_arg2)) (Cert.MemAttRefIdeal.Value.exps
      (Cert.MemAttRefIdeal.Value.scores (m ((c : Thread nD τ).loc main_arg0)) (m ((c : Thread nD τ).loc main_arg1)))) := by
  refine (dats m 0 c).arrAt_eq_of_covers 3 _ (by decide +kernel) fun t _ y => ?_
  blk_simp
  rw [after0_3]
  obtain ⟨i, j, hij⟩ : ∃ i j, ((cfg0.win 3).blk t).view.emb y = ix2 i j := ⟨_, _, eq_ix2 _⟩
  have hi := congrArg (fun x => (x 0).val) hij
  have hj := congrArg (fun x => (x 1).val) hij
  blk_simp [idx t] at hi hj
  refine Eq.trans ?_ (congrArg _ hij.symm)
  exact point m c (scores_finite m c hpre) t y i j hi.symm hj.symm

end Cert.MemAttIdeal.Value

namespace Cert.Proof

open Cert.MemAttIdeal Cert.MemAttIdeal.Gen Cert.MemAttIdeal.Value

/-- The kernel's launch leaves in its result the array the reference leaves in its own. -/
theorem algebraic_memAtt : Cert.algebraic_MemAttIdeal_MemAttRefIdeal_pre_finite_scores (hMemAttIdeal := Cert.MemAttIdeal.Gen.facts)
    (hMemAttRefIdeal := Cert.MemAttRefIdeal.Gen.facts) (hPre_finite_scores := Cert.Pre_finite_scores.Gen.facts) := by
  intro m g m' g' hpre hargs
  refine ⟨fun c => (dats m 0 c).arrAt 3 cfg0.N, Cert.MemAttIdeal.Value.run_blocks m g, ?_⟩
  refine (θ_run (Cert.MemAttRefIdeal.defs (F := Ideal)) _ _).mono (fun r h c => ?_) (Cert.MemAttRefIdeal.Value.run (F := Ideal) m' g')
  obtain ⟨hv, hk⟩ := h c
  refine ⟨hv.trans ?_, hk⟩
  obtain ⟨e0, e1, e2⟩ := hargs c
  rw [e0, e1, e2]
  exact (final3 m c hpre).symm

end Cert.Proof

end
-- ==== Proof.RowNorm.lean ====
/-
  The root-mean-square norm of one row of 2048 elements, as the kernels and the references both compute it.
-/
module

public import Idealize.ShloMosaic.Lib.Pipeline.ValueKit

@[expose] public section

noncomputable section

namespace Cert.Proof

open Idealize.ShloMosaic

/-- Element `l` of a row divided by the root of the mean of the row's squares plus the norm's ε, times a gain `g`. -/
def rowNorm (v : Fin 2048 → EReal) (g : EReal) (l : Fin 2048) : EReal :=
  v l * Ideal.rsqrt (Ideal.div (∑ a : Fin 2048, v a * v a) (Ideal.ofBits .f32 0x45000000#32) + Ideal.ofBits .f32 0x358637BD#32) * g

end Cert.Proof

end
-- ==== Proof.OutValue.lean ====
/-
  The value of the mixer's output projection: the kernel's result is the residual plus the normed product, the
  reference's term of the same arguments. One point stores 512 rows of the result.
-/
module

public import proofs.«01_k».proof.Defs
public import proofs.«01_k».proof.Proof.Gen.OutIdeal.Value
public import proofs.«01_k».proof.Proof.Gen.OutRefIdeal.Run
public import Idealize.ShloMosaic.Lib.Pipeline.ValueKit
public import Idealize.ShloMosaic.Lib.Claim
public import proofs.«01_k».proof.Proof.RowNorm

@[expose] public section

set_option maxRecDepth 16384

noncomputable section

open Idealize.ShloMosaic Idealize.ShloMosaic.TcCoe Idealize.SL.Sem
open Idealize.ShloMosaic.Pipeline (Dat)

namespace Cert.OutRefIdeal.Value

open Cert.OutRefIdeal Cert.OutRefIdeal.Gen Cert.Proof

/-- The reference's composed term. -/
def term (X0 : FVec Ideal S32768x2048 .bf16) (X1 : FVec Ideal S2048x2048 .bf16) (X2 : FVec Ideal S32768x2048 .f32)
    (X3 : FVec Ideal S1x2048 .f32) : FVec Ideal S32768x2048 .f32 :=
  addf X2 (mulf (mulf (Host.dotGeneral dot_S32768x2048_S2048x2048_S32768x2048_1_0_0_1_n_n none (extf .f32 X0 bitsLt_bf16_f32) (extf .f32 X1 bitsLt_bf16_f32)) (broadcastInDim S32768x2048 ![0, 1] bcast_S32768x1_S32768x2048_0_1 (Host.rsqrt (addf (Host.divf (broadcastInDim S32768x1 ![0] bcast_S32768_S32768x1_0 (Host.reduceAdd (mulf (Host.dotGeneral dot_S32768x2048_S2048x2048_S32768x2048_1_0_0_1_n_n none (extf .f32 X0 bitsLt_bf16_f32) (extf .f32 X1 bitsLt_bf16_f32)) (Host.dotGeneral dot_S32768x2048_S2048x2048_S32768x2048_1_0_0_1_n_n none (extf .f32 X0 bitsLt_bf16_f32) (extf .f32 X1 bitsLt_bf16_f32))) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ X3 shapeCasts_S1x2048_S2048))))

/-- An element of it. -/
theorem term_at (X0 : FVec Ideal S32768x2048 .bf16) (X1 : FVec Ideal S2048x2048 .bf16) (X2 : FVec Ideal S32768x2048 .f32)
    (X3 : FVec Ideal S1x2048 .f32) (r : Fin 32768) (l : Fin 2048) : term X0 X1 X2 X3 (ix2 r l)
      = X2 (ix2 r l) + rowNorm (fun j => ∑ k : Fin 2048, X0 (ix2 r k) * X1 (ix2 k j)) (X3 (ix2 0 l)) l := by
  pointwise [term, rowNorm]

end Cert.OutRefIdeal.Value

namespace Cert.OutIdeal.Value

open Cert.OutIdeal Cert.OutIdeal.Gen Cert.Proof

/-- Where each window's block sits, at every one of the 64 points. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, _)

/-- An element of the block that the body stores. -/
theorem pay_at (h : FVec Ideal S512x2048 .f32) (x : FVec Ideal S512x2048 .bf16) (w : FVec Ideal S2048x2048 .bf16)
    (g : FVec Ideal S1x2048 .f32) (r : Fin 512) (l : Fin 2048) : k0_pay1 (F := Ideal) h x w g (ix2 r l)
      = h (ix2 r l) + rowNorm (fun j => ∑ k : Fin 2048, x (ix2 r k) * w (ix2 k j)) (g (ix2 0 l)) l := by
  pointwise [k0_pay1, rowNorm]

variable (m : (ℓ : Loc nD τ sig) → Buf (Elt Ideal) ℓ) (c : Dev nD)

theorem final : (dats m 0 c).arrAt 4 cfg0.N = Cert.OutRefIdeal.Value.term (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  obtain ⟨r, l, rfl⟩ : ∃ (r : Fin 512) (l : Fin 2048), y = ix2 r l := ⟨y 0, y 1, eq_ix2 y⟩
  refine (pay_at _ _ _ _ r l).trans ?_
  obtain ⟨i, j, hij⟩ : ∃ (i : Fin 32768) (j : Fin 2048), ((cfg0.win 4).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  rw [Cert.OutRefIdeal.Value.term_at]
  obtain rfl : l = j := Fin.ext (by omega)
  have e0 : ∀ k : Fin 2048, iblk m c 0 t (ix2 r k) = m ((c : Thread nD τ).loc main_arg0) (ix2 i k) := fun k => by
    blk_point [iblk, V, idx t]
  have e1 : ∀ k j : Fin 2048, iblk m c 1 t (ix2 k j) = m ((c : Thread nD τ).loc main_arg1) (ix2 k j) := fun k j => by
    blk_point [iblk, V, idx t]
  have e2 : iblk m c 2 t (ix2 r l) = m ((c : Thread nD τ).loc main_arg2) (ix2 i l) := by
    blk_point [iblk, V, idx t]
  have e3 : iblk m c 3 t (ix2 0 l) = m ((c : Thread nD τ).loc main_arg3) (ix2 0 l) := by
    blk_point [iblk, V, idx t]
  rw [e2, e3]
  simp only [e0, e1]

end Cert.OutIdeal.Value

namespace Cert.Proof

open Cert.OutIdeal Cert.OutIdeal.Gen Cert.OutIdeal.Value

theorem algebraic_out : Cert.algebraic_OutIdeal_OutRefIdeal (hOutIdeal := Cert.OutIdeal.Gen.facts)
    (hOutRefIdeal := Cert.OutRefIdeal.Gen.facts) := by
  intro m g m' g' _ hargs
  refine ⟨fun c => (dats m 0 c).arrAt 4 cfg0.N, Cert.OutIdeal.Value.run_blocks m g, ?_⟩
  refine (θ_run (Cert.OutRefIdeal.defs (F := Ideal)) _ _).mono (fun r h c => ?_) (Cert.OutRefIdeal.Value.run (F := Ideal) m' g')
  obtain ⟨hv, hk⟩ := h c
  obtain ⟨e0, e1, e2, e3⟩ := hargs c
  refine ⟨hv.trans ?_, hk⟩
  rw [e0, e1, e2, e3]; exact (final m c).symm

end Cert.Proof

end
-- ==== Proof.FfnTwoRun.lean ====
/- The feed-forward kernel's body run symbolically, in each of the five cases that its conditions on the grid point leave. -/
module

public import proofs.«01_k».proof.Proof.Gen.FfnTwoIdeal.Skeleton
public import proofs.«01_k».proof.Proof.Gen.FfnTwoIdeal.Frame
public import Idealize.ShloMosaic.Lib.VecWindow

@[expose] public section

set_option maxRecDepth 16384

noncomputable section

namespace Cert.FfnTwoIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.FfnTwoIdeal.Gen

variable {F : FTy → Type} [FloatOps F]

local notation "𝕄" => MT nD τ sig Unit (Elt F) ℕ (UR sig nD τ) ℕ

/-- The body's first condition: both coordinates are 0. -/
abbrev cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32))) 0#32

/-- The first of the 128 rows that the body works on at a grid point. -/
abbrev row (i : grid0.Coords) : Fin 2 → ℕ := ![128 * min (i 1).val 7, 0]

theorem row_inb (i : grid0.Coords) (a : Fin 2) : row i a + S128x2048.size a ≤ S1024x2048.size a := by
  fin_cases a
  · show 128 * min (i 1).val 7 + 128 ≤ 1024
    omega
  · exact (by decide : 0 + 2048 ≤ 2048)

/-- Those 128 rows of a tile. -/
def rows {e : EltTy} (i : grid0.Coords) (s : Vec F S1024x2048 e) : Vec F S128x2048 e :=
  VecWindow.window s (row i) S128x2048.size (row_inb i)

/-- The tile with those 128 rows replaced. -/
def setRows {e : EltTy} (i : grid0.Coords) (s : Vec F S1024x2048 e) (p : Vec F S128x2048 e) : Vec F S1024x2048 e :=
  VecWindow.put s (row i) S128x2048.size p

/-- What one point does to the output's block and to the four scratch tiles, in the five cases its conditions leave. -/
inductive Step (i : grid0.Coords) (hp hn : Vec F S128x2048 .f32) (gpre gpost : Vec F S1x2048 .f32)
    (wg wu : Vec F S2048x512 .bf16) (wd : Vec F S512x2048 .bf16)
    (o : Vec F S128x2048 .f32) (x0 x1 : Vec F S1024x2048 .bf16) (a0 a1 : Vec F S1024x2048 .f32) :
    Vec F S128x2048 .f32 → Vec F S1024x2048 .bf16 → Vec F S1024x2048 .bf16 → Vec F S1024x2048 .f32 → Vec F S1024x2048 .f32 → Prop
  | start (h1 : cond1 i = 1#1) (h2 : k0_cond2 i = 1#1) (h3 : ¬ k0_cond3 i = 1#1) (h4 : ¬ k0_cond4 i = 1#1) (h5 : ¬ k0_cond5 i = 1#1) :
    Step i hp hn gpre gpost wg wu wd o x0 x1 a0 a1 o (setRows i x0 (k0_pay2 hn gpre)) x1 a0 k0_pay1
  | first (h1 : ¬ cond1 i = 1#1) (h2 : k0_cond2 i = 1#1) (h3 : ¬ k0_cond3 i = 1#1) (h4 : ¬ k0_cond4 i = 1#1) (h5 : ¬ k0_cond5 i = 1#1) :
    Step i hp hn gpre gpost wg wu wd o x0 x1 a0 a1 o (setRows i x0 (k0_pay2 hn gpre)) x1 a0 a1
  | even (h1 : ¬ cond1 i = 1#1) (h2 : ¬ k0_cond2 i = 1#1) (h3 : k0_cond3 i = 1#1) (h4 : ¬ k0_cond4 i = 1#1) (h5 : ¬ k0_cond5 i = 1#1) :
    Step i hp hn gpre gpost wg wu wd o x0 x1 a0 a1 (k0_pay6 hp (rows i a0) gpost) (setRows i x0 (k0_pay7 hn gpre)) x1 a0
      (k0_pay3 i x1 wg wu wd a1)
  | odd (h1 : ¬ cond1 i = 1#1) (h2 : ¬ k0_cond2 i = 1#1) (h3 : ¬ k0_cond3 i = 1#1) (h4 : k0_cond4 i = 1#1) (h5 : ¬ k0_cond5 i = 1#1) :
    Step i hp hn gpre gpost wg wu wd o x0 x1 a0 a1 (k0_pay8 hp (rows i a1) gpost) x0 (setRows i x1 (k0_pay9 hn gpre))
      (k0_pay4 i x0 wg wu wd a0) a1
  | last (h1 : ¬ cond1 i = 1#1) (h2 : ¬ k0_cond2 i = 1#1) (h3 : ¬ k0_cond3 i = 1#1) (h4 : ¬ k0_cond4 i = 1#1) (h5 : k0_cond5 i = 1#1) :
    Step i hp hn gpre gpost wg wu wd o x0 x1 a0 a1 (k0_pay5 hp (rows i a1) gpost) x0 x1 a0 a1

/-- A load of a whole buffer at its own sizes reads what it holds. -/
theorem load_full {s : Shape} {e : EltTy} {m : Memref sig .tc .vmem s e} (hm : m.IsWhole) (x : Vec F s e) {off : Fin s.rank → ℕ}
    (inb : ∀ a, off a + s.size a ≤ s.size a) :
    m.view.readAt (Elt F) (Rect.unit off s.size inb).toLoadRect (hm.unread x) = x :=
  (View.readAt_full _ _ inb).trans (hm.read_unread x)

/-- A load of the point's 128 rows of a whole tile. -/
theorem load_rows {e : EltTy} {m : Memref sig .tc .vmem S1024x2048 e} (hm : m.IsWhole) (i : grid0.Coords) (x : Vec F S1024x2048 e)
    {off : Fin 2 → ℕ} (inb : ∀ a, off a + S128x2048.size a ≤ S1024x2048.size a) (h : off = row i) :
    m.view.readAt (Elt F) (Rect.unit (s := S1024x2048) off S128x2048.size inb).toLoadRect (hm.unread x) = rows i x :=
  (View.readAt_unit m.view (hm.unread x) inb h (row_inb i)).trans
    (by rw [hm.read_unread]; rfl)

/-- A store to the point's 128 rows of a whole tile. -/
theorem store_rows {e : EltTy} {m : Memref sig .tc .vmem S1024x2048 e} (hm : m.IsWhole) (i : grid0.Coords) (x : Vec F S1024x2048 e)
    {off : Fin 2 → ℕ} (inb : ∀ a, off a + S128x2048.size a ≤ S1024x2048.size a) (h : off = row i) (w : Vec F S128x2048 e) :
    m.view.read (Elt F) (m.view.writes (Elt F) (hm.unread x) [⟨Rect.unit (s := S1024x2048) off S128x2048.size inb, w⟩]) = setRows i x w :=
  (View.read_writes_cons_put m.view (hm.unread x) inb w [] h).trans
    (by rw [View.writes_nil, hm.read_unread]; rfl)

section Run

variable (c : Dev nD) (i : grid0.Coords) (arg2 : Memref sig .tc .vmem S128x2048 .f32) (harg2 : arg2.IsWhole)
  (arg3 : Memref sig .tc .vmem S128x2048 .f32) (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S2048x512 .bf16) (harg6 : arg6.IsWhole)
  (arg7 : Memref sig .tc .vmem S2048x512 .bf16) (harg7 : arg7.IsWhole) (arg8 : Memref sig .tc .vmem S512x2048 .bf16) (harg8 : arg8.IsWhole)
  (arg9 : Memref sig .tc .vmem S128x2048 .f32) (harg9 : arg9.IsWhole) (arg10 : Memref sig .tc .vmem S1024x2048 .bf16) (harg10 : arg10.IsWhole)
  (arg11 : Memref sig .tc .vmem S1024x2048 .bf16) (harg11 : arg11.IsWhole) (arg12 : Memref sig .tc .vmem S1024x2048 .f32) (harg12 : arg12.IsWhole)
  (arg13 : Memref sig .tc .vmem S1024x2048 .f32) (harg13 : arg13.IsWhole)
  (hp hn : Vec F S128x2048 .f32) (gpre gpost : Vec F S1x2048 .f32) (wg wu : Vec F S2048x512 .bf16) (wd : Vec F S512x2048 .bf16)
  (o : Vec F S128x2048 .f32) (x0 x1 : Vec F S1024x2048 .bf16) (a0 a1 : Vec F S1024x2048 .f32)

/-- The twelve buffers, the first seven at the blocks, the others at what is given. -/
def bufs (o : Vec F S128x2048 .f32) (x0 x1 : Vec F S1024x2048 .bf16) (a0 a1 : Vec F S1024x2048 .f32) : sProp 𝕄 :=
  iprop(owns (c : Thread nD τ) arg2 fullShare hp ∗ owns (c : Thread nD τ) arg3 fullShare hn ∗ owns (c : Thread nD τ) arg4 fullShare gpre
    ∗ owns (c : Thread nD τ) arg5 fullShare gpost ∗ owns (c : Thread nD τ) arg6 fullShare wg ∗ owns (c : Thread nD τ) arg7 fullShare wu
    ∗ owns (c : Thread nD τ) arg8 fullShare wd ∗ owns (c : Thread nD τ) arg9 fullShare o ∗ owns (c : Thread nD τ) arg10 fullShare x0
    ∗ owns (c : Thread nD τ) arg11 fullShare x1 ∗ owns (c : Thread nD τ) arg12 fullShare a0 ∗ owns (c : Thread nD τ) arg13 fullShare a1)

set_option maxHeartbeats 8000000 in
/-- The body carries the twelve buffers through the point's step. -/
theorem run (o' : Vec F S128x2048 .f32) (x0' x1' : Vec F S1024x2048 .bf16) (a0' a1' : Vec F S1024x2048 .f32)
    (hs : Step i hp hn gpre gpost wg wu wd o x0 x1 a0 a1 o' x0' x1' a0' a1') (E : Set ℕ) (K : PUnit → sProp 𝕄) :
    iprop(bufs c arg2 arg3 arg4 arg5 arg6 arg7 arg8 arg9 arg10 arg11 arg12 arg13 hp hn gpre gpost wg wu wd o x0 x1 a0 a1
      ∗ (bufs c arg2 arg3 arg4 arg5 arg6 arg7 arg8 arg9 arg10 arg11 arg12 arg13 hp hn gpre gpost wg wu wd o' x0' x1' a0' a1' -∗ K ⟨⟩))
      ⊢ wp frame (wpE (defs₀ (F := F)) Variants.none c none) E
          (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  simp only [k0_part1_eq_skeleton, k0_part2_eq_skeleton]
  unfold bufs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  cases hs with
  | start h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact (store_rows harg10 i _ _ (k0_off1_eq i) _).trans (congrArg (setRows i _) (congr (congrArg _ (load_full harg3 _ _)) (load_full harg4 _ _)))
    isplitl [H11]
    · iexists _; isplitr; swap; · iexact H11
      ipureintro; exact harg11.read_unread _
    isplitl [H12]
    · iexists _; isplitr; swap; · iexact H12
      ipureintro; exact harg12.read_unread _
    iexists _; isplitr; swap; · iexact H13
    ipureintro; exact View.read_writes_full _ _ _ _ _
  | first h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact (store_rows harg10 i _ _ (k0_off1_eq i) _).trans (congrArg (setRows i _) (congr (congrArg _ (load_full harg3 _ _)) (load_full harg4 _ _)))
    isplitl [H11]
    · iexists _; isplitr; swap; · iexact H11
      ipureintro; exact harg11.read_unread _
    isplitl [H12]
    · iexists _; isplitr; swap; · iexact H12
      ipureintro; exact harg12.read_unread _
    iexists _; isplitr; swap; · iexact H13
    ipureintro; exact harg13.read_unread _
  | even h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; refine (View.read_writes_full _ _ _ _ _).trans ?_; congr 1 <;> first | exact load_full harg2 _ _ | exact load_rows harg12 i _ _ (k0_off2_eq i) | exact load_full harg5 _ _
    isplitl [H10]
    · iexists _; isplitr; swap; · iexact H10
      ipureintro; exact (store_rows harg10 i _ _ (k0_off2_eq i) _).trans (congrArg (setRows i _) (congr (congrArg _ (load_full harg3 _ _)) (load_full harg4 _ _)))
    isplitl [H11]
    · iexists _; isplitr; swap; · iexact H11
      ipureintro; exact harg11.read_unread _
    isplitl [H12]
    · iexists _; isplitr; swap; · iexact H12
      ipureintro; exact harg12.read_unread _
    iexists _; isplitr; swap; · iexact H13
    ipureintro; refine (View.read_writes_full _ _ _ _ _).trans ?_; congr 1 <;> first | exact load_full harg11 _ _ | exact load_full harg6 _ _ | exact load_full harg7 _ _ | exact load_full harg8 _ _ | exact load_full harg13 _ _
  | odd h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; refine (View.read_writes_full _ _ _ _ _).trans ?_; congr 1 <;> first | exact load_full harg2 _ _ | exact load_rows harg13 i _ _ (k0_off3_eq i) | exact load_full harg5 _ _
    isplitl [H10]
    · iexists _; isplitr; swap; · iexact H10
      ipureintro; exact harg10.read_unread _
    isplitl [H11]
    · iexists _; isplitr; swap; · iexact H11
      ipureintro; exact (store_rows harg11 i _ _ (k0_off3_eq i) _).trans (congrArg (setRows i _) (congr (congrArg _ (load_full harg3 _ _)) (load_full harg4 _ _)))
    isplitl [H12]
    · iexists _; isplitr; swap; · iexact H12
      ipureintro; refine (View.read_writes_full _ _ _ _ _).trans ?_; congr 1 <;> first | exact load_full harg10 _ _ | exact load_full harg6 _ _ | exact load_full harg7 _ _ | exact load_full harg8 _ _ | exact load_full harg12 _ _
    iexists _; isplitr; swap; · iexact H13
    ipureintro; exact harg13.read_unread _
  | last h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; refine (View.read_writes_full _ _ _ _ _).trans ?_; congr 1 <;> first | exact load_full harg2 _ _ | exact load_rows harg13 i _ _ (k0_off4_eq i) | exact load_full harg5 _ _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    iexists _; isplitr; swap; · iexact H13
    ipureintro; exact harg13.read_unread _

end Run

end Cert.FfnTwoIdeal.Body
-- ==== Proof.FfnTwoBody.lean ====
/- The feed-forward kernel's launch: its body's step at every grid point, put under the pipeline's rule with an invariant on the
   four scratch tiles and a relation on what each point leaves in the output's block. -/
module

public import proofs.«01_k».proof.Proof.FfnTwoRun
public import Idealize.ShloMosaic.Lib.Pipeline.ArrRel

@[expose] public section

set_option maxRecDepth 16384

noncomputable section

namespace Cert.FfnTwoIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.FfnTwoIdeal.Gen

variable {F : FTy → Type} [FloatOps F]

local notation "𝕄" => MT nD τ sig Unit (Elt F) ℕ (UR sig nD τ) ℕ

/-- The grid's coordinates at a point, and which of the body's five cases the point takes. -/
theorem point_cases : ∀ t : Fin cfg0.N, ((grid0.coords t) 0).val = t.val / 11 ∧ ((grid0.coords t) 1).val = t.val % 11 ∧
    ((t.val = 0 ∧ cond1 (grid0.coords t) = 1#1 ∧ k0_cond2 (grid0.coords t) = 1#1 ∧ ¬ k0_cond3 (grid0.coords t) = 1#1
        ∧ ¬ k0_cond4 (grid0.coords t) = 1#1 ∧ ¬ k0_cond5 (grid0.coords t) = 1#1)
      ∨ (0 < t.val ∧ t.val < 11 ∧ ¬ cond1 (grid0.coords t) = 1#1 ∧ k0_cond2 (grid0.coords t) = 1#1 ∧ ¬ k0_cond3 (grid0.coords t) = 1#1
        ∧ ¬ k0_cond4 (grid0.coords t) = 1#1 ∧ ¬ k0_cond5 (grid0.coords t) = 1#1)
      ∨ (11 ≤ t.val ∧ t.val < 363 ∧ t.val / 11 % 2 = 0 ∧ ¬ cond1 (grid0.coords t) = 1#1 ∧ ¬ k0_cond2 (grid0.coords t) = 1#1
        ∧ k0_cond3 (grid0.coords t) = 1#1 ∧ ¬ k0_cond4 (grid0.coords t) = 1#1 ∧ ¬ k0_cond5 (grid0.coords t) = 1#1)
      ∨ (11 ≤ t.val ∧ t.val < 363 ∧ t.val / 11 % 2 = 1 ∧ ¬ cond1 (grid0.coords t) = 1#1 ∧ ¬ k0_cond2 (grid0.coords t) = 1#1
        ∧ ¬ k0_cond3 (grid0.coords t) = 1#1 ∧ k0_cond4 (grid0.coords t) = 1#1 ∧ ¬ k0_cond5 (grid0.coords t) = 1#1)
      ∨ (363 ≤ t.val ∧ ¬ cond1 (grid0.coords t) = 1#1 ∧ ¬ k0_cond2 (grid0.coords t) = 1#1
        ∧ ¬ k0_cond3 (grid0.coords t) = 1#1 ∧ ¬ k0_cond4 (grid0.coords t) = 1#1 ∧ k0_cond5 (grid0.coords t) = 1#1)) :=
  (by decide +kernel : ∀ t : Fin grid0.N, _)

/-- Some step is taken at every point. -/
theorem step_exists (t : Fin cfg0.N) (hp hn : Vec F S128x2048 .f32) (gpre gpost : Vec F S1x2048 .f32)
    (wg wu : Vec F S2048x512 .bf16) (wd : Vec F S512x2048 .bf16)
    (o : Vec F S128x2048 .f32) (x0 x1 : Vec F S1024x2048 .bf16) (a0 a1 : Vec F S1024x2048 .f32) :
    ∃ o' x0' x1' a0' a1', Step (grid0.coords t) hp hn gpre gpost wg wu wd o x0 x1 a0 a1 o' x0' x1' a0' a1' := by
  obtain ⟨-, -, h⟩ := point_cases t
  rcases h with ⟨-, h1, h2, h3, h4, h5⟩ | ⟨-, -, h1, h2, h3, h4, h5⟩ | ⟨-, -, -, h1, h2, h3, h4, h5⟩ | ⟨-, -, -, h1, h2, h3, h4, h5⟩ | ⟨-, h1, h2, h3, h4, h5⟩
  · exact ⟨_, _, _, _, _, .start h1 h2 h3 h4 h5⟩
  · exact ⟨_, _, _, _, _, .first h1 h2 h3 h4 h5⟩
  · exact ⟨_, _, _, _, _, .even h1 h2 h3 h4 h5⟩
  · exact ⟨_, _, _, _, _, .odd h1 h2 h3 h4 h5⟩
  · exact ⟨_, _, _, _, _, .last h1 h2 h3 h4 h5⟩

/-- What the proof tracks: of the scratch tiles before a point, and of an output's block after a point. -/
structure Track (F : FTy → Type) where
  inv : ℕ → Vec F S1024x2048 .bf16 → Vec F S1024x2048 .bf16 → Vec F S1024x2048 .f32 → Vec F S1024x2048 .f32 → Prop
  out : Fin cfg0.N → Vec F S128x2048 .f32 → Prop

variable (m : (ℓ : Loc nD τ sig) → Buf (Elt F) ℓ) (ρ : Dev nD → PrngReg) (T : Dev nD → Track F)

/-- The tracked facts hold at the launch and every step keeps them. -/
structure Keeps (c : Dev nD) : Prop where
  init : ∀ x0 x1 a0 a1, (T c).inv 0 x0 x1 a0 a1
  step : ∀ (t : Fin cfg0.N) o x0 x1 a0 a1 o' x0' x1' a0' a1', (T c).inv t.val x0 x1 a0 a1 →
    Step (grid0.coords t) (iblk m c 0 t) (iblk m c 1 t) (iblk m c 2 t) (iblk m c 3 t) (iblk m c 4 t) (iblk m c 5 t) (iblk m c 6 t)
      o x0 x1 a0 a1 o' x0' x1' a0' a1' → (T c).inv (t.val + 1) x0' x1' a0' a1' ∧ (T c).out t o'

/-- The four scratch buffers. -/
abbrev scr0 : Memref sig .tc .vmem S1024x2048 .bf16 := Memref.whole cc0_scratch0
abbrev scr1 : Memref sig .tc .vmem S1024x2048 .bf16 := Memref.whole cc0_scratch1
abbrev scr2 : Memref sig .tc .vmem S1024x2048 .f32 := Memref.whole cc0_scratch2
abbrev scr3 : Memref sig .tc .vmem S1024x2048 .f32 := Memref.whole cc0_scratch3

/-- What a point leaves in a window's buffer: an input's block as found, the output's block as tracked. -/
def left (c : Dev nD) : (w : Fin cfg0.W) → Fin cfg0.N → (Y X : (cfg0.win w).block.Idx → Elt F (cfg0.win w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, t, _, X => (T c).out t X

/-- The relational proof data of the one region. -/
def rdat (c : Dev nD) : RDat τ (Elt F) Unit ℕ (UR sig nD τ) ℕ cfg0 c where
  A w := V m c (Pipeline.arrRef spec0 w)
  after := left T c
  Φ t := iprop((∃ x0 x1 a0 a1, ⌜(T c).inv t.val x0 x1 a0 a1⌝ ∗ owns (c : Thread nD τ) scr0 fullShare x0 ∗ owns (c : Thread nD τ) scr1 fullShare x1
    ∗ owns (c : Thread nD τ) scr2 fullShare a0 ∗ owns (c : Thread nD τ) scr3 fullShare a1) ∗ ∃ r, prngReg c r)
  q w := Pipeline.shareOf spec0 w
  owed _ := 0

theorem finds0 (c : Dev nD) (t : Fin cfg0.N) (Y) (h : (rdat m T c).Finds 0 t Y) : Y = iblk m c 0 t := by
  obtain ⟨d, rfl⟩ := (rdat m T c).finds_in_eq_fetched 0 rfl (fun _ _ _ => rfl) (fun _ _ _ h => h) t Y h
  unfold RDat.fetched RDat.blockOf iblk; rfl
theorem finds1 (c : Dev nD) (t : Fin cfg0.N) (Y) (h : (rdat m T c).Finds 1 t Y) : Y = iblk m c 1 t := by
  obtain ⟨d, rfl⟩ := (rdat m T c).finds_in_eq_fetched 1 rfl (fun _ _ _ => rfl) (fun _ _ _ h => h) t Y h
  unfold RDat.fetched RDat.blockOf iblk; rfl
theorem finds2 (c : Dev nD) (t : Fin cfg0.N) (Y) (h : (rdat m T c).Finds 2 t Y) : Y = iblk m c 2 t := by
  obtain ⟨d, rfl⟩ := (rdat m T c).finds_in_eq_fetched 2 rfl (fun _ _ _ => rfl) (fun _ _ _ h => h) t Y h
  unfold RDat.fetched RDat.blockOf iblk; rfl
theorem finds3 (c : Dev nD) (t : Fin cfg0.N) (Y) (h : (rdat m T c).Finds 3 t Y) : Y = iblk m c 3 t := by
  obtain ⟨d, rfl⟩ := (rdat m T c).finds_in_eq_fetched 3 rfl (fun _ _ _ => rfl) (fun _ _ _ h => h) t Y h
  unfold RDat.fetched RDat.blockOf iblk; rfl
theorem finds4 (c : Dev nD) (t : Fin cfg0.N) (Y) (h : (rdat m T c).Finds 4 t Y) : Y = iblk m c 4 t := by
  obtain ⟨d, rfl⟩ := (rdat m T c).finds_in_eq_fetched 4 rfl (fun _ _ _ => rfl) (fun _ _ _ h => h) t Y h
  unfold RDat.fetched RDat.blockOf iblk; rfl
theorem finds5 (c : Dev nD) (t : Fin cfg0.N) (Y) (h : (rdat m T c).Finds 5 t Y) : Y = iblk m c 5 t := by
  obtain ⟨d, rfl⟩ := (rdat m T c).finds_in_eq_fetched 5 rfl (fun _ _ _ => rfl) (fun _ _ _ h => h) t Y h
  unfold RDat.fetched RDat.blockOf iblk; rfl
theorem finds6 (c : Dev nD) (t : Fin cfg0.N) (Y) (h : (rdat m T c).Finds 6 t Y) : Y = iblk m c 6 t := by
  obtain ⟨d, rfl⟩ := (rdat m T c).finds_in_eq_fetched 6 rfl (fun _ _ _ => rfl) (fun _ _ _ h => h) t Y h
  unfold RDat.fetched RDat.blockOf iblk; rfl

/-- The body table's row at a point is the body. -/
theorem body_row (t : Fin cfg0.N) : defs₀ (F := F) .tc cfg0.body (cfg0.bodyArgs t (cfg0.slots t)) = bodyAt0 t := by
  unfold defs₀; rw [Defs.onTc_tc]

set_option maxHeartbeats 1600000 in
theorem body_obligation (c : Dev nD) (hT : Keeps m T c) :
    (rdat (F := F) m T c).BodyObligation (defs₀ (F := F)) Variants.none () Set.univ := by
  intro t Y hY
  rw [bigSep_W0, bigSep_W0, body_row]
  have e0 := finds0 m T c t _ (hY 0)
  have e1 := finds1 m T c t _ (hY 1)
  have e2 := finds2 m T c t _ (hY 2)
  have e3 := finds3 m T c t _ (hY 3)
  have e4 := finds4 m T c t _ (hY 4)
  have e5 := finds5 m T c t _ (hY 5)
  have e6 := finds6 m T c t _ (hY 6)
  rw [show (rdat m T c).owesAt () t.succ = (rdat m T c).owesAt () t.castSucc from rfl]
  unfold bodyAt0
  rw [e0, e1, e2, e3, e4, e5, e6]
  unfold rdat; dsimp only
  iintro ⟨⟨⟨%x0, %x1, %a0, %a1, %hi, S0, S1, S2, S3⟩, Hg⟩, Ho, H0, H1, H2, H3, H4, H5, H6, H7⟩
  obtain ⟨o', x0', x1', a0', a1', hs⟩ := step_exists t (iblk m c 0 t) (iblk m c 1 t) (iblk m c 2 t) (iblk m c 3 t) (iblk m c 4 t)
    (iblk m c 5 t) (iblk m c 6 t) (Y 7) x0 x1 a0 a1
  obtain ⟨hi', ho'⟩ := hT.step t _ _ _ _ _ _ _ _ _ _ hi hs
  iapply (run c (grid0.coords t) _ _ _ _ _ _ _ _ _ _ _ _ _ _ _ _ _ _ _ _ _ _ _ _ _ _ _ _ _ _ _ _ _ _ _ _ _ _ _ _ _ hs Set.univ _)
  unfold bufs
  isplitl [S0 S1 S2 S3 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iexact S3
  iintro ⟨H0, H1, H2, H3, H4, H5, H6, H7, S0, S1, S2, S3⟩
  isplitl [S0 S1 S2 S3 Hg]
  · isplitl [S0 S1 S2 S3]
    · iexists x0'; iexists x1'; iexists a0'; iexists a1'
      isplitr; · ipureintro; exact hi'
      isplitl [S0]; · iexact S0
      isplitl [S1]; · iexact S1
      isplitl [S2]; · iexact S2
      iexact S3
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro; exact ho'

/-- The scratch tiles and the generator's register, as the launch hands them over. -/
theorem scratch_eq (c : Dev nD) : (Pipeline.ΦA spec0 c : sProp 𝕄)
    = iprop(((∃ x, owns (c : Thread nD τ) scr0 fullShare x) ∗ (∃ x, owns (c : Thread nD τ) scr1 fullShare x)
      ∗ (∃ x, owns (c : Thread nD τ) scr2 fullShare x) ∗ (∃ x, owns (c : Thread nD τ) scr3 fullShare x)) ∗ ∃ r, prngReg c r) := by
  unfold Pipeline.ΦA; rw [scopedRest0_eq]; simp only [scr0, scr1, scr2, scr3, owns_whole]; rfl

theorem scratch_in (c : Dev nD) (hT : Keeps m T c) : Pipeline.ΦA spec0 c ⊢ (rdat (F := F) m T c).Φ 0 := by
  rw [scratch_eq]; unfold rdat; dsimp only
  iintro ⟨⟨⟨%x0, S0⟩, ⟨%x1, S1⟩, ⟨%a0, S2⟩, ⟨%a1, S3⟩⟩, Hg⟩
  isplitl [S0 S1 S2 S3]
  · iexists x0; iexists x1; iexists a0; iexists a1
    isplitr; · ipureintro; exact hT.init _ _ _ _
    isplitl [S0]; · iexact S0
    isplitl [S1]; · iexact S1
    isplitl [S2]; · iexact S2
    iexact S3
  iexact Hg

theorem scratch_out (c : Dev nD) : (rdat (F := F) m T c).Φ (Fin.last cfg0.N) ⊢ Pipeline.ΦA spec0 c := by
  rw [scratch_eq]; unfold rdat; dsimp only
  iintro ⟨⟨%x0, %x1, %a0, %a1, -, S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The launch with what is tracked: every weakly fair execution ends, the arrays as the proof data say and the counters at zero. -/
theorem run_main (hT : ∀ c, Keeps m T c) : θ_run defs (onTc (τ := τ) (main (F := F))) (s₀ m ρ)
    (fun r => RDat.FramePost cfg0 (rdat m T) (V m) r ∧ r.2.sem = fun _ => 0) :=
  RDat.θ_run_frame_track_shared (Q' := _) cfgs (0 : Fin 1) launch₀0 defs₀ Variants.none (rdat m T) m ρ main
    (fun c => body_obligation m T c (hT c)) (fun _ _ _ => rfl) (fun _ _ => rfl) (V m) (hmain m Variants.none) (fun _ _ => rfl)
    (fun c => scratch_in m T c (hT c)) (fun c => scratch_out m T c) (fun _ h => h)

/-- Nothing tracked. -/
def noTrack (F : FTy → Type) : Track F := ⟨fun _ _ _ _ _ => True, fun _ _ => True⟩

/-- The frame: every weakly fair execution ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨h.1.arr_in c 1 rfl, h.1.arr_in c 2 rfl, h.1.arr_in c 3 rfl, h.1.arr_in c 4 rfl,
      h.1.arr_in c 5 rfl, h.1.arr_in c 6 rfl⟩, h.2⟩)
    (run_main m ρ (fun _ => noTrack F) fun c => ⟨fun _ _ _ _ => trivial, fun _ _ _ _ _ _ _ _ _ _ _ _ _ => ⟨trivial, trivial⟩⟩)

end Cert.FfnTwoIdeal.Body
-- ==== Proof.FfnMath.lean ====
/-
  The feed-forward block as mathematics of its arguments, and the bookkeeping of the kernel's pipeline over row tiles:
  while tile `r` is being normed, the products of tile `r - 1` are summed chunk by chunk and tile `r - 2` is finished.
  Both feed-forward kernels are read through this module.
-/
module

public import proofs.«01_k».proof.Proof.RowNorm
public import Idealize.ShloMosaic.Lib.Pointwise.Sums

@[expose] public section

noncomputable section

namespace Cert.Proof

open Idealize.ShloMosaic

/-- The arguments of a feed-forward block: the rows, the two gains and the three weights. -/
structure Ffn where
  h : ℕ → Fin 2048 → EReal
  pre : Fin 2048 → EReal
  post : Fin 2048 → EReal
  gate : Fin 2048 → ℕ → EReal
  up : Fin 2048 → ℕ → EReal
  down : ℕ → Fin 2048 → EReal

namespace Ffn

variable (A : Ffn)

/-- The normed row that the block's products take. -/
def xn (i : ℕ) (l : Fin 2048) : EReal := rowNorm (A.h i) (A.pre l) l

/-- The hidden activation of column `j`: the gate's product through silu, times the up product. -/
def act (i j : ℕ) : EReal :=
  (∑ k : Fin 2048, A.xn i k * A.gate k j) * Ideal.logistic (∑ k : Fin 2048, A.xn i k * A.gate k j)
    * ∑ k : Fin 2048, A.xn i k * A.up k j

/-- What the hidden columns of chunk `k` contribute to the down product. -/
def part (i k : ℕ) (l : Fin 2048) : EReal := ∑ a : Fin 512, A.act i (512 * k + a.val) * A.down (512 * k + a.val) l

/-- The down product, over all hidden columns. -/
def prod (i : ℕ) (l : Fin 2048) : EReal := ∑ j : Fin 5632, A.act i j.val * A.down j.val l

/-- The block's result. -/
def out (i : ℕ) (l : Fin 2048) : EReal :=
  A.h i l + Ideal.ofBits .f32 0x3F000000#32 * rowNorm (A.prod i) (A.post l) l

/-- The eleven chunks make the product. -/
theorem sum_part (i : ℕ) (l : Fin 2048) : ∑ k ∈ Finset.range 11, A.part i k l = A.prod i l := by
  unfold prod part
  rw [Fin.sum_univ_tiles 11 512 rfl, Finset.sum_range]
  refine Finset.sum_congr rfl fun k _ => Finset.sum_congr rfl fun a _ => ?_
  rw [show 512 * k.val + a.val = k.val * 512 + a.val by omega]

/-- What the four tiles hold before point `t`, in their roles at that point: `nx` is being normed, `cx` is normed, `ca` is being
    summed, `da` is summed. -/
structure Tiles (t : ℕ) (nx cx ca da : Fin 1024 → Fin 2048 → EReal) : Prop where
  norming : t / 11 ≤ 31 → ∀ (i : Fin 1024) l, i.val < 128 * (t % 11) → nx i l = A.xn (1024 * (t / 11) + i.val) l
  normed : 1 ≤ t / 11 → t / 11 ≤ 32 → ∀ (i : Fin 1024) l, cx i l = A.xn (1024 * (t / 11 - 1) + i.val) l
  summing : 1 ≤ t / 11 → t / 11 ≤ 32 → 1 ≤ t % 11 → ∀ (i : Fin 1024) l,
    ca i l = ∑ k ∈ Finset.range (t % 11), A.part (1024 * (t / 11 - 1) + i.val) k l
  summed : 2 ≤ t / 11 → t / 11 ≤ 33 → ∀ (i : Fin 1024) l, da i l = A.prod (1024 * (t / 11 - 2) + i.val) l

/-- Before the first point nothing is asked. -/
theorem Tiles.start (nx cx ca da : Fin 1024 → Fin 2048 → EReal) : A.Tiles 0 nx cx ca da :=
  ⟨fun _ i l h => absurd h (by simp), fun h => absurd h (by decide), fun h => absurd h (by decide), fun h => absurd h (by decide)⟩

variable {A}

/-- One point: 128 rows are normed, a chunk is added. After the last chunk the roles are exchanged. -/
theorem Tiles.next {t : ℕ} {nx cx ca da nx' ca' : Fin 1024 → Fin 2048 → EReal} (h : A.Tiles t nx cx ca da)
    (hn : t / 11 ≤ 31 → ∀ (i : Fin 1024) l, nx' i l
      = if 128 * min (t % 11) 7 ≤ i.val ∧ i.val < 128 * min (t % 11) 7 + 128 then A.xn (1024 * (t / 11) + i.val) l else nx i l)
    (hc : 1 ≤ t / 11 → t / 11 ≤ 32 → ∀ (i : Fin 1024) l, ca' i l
      = if t % 11 = 0 then A.part (1024 * (t / 11 - 1) + i.val) (t % 11) l
        else ca i l + A.part (1024 * (t / 11 - 1) + i.val) (t % 11) l) :
    (t % 11 < 10 → A.Tiles (t + 1) nx' cx ca' da) ∧ (t % 11 = 10 → A.Tiles (t + 1) cx nx' da ca') := by
  have hsum : 1 ≤ t / 11 → t / 11 ≤ 32 → ∀ (i : Fin 1024) l,
      ca' i l = ∑ k ∈ Finset.range (t % 11 + 1), A.part (1024 * (t / 11 - 1) + i.val) k l := fun h1 h2 i l => by
    rw [hc h1 h2, Finset.sum_range_succ]
    split_ifs with h0
    · rw [h0, Finset.sum_range_zero, zero_add]
    · rw [h.summing h1 h2 (by omega)]
  have hrows : t / 11 ≤ 31 → ∀ (i : Fin 1024) l, i.val < 128 * (t % 11 + 1) → nx' i l = A.xn (1024 * (t / 11) + i.val) l :=
    fun h1 i l hi => by
      rw [hn h1]
      split_ifs with h0
      · rfl
      · exact h.norming h1 i l (by have := i.isLt; omega)
  constructor
  · intro hf
    have e1 : (t + 1) / 11 = t / 11 := by omega
    have e2 : (t + 1) % 11 = t % 11 + 1 := by omega
    refine ⟨?_, ?_, ?_, ?_⟩
    · rw [e1, e2]; exact hrows
    · rw [e1]; exact h.normed
    · rw [e1, e2]; exact fun h1 h2 _ => hsum h1 h2
    · rw [e1]; exact h.summed
  · intro hf
    have e1 : (t + 1) / 11 = t / 11 + 1 := by omega
    have e2 : (t + 1) % 11 = 0 := by omega
    refine ⟨?_, ?_, ?_, ?_⟩
    · rw [e2]; exact fun _ i l hi => absurd hi (by simp)
    · rw [e1]; exact fun _ h2 i l => hrows (by omega) i l (by have := i.isLt; omega)
    · rw [e2]; exact fun _ _ h0 => absurd h0 (by decide)
    · rw [e1]; intro h1 h2 i l
      rw [hsum (by omega) (by omega), hf, sum_part]
      rfl

end Ffn

end Cert.Proof

end
-- ==== Proof.FfnPay.lean ====
/-
  An element of what the feed-forward kernel stores at a point: normed rows, a chunk's contribution to the down product, finished
  rows; and how a tile reads after a store of 128 of its rows.
-/
module

public import proofs.«01_k».proof.Proof.FfnTwoRun
public import Idealize.ShloMosaic.Lib.Pipeline.ValueKit
public import proofs.«01_k».proof.Proof.FfnMath

@[expose] public section

set_option maxRecDepth 16384

noncomputable section

open Idealize.ShloMosaic Idealize.ShloMosaic.TcCoe

namespace Cert.FfnTwoIdeal.Body

open Cert.FfnTwoIdeal Cert.FfnTwoIdeal.Gen Cert.Proof

theorem norm_at (x : FVec Ideal S128x2048 .f32) (g : FVec Ideal S1x2048 .f32) (r : Fin 128) (l : Fin 2048) :
    k0_pay2 (F := Ideal) x g (ix2 r l) = rowNorm (fun a => x (ix2 r a)) (g (ix2 0 l)) l := by
  pointwise [k0_pay2, rowNorm]

theorem fin_at (h y : FVec Ideal S128x2048 .f32) (g : FVec Ideal S1x2048 .f32) (r : Fin 128) (l : Fin 2048) :
    k0_pay5 (F := Ideal) h y g (ix2 r l)
      = h (ix2 r l) + Ideal.ofBits .f32 0x3F000000#32 * rowNorm (fun a => y (ix2 r a)) (g (ix2 0 l)) l := by
  pointwise [k0_pay5, rowNorm]

/-- A weight's chunk applied to a tile of rows. -/
def dotUp (x : FVec Ideal S1024x2048 .bf16) (w : FVec Ideal S2048x512 .bf16) : FVec Ideal S1024x512 .f32 :=
  matmul dot_S1024x2048_S2048x512_S1024x512_1_0_0_1_n_n none x w (constant S1024x512 .f32 0x00000000#32)

theorem dotUp_at (x : FVec Ideal S1024x2048 .bf16) (w : FVec Ideal S2048x512 .bf16) (r : Fin 1024) (a : Fin 512) :
    dotUp x w (ix2 r a) = ∑ k : Fin 2048, x (ix2 r k) * w (ix2 k a) := by
  pointwise [dotUp]

/-- A chunk's contribution to the down product. -/
def dotDown (g u : FVec Ideal S1024x512 .f32) (w : FVec Ideal S512x2048 .bf16) : FVec Ideal S1024x2048 .f32 :=
  matmul dot_S1024x512_S512x2048_S1024x2048_1_0_0_1_n_n none (truncf .bf16 (mulf (mulf g (logistic g)) u) bitsLt_bf16_f32) w
    (constant S1024x2048 .f32 0x00000000#32)

theorem dotDown_at (g u : FVec Ideal S1024x512 .f32) (w : FVec Ideal S512x2048 .bf16) (r : Fin 1024) (l : Fin 2048) :
    dotDown g u w (ix2 r l)
      = ∑ a : Fin 512, g (ix2 r a) * Ideal.logistic (g (ix2 r a)) * u (ix2 r a) * w (ix2 a l) := by
  pointwise [dotDown]

theorem first_chunk : ∀ n : Fin 11, Scalar.cmpi .eq (BitVec.ofNat 32 n.val) 0#32 = if n.val = 0 then 1#1 else 0#1 := by decide

/-- The accumulation of a chunk: the first chunk overwrites, the others add. -/
theorem acc_at (i : grid0.Coords) (x : FVec Ideal S1024x2048 .bf16) (wg wu : FVec Ideal S2048x512 .bf16)
    (wd : FVec Ideal S512x2048 .bf16) (acc : FVec Ideal S1024x2048 .f32) (r : Fin 1024) (l : Fin 2048) :
    k0_pay3 (F := Ideal) i x wg wu wd acc (ix2 r l)
      = if (i 1).val = 0 then dotDown (dotUp x wg) (dotUp x wu) wd (ix2 r l)
        else acc (ix2 r l) + dotDown (dotUp x wg) (dotUp x wu) wd (ix2 r l) := by
  have e : k0_pay3 (F := Ideal) i x wg wu wd acc = shapeCast S1024x2048 (Scalar.select (Scalar.cmpi .eq (BitVec.ofNat 32 (i 1).val) 0#32)
      (dotDown (dotUp x wg) (dotUp x wu) wd) (addf acc (dotDown (dotUp x wg) (dotUp x wu) wd))) shapeCasts_S1024x2048_S1024x2048 := rfl
  rw [e, show Scalar.cmpi .eq (BitVec.ofNat 32 (i 1).val) 0#32 = _ from first_chunk (i 1)]
  generalize dotDown (dotUp x wg) (dotUp x wu) wd = d
  split_ifs
  · show shapeCast S1024x2048 d _ _ = _
    pointwise
  · show shapeCast S1024x2048 (addf acc d) _ _ = _
    pointwise

variable {e : EltTy}

/-- The point's rows of a tile. -/
theorem rows_at (i : grid0.Coords) (s : Vec Ideal S1024x2048 e) (r : Fin 128) (l : Fin 2048) (h : 128 * min (i 1).val 7 + r.val < 1024) :
    rows i s (ix2 r l) = s (ix2 ⟨128 * min (i 1).val 7 + r.val, h⟩ l) := by
  unfold rows VecWindow.window
  refine congrArg s (funext fun a => Fin.ext ?_)
  fin_cases a
  · show 128 * min (i 1).val 7 + 1 * r.val = 128 * min (i 1).val 7 + r.val
    omega
  · show 0 + 1 * l.val = l.val
    omega

/-- A tile after the point's rows are stored, in the rows stored. -/
theorem setRows_in (i : grid0.Coords) (s : Vec Ideal S1024x2048 e) (p : Vec Ideal S128x2048 e) (k : Fin 1024) (l : Fin 2048)
    (h0 : 128 * min (i 1).val 7 ≤ k.val) (h1 : k.val - 128 * min (i 1).val 7 < 128) :
    setRows i s p (ix2 k l) = p (ix2 ⟨k.val - 128 * min (i 1).val 7, h1⟩ l) := by
  unfold setRows VecWindow.put
  have hin : ∀ a : Fin 2, row i a ≤ ((ix2 k l : S1024x2048.Idx) a).val ∧ ((ix2 k l : S1024x2048.Idx) a).val < row i a + S128x2048.size a := by
    intro a
    fin_cases a
    · show 128 * min (i 1).val 7 ≤ k.val ∧ k.val < 128 * min (i 1).val 7 + 128
      omega
    · show 0 ≤ l.val ∧ l.val < 0 + 2048
      omega
  rw [dif_pos hin]
  refine congrArg p (funext fun a => Fin.ext ?_)
  fin_cases a
  · rfl
  · show l.val - 0 = l.val
    omega

/-- And in the other rows. -/
theorem setRows_out (i : grid0.Coords) (s : Vec Ideal S1024x2048 e) (p : Vec Ideal S128x2048 e) (k : Fin 1024) (l : Fin 2048)
    (h : ¬ (128 * min (i 1).val 7 ≤ k.val ∧ k.val < 128 * min (i 1).val 7 + 128)) :
    setRows i s p (ix2 k l) = s (ix2 k l) := by
  unfold setRows VecWindow.put
  exact dif_neg fun hin => h (hin (0 : Fin 2))

end Cert.FfnTwoIdeal.Body

end
-- ==== Proof.FfnRef.lean ====
/-
  The feed-forward references' composed term, cut at the normed rows, the hidden activation and the down product, and an element
  of each piece.
-/
module

public import proofs.«01_k».proof.Proof.Gen.FfnTwoRefIdeal.Run
public import Idealize.ShloMosaic.Lib.Pipeline.ValueKit
public import proofs.«01_k».proof.Proof.FfnMath

@[expose] public section

set_option maxRecDepth 16384

noncomputable section

open Idealize.ShloMosaic Idealize.ShloMosaic.TcCoe

namespace Cert.FfnTwoRefIdeal.Value

open Cert.FfnTwoRefIdeal Cert.FfnTwoRefIdeal.Gen Cert.Proof

/-- Rows normed, with a gain. -/
def normT (x : FVec Ideal S32768x2048 .f32) (g : FVec Ideal S1x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ g shapeCasts_S1x2048_S2048)))

theorem normT_at (x : FVec Ideal S32768x2048 .f32) (g : FVec Ideal S1x2048 .f32) (r : Fin 32768) (l : Fin 2048) :
    normT x g (ix2 r l) = rowNorm (fun a => x (ix2 r a)) (g (ix2 0 l)) l := by
  pointwise [normT, rowNorm]

/-- The rows times a weight. -/
def upT (x : FVec Ideal S32768x2048 .f32) (w : FVec Ideal S2048x5632 .bf16) : FVec Ideal S32768x5632 .f32 :=
  Host.dotGeneral dot_S32768x2048_S2048x5632_S32768x5632_1_0_0_1_n_n none x (extf .f32 w bitsLt_bf16_f32)

theorem upT_at (x : FVec Ideal S32768x2048 .f32) (w : FVec Ideal S2048x5632 .bf16) (r : Fin 32768) (j : Fin 5632) :
    upT x w (ix2 r j) = ∑ k : Fin 2048, x (ix2 r k) * w (ix2 k j) := by
  pointwise [upT]

/-- The gate through silu, times the up product. -/
def hidT (g u : FVec Ideal S32768x5632 .f32) : FVec Ideal S32768x5632 .f32 :=
  mulf (mulf g (Host.divf (broadcastInDim S32768x5632 ![] bcast_S_S32768x5632 (constant S_ .f32 0x3F800000#32)) (addf (broadcastInDim S32768x5632 ![] bcast_S_S32768x5632 (constant S_ .f32 0x3F800000#32)) (Host.exp (Host.negf g))))) u

theorem hidT_at (g u : FVec Ideal S32768x5632 .f32) (r : Fin 32768) (j : Fin 5632) :
    hidT g u (ix2 r j) = g (ix2 r j) * Ideal.logistic (g (ix2 r j)) * u (ix2 r j) := by
  pointwise [hidT, Ideal.logistic]

/-- The hidden activation times the down weight. -/
def downT (a : FVec Ideal S32768x5632 .f32) (w : FVec Ideal S5632x2048 .bf16) : FVec Ideal S32768x2048 .f32 :=
  Host.dotGeneral dot_S32768x5632_S5632x2048_S32768x2048_1_0_0_1_n_n none a (extf .f32 w bitsLt_bf16_f32)

theorem downT_at (a : FVec Ideal S32768x5632 .f32) (w : FVec Ideal S5632x2048 .bf16) (r : Fin 32768) (l : Fin 2048) :
    downT a w (ix2 r l) = ∑ j : Fin 5632, a (ix2 r j) * w (ix2 j l) := by
  pointwise [downT]

/-- The residual plus half of a term. -/
def halfT (h y : FVec Ideal S32768x2048 .f32) : FVec Ideal S32768x2048 .f32 :=
  addf h (mulf (broadcastInDim S32768x2048 ![] bcast_S_S32768x2048 (constant S_ .f32 0x3F000000#32)) y)

theorem halfT_at (h y : FVec Ideal S32768x2048 .f32) (r : Fin 32768) (l : Fin 2048) :
    halfT h y (ix2 r l) = h (ix2 r l) + Ideal.ofBits .f32 0x3F000000#32 * y (ix2 r l) := by
  pointwise [halfT]

/-- The reference's term. -/
def outT (h : FVec Ideal S32768x2048 .f32) (pre post : FVec Ideal S1x2048 .f32) (wg wu : FVec Ideal S2048x5632 .bf16)
    (wd : FVec Ideal S5632x2048 .bf16) : FVec Ideal S32768x2048 .f32 :=
  halfT h (normT (downT (hidT (upT (normT h pre) wg) (upT (normT h pre) wu)) wd) post)

/-- The block's data as functions of natural numbers. -/
def data (h : FVec Ideal S32768x2048 .f32) (pre post : FVec Ideal S1x2048 .f32) (wg wu : FVec Ideal S2048x5632 .bf16)
    (wd : FVec Ideal S5632x2048 .bf16) : Ffn where
  h i l := h (ix2 ⟨i % 32768, Nat.mod_lt _ (by decide)⟩ l)
  pre l := pre (ix2 0 l)
  post l := post (ix2 0 l)
  gate k j := wg (ix2 k ⟨j % 5632, Nat.mod_lt _ (by decide)⟩)
  up k j := wu (ix2 k ⟨j % 5632, Nat.mod_lt _ (by decide)⟩)
  down j l := wd (ix2 ⟨j % 5632, Nat.mod_lt _ (by decide)⟩ l)

theorem outT_at (h : FVec Ideal S32768x2048 .f32) (pre post : FVec Ideal S1x2048 .f32) (wg wu : FVec Ideal S2048x5632 .bf16)
    (wd : FVec Ideal S5632x2048 .bf16) (r : Fin 32768) (l : Fin 2048) :
    outT h pre post wg wu wd (ix2 r l) = (data h pre post wg wu wd).out r.val l := by
  have er : (⟨r.val % 32768, Nat.mod_lt _ (by decide)⟩ : Fin 32768) = r := Fin.ext (Nat.mod_eq_of_lt r.isLt)
  have ej : ∀ j : Fin 5632, (⟨j.val % 5632, Nat.mod_lt _ (by decide)⟩ : Fin 5632) = j := fun j =>
    Fin.ext (Nat.mod_eq_of_lt j.isLt)
  unfold outT
  rw [halfT_at, normT_at]
  simp only [downT_at, hidT_at, upT_at, normT_at]
  unfold Ffn.out Ffn.prod Ffn.act Ffn.xn data
  simp only [er, ej]

/-- The reference's result is that term. -/
theorem res_eq (m : (ℓ : Loc nD τ sig) → Buf (Elt Ideal) ℓ) (c : Dev nD) : res_main_v38 m c
    = outT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.FfnTwoRefIdeal.Value

end
-- ==== Proof.FfnTwoValue.lean ====
/-
  The value of the second feed-forward block: the kernel's result is the reference's term of the same arguments. The four scratch
  tiles are followed from point to point in their roles, and a finished block is read off at the points that write it back.
-/
module

public import proofs.«01_k».proof.Defs
public import proofs.«01_k».proof.Proof.FfnTwoBody
public import proofs.«01_k».proof.Proof.FfnPay
public import proofs.«01_k».proof.Proof.FfnRef
public import Idealize.ShloMosaic.Lib.Claim

@[expose] public section

set_option maxRecDepth 16384

noncomputable section

open Idealize.ShloMosaic Idealize.ShloMosaic.TcCoe Idealize.SL.Sem
open Idealize.ShloMosaic.Pipeline (Dat RDat)

namespace Cert.FfnTwoIdeal.Body

open Cert.FfnTwoIdeal Cert.FfnTwoIdeal.Gen Cert.Proof

/-- Where each window's block sits at a point. -/
theorem idx : ∀ t : Fin cfg0.N, win0_0.index t = ![(t.val / 11 - 2) * 8 + (if 2 ≤ t.val / 11 then min (t.val % 11) 7 else 0), 0]
    ∧ win0_1.index t = ![min (t.val / 11) 31 * 8 + min (t.val % 11) 7, 0] ∧ win0_2.index t = ![0, 0] ∧ win0_3.index t = ![0, 0]
    ∧ win0_4.index t = ![0, if 1 ≤ t.val / 11 ∧ t.val / 11 ≤ 32 then t.val % 11 else 0]
    ∧ win0_5.index t = ![0, if 1 ≤ t.val / 11 ∧ t.val / 11 ≤ 32 then t.val % 11 else 0]
    ∧ win0_6.index t = ![if 1 ≤ t.val / 11 ∧ t.val / 11 ≤ 32 then t.val % 11 else 0, 0]
    ∧ win0_7.index t = ![(t.val / 11 - 2) * 8 + (if 2 ≤ t.val / 11 then min (t.val % 11) 7 else 0), 0] :=
  (by decide +kernel : ∀ t : Fin grid0.N, _)

variable (m : (ℓ : Loc nD τ sig) → Buf (Elt Ideal) ℓ) (c : Dev nD)

/-- The launch's arguments. -/
def dat : Ffn := Cert.FfnTwoRefIdeal.Value.data (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

theorem blk0 (t : Fin cfg0.N) (h : 2 ≤ t.val / 11) (a : Fin 128) (l : Fin 2048) :
    iblk m c 0 t (ix2 a l) = (dat m c).h (1024 * (t.val / 11 - 2) + 128 * min (t.val % 11) 7 + a.val) l := by
  have i0 := (idx t).1
  have ht : t.val < 374 := t.isLt
  rw [if_pos h] at i0
  unfold dat Cert.FfnTwoRefIdeal.Value.data
  blk_point [iblk, V, i0]

theorem blk1 (t : Fin cfg0.N) (h : t.val / 11 ≤ 31) (a : Fin 128) (l : Fin 2048) :
    iblk m c 1 t (ix2 a l) = (dat m c).h (1024 * (t.val / 11) + 128 * min (t.val % 11) 7 + a.val) l := by
  have i0 := (idx t).2.1
  have ht : t.val < 374 := t.isLt
  rw [show min (t.val / 11) 31 = t.val / 11 by omega] at i0
  unfold dat Cert.FfnTwoRefIdeal.Value.data
  blk_point [iblk, V, i0]

theorem blk2 (t : Fin cfg0.N) (l : Fin 2048) : iblk m c 2 t (ix2 0 l) = (dat m c).pre l := by
  unfold dat Cert.FfnTwoRefIdeal.Value.data
  blk_point [iblk, V, idx t]

theorem blk3 (t : Fin cfg0.N) (l : Fin 2048) : iblk m c 3 t (ix2 0 l) = (dat m c).post l := by
  unfold dat Cert.FfnTwoRefIdeal.Value.data
  blk_point [iblk, V, idx t]

theorem blk4 (t : Fin cfg0.N) (h : 1 ≤ t.val / 11 ∧ t.val / 11 ≤ 32) (k : Fin 2048) (a : Fin 512) :
    iblk m c 4 t (ix2 k a) = (dat m c).gate k (512 * (t.val % 11) + a.val) := by
  have i0 := (idx t).2.2.2.2.1
  rw [if_pos h] at i0
  unfold dat Cert.FfnTwoRefIdeal.Value.data
  blk_point [iblk, V, i0]

theorem blk5 (t : Fin cfg0.N) (h : 1 ≤ t.val / 11 ∧ t.val / 11 ≤ 32) (k : Fin 2048) (a : Fin 512) :
    iblk m c 5 t (ix2 k a) = (dat m c).up k (512 * (t.val % 11) + a.val) := by
  have i0 := (idx t).2.2.2.2.2.1
  rw [if_pos h] at i0
  unfold dat Cert.FfnTwoRefIdeal.Value.data
  blk_point [iblk, V, i0]

theorem blk6 (t : Fin cfg0.N) (h : 1 ≤ t.val / 11 ∧ t.val / 11 ≤ 32) (a : Fin 512) (l : Fin 2048) :
    iblk m c 6 t (ix2 a l) = (dat m c).down (512 * (t.val % 11) + a.val) l := by
  have i0 := (idx t).2.2.2.2.2.2.1
  rw [if_pos h] at i0
  unfold dat Cert.FfnTwoRefIdeal.Value.data
  blk_point [iblk, V, i0]

/-- A tile as a function of row and column. -/
def tile (x : S1024x2048.Idx → EReal) : Fin 1024 → Fin 2048 → EReal := fun i l => x (ix2 i l)

/-- What is tracked: the tiles in their roles, by the row tile's parity, and the block that a point finishes. -/
def track : Track Ideal where
  inv t x0 x1 a0 a1 := if t / 11 % 2 = 0 then (dat m c).Tiles t (tile x0) (tile x1) (tile a1) (tile a0)
    else (dat m c).Tiles t (tile x1) (tile x0) (tile a0) (tile a1)
  out t o := 2 ≤ t.val / 11 → ∀ (a : Fin 128) (l : Fin 2048),
    o (ix2 a l) = (dat m c).out (1024 * (t.val / 11 - 2) + 128 * min (t.val % 11) 7 + a.val) l

/-- The rows that a point norms. -/
theorem norm_rows (t : Fin cfg0.N) (hi : ((grid0.coords t) 1).val = t.val % 11) (x : FVec Ideal S1024x2048 .bf16) (h : t.val / 11 ≤ 31)
    (i : Fin 1024) (l : Fin 2048) : tile (setRows (F := Ideal) (e := .bf16) (grid0.coords t) x (k0_pay2 (F := Ideal) (iblk m c 1 t) (iblk m c 2 t))) i l
      = if 128 * min (t.val % 11) 7 ≤ i.val ∧ i.val < 128 * min (t.val % 11) 7 + 128
        then (dat m c).xn (1024 * (t.val / 11) + i.val) l else tile x i l := by
  unfold tile
  split_ifs with h0
  · have hb : i.val - 128 * min (t.val % 11) 7 < 128 := by omega
    rw [← hi] at h0 hb
    rw [setRows_in _ _ _ _ _ h0.1 hb, norm_at, blk2]
    simp only [blk1 m c t h]
    unfold Ffn.xn
    rw [hi] at h0 ⊢
    rw [show 1024 * (t.val / 11) + 128 * min (t.val % 11) 7 + (i.val - 128 * min (t.val % 11) 7) = 1024 * (t.val / 11) + i.val by omega]
  · rw [← hi] at h0
    exact setRows_out _ _ _ _ _ h0

/-- The chunk that a point sums. -/
theorem sum_chunk (t : Fin cfg0.N) (hi : ((grid0.coords t) 1).val = t.val % 11) (x : FVec Ideal S1024x2048 .bf16)
    (acc : FVec Ideal S1024x2048 .f32) (h : 1 ≤ t.val / 11 ∧ t.val / 11 ≤ 32)
    (hx : ∀ (i : Fin 1024) l, tile x i l = (dat m c).xn (1024 * (t.val / 11 - 1) + i.val) l) (i : Fin 1024) (l : Fin 2048) :
    tile (k0_pay3 (F := Ideal) (grid0.coords t) x (iblk m c 4 t) (iblk m c 5 t) (iblk m c 6 t) acc) i l
      = if t.val % 11 = 0 then (dat m c).part (1024 * (t.val / 11 - 1) + i.val) (t.val % 11) l
        else tile acc i l + (dat m c).part (1024 * (t.val / 11 - 1) + i.val) (t.val % 11) l := by
  have hd : dotDown (dotUp x (iblk m c 4 t)) (dotUp x (iblk m c 5 t)) (iblk m c 6 t) (ix2 i l)
      = (dat m c).part (1024 * (t.val / 11 - 1) + i.val) (t.val % 11) l := by
    have hx' : ∀ k : Fin 2048, x (ix2 i k) = (dat m c).xn (1024 * (t.val / 11 - 1) + i.val) k := fun k => hx i k
    rw [dotDown_at]
    simp only [dotUp_at, hx', blk4 m c t h, blk5 m c t h, blk6 m c t h]
    rfl
  unfold tile
  rw [acc_at, hi, hd]

/-- The block that a point finishes. -/
theorem fin_block (t : Fin cfg0.N) (hi : ((grid0.coords t) 1).val = t.val % 11) (acc : FVec Ideal S1024x2048 .f32) (h : 2 ≤ t.val / 11)
    (hy : ∀ (i : Fin 1024) l, tile acc i l = (dat m c).prod (1024 * (t.val / 11 - 2) + i.val) l) (a : Fin 128) (l : Fin 2048) :
    k0_pay5 (F := Ideal) (iblk m c 0 t) (rows (F := Ideal) (e := .f32) (grid0.coords t) acc) (iblk m c 3 t) (ix2 a l)
      = (dat m c).out (1024 * (t.val / 11 - 2) + 128 * min (t.val % 11) 7 + a.val) l := by
  have hb : 128 * min ((grid0.coords t) 1).val 7 + a.val < 1024 := by omega
  have hr : ∀ k : Fin 2048, rows (F := Ideal) (e := .f32) (grid0.coords t) acc (ix2 a k)
      = (dat m c).prod (1024 * (t.val / 11 - 2) + 128 * min (t.val % 11) 7 + a.val) k := fun k => by
    rw [rows_at _ _ _ _ hb]
    refine (hy _ k).trans ?_
    dsimp only
    rw [hi, ← Nat.add_assoc]
  rw [fin_at, blk0 m c t h, blk3]
  simp only [hr]
  rfl

/-- Every point keeps it. -/
theorem keeps : Keeps m (track m) c where
  init x0 x1 a0 a1 := by
    unfold track; dsimp only
    rw [if_pos (by decide)]
    exact Ffn.Tiles.start _ _ _ _ _
  step := by
    intro t o x0 x1 a0 a1 o' x0' x1' a0' a1' h hs
    obtain ⟨-, hi, hcase⟩ := point_cases t
    have ht : t.val < 374 := t.isLt
    have hmod : t.val % 11 < 10 ∨ t.val % 11 = 10 := by omega
    unfold track at h ⊢
    dsimp only at h ⊢
    rcases hcase with ⟨ht0, c1, c2, c3, c4, c5⟩ | ⟨ht0, ht1, c1, c2, c3, c4, c5⟩ | ⟨ht0, ht1, hp, c1, c2, c3, c4, c5⟩
      | ⟨ht0, ht1, hp, c1, c2, c3, c4, c5⟩ | ⟨ht0, c1, c2, c3, c4, c5⟩ <;> cases hs <;> first | contradiction | skip
    · rw [if_pos (by omega)] at h
      refine ⟨?_, fun h2 => absurd h2 (by omega)⟩
      have hn := h.next (norm_rows m c t hi x0) (ca' := tile (k0_pay1 (F := Ideal))) fun h1 => absurd h1 (by omega)
      rw [if_pos (by omega)]; exact hn.1 (by omega)
    · rw [if_pos (by omega)] at h
      refine ⟨?_, fun h2 => absurd h2 (by omega)⟩
      have hn := h.next (norm_rows m c t hi x0) (ca' := tile a1) fun h1 => absurd h1 (by omega)
      rcases hmod with hf | hf
      · rw [if_pos (by omega)]; exact hn.1 hf
      · rw [if_neg (by omega)]; exact hn.2 hf
    · rw [if_pos hp] at h
      have hn := h.next (norm_rows m c t hi x0) fun h1 h2 => sum_chunk m c t hi x1 a1 ⟨h1, h2⟩ (h.normed h1 h2)
      refine ⟨?_, fun h2 => fin_block m c t hi a0 h2 (h.summed h2 (by omega))⟩
      rcases hmod with hf | hf
      · rw [if_pos (by omega)]; exact hn.1 hf
      · rw [if_neg (by omega)]; exact hn.2 hf
    · rw [if_neg (by omega)] at h
      have hn := h.next (norm_rows m c t hi x1) fun h1 h2 => sum_chunk m c t hi x0 a0 ⟨h1, h2⟩ (h.normed h1 h2)
      refine ⟨?_, fun h2 => fin_block m c t hi a1 h2 (h.summed h2 (by omega))⟩
      rcases hmod with hf | hf
      · rw [if_neg (by omega)]; exact hn.1 hf
      · rw [if_pos (by omega)]; exact hn.2 hf
    · rw [if_neg (by omega)] at h
      have hn := h.next (nx' := tile x1) (ca' := tile a0) (fun h1 => absurd h1 (by omega)) fun h1 h2 => absurd h2 (by omega)
      refine ⟨?_, fun h2 => fin_block m c t hi a1 h2 (h.summed h2 (by omega))⟩
      rcases hmod with hf | hf
      · rw [if_neg (by omega)]; exact hn.1 hf
      · rw [if_pos (by omega)]; exact hn.2 hf

/-- Only points from the third row of the grid on write a block back. -/
theorem flush_late : ∀ t : Fin cfg0.N, (cfg0.win 7).flush t = true → 2 ≤ t.val / 11 :=
  (by decide +kernel : ∀ t : Fin grid0.N, (cfg0.win 7).flush t = true → 2 ≤ t.val / 11)

/-- The result array, whatever the body left at the points that write it back, so long as each left what is tracked. -/
theorem final (after : (w : Fin cfg0.W) → Fin cfg0.N → (cfg0.win w).block.Idx → Elt Ideal (cfg0.win w).elt)
    (ha : ∀ (w : Fin cfg0.W) (u : Fin cfg0.N), (cfg0.win w).flush u = true → (rdat m (track m) c).Leaves w u (after w u)) :
    ((rdat m (track m) c).withAfter after).arrAt 7 cfg0.N = Cert.FfnTwoRefIdeal.Value.outT (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  refine ((rdat m (track m) c).withAfter after).arrAt_eq_of_covers 7 _ (by decide +kernel) fun t hf y => ?_
  have h2 := flush_late t hf
  obtain ⟨Y, -, hl⟩ := ha 7 t hf
  obtain ⟨r, l, rfl⟩ : ∃ (r : Fin 128) (l : Fin 2048), y = ix2 r l := ⟨y 0, y 1, eq_ix2 y⟩
  have hl : ∀ (a : Fin 128) (l : Fin 2048), after 7 t (ix2 a l)
    = (dat m c).out (1024 * (t.val / 11 - 2) + 128 * min (t.val % 11) 7 + a.val) l :=
    (show (track m c).out t (after 7 t) from hl) h2
  obtain ⟨i, j, hij⟩ : ∃ (i : Fin 32768) (j : Fin 2048), ((cfg0.win 7).blk t).view.emb (ix2 r l) = ix2 i j := ⟨_, _, eq_ix2 _⟩
  have hi := congrArg (fun x => (x 0).val) hij
  have hj := congrArg (fun x => (x 1).val) hij
  have i0 := (idx t).2.2.2.2.2.2.2
  rw [if_pos h2] at i0
  blk_simp [i0] at hi hj
  refine Eq.trans ?_ (congrArg _ hij.symm)
  rw [Cert.FfnTwoRefIdeal.Value.outT_at]
  obtain rfl : l = j := Fin.ext (by omega)
  refine (hl r l).trans ?_
  rw [show 1024 * (t.val / 11 - 2) + 128 * min (t.val % 11) 7 + r.val = i.val by omega]
  rfl

end Cert.FfnTwoIdeal.Body

namespace Cert.Proof

open Cert.FfnTwoIdeal Cert.FfnTwoIdeal.Gen Cert.FfnTwoIdeal.Body

theorem algebraic_ffnTwo : Cert.algebraic_FfnTwoIdeal_FfnTwoRefIdeal (hFfnTwoIdeal := Cert.FfnTwoIdeal.Gen.facts)
    (hFfnTwoRefIdeal := Cert.FfnTwoRefIdeal.Gen.facts) := by
  intro m g m' g' _ hargs
  refine ⟨fun c => Cert.FfnTwoRefIdeal.Value.res_main_v38 m' c, ?_, ?_⟩
  · refine (θ_run (Cert.FfnTwoIdeal.defs (F := Ideal)) _ _).mono (fun r h c => ?_) (run_main m g (track m) fun c => keeps m c)
    obtain ⟨after, ha, hA⟩ := h.1.exists_exact c
    obtain ⟨e0, e1, e2, e3, e4, e5⟩ := hargs c
    refine ⟨((hA 7).trans (final m c after ha)).trans ?_, h.1.arr_in c 1 rfl, h.1.arr_in c 2 rfl, h.1.arr_in c 3 rfl, h.1.arr_in c 4 rfl,
      h.1.arr_in c 5 rfl, h.1.arr_in c 6 rfl⟩
    show _ = Cert.FfnTwoRefIdeal.Value.res_main_v38 m' c
    rw [Cert.FfnTwoRefIdeal.Value.res_eq, e0, e1, e2, e3, e4, e5]
  · exact (θ_run (Cert.FfnTwoRefIdeal.defs (F := Ideal)) _ _).mono (fun r h c => h c) (Cert.FfnTwoRefIdeal.Value.run (F := Ideal) m' g')

end Cert.Proof

end
-- ==== Proof.FfnTwoFrame.lean ====
/- The frame of the program as compiled, from the one of the program as idealized: no rule rewrites it, so the two programs are one text. -/
module

public import proofs.«01_k».proof.Defs
public import proofs.«01_k».proof.Proof.FfnTwoBody
public import proofs.«01_k».proof.Proof.Gen.FfnTwo.Frame

@[expose] public section

noncomputable section

namespace Cert.FfnTwo.Body

open Idealize.ShloMosaic Idealize.ShloMosaic.TcCoe Idealize.SL.Sem

variable {F : FTy → Type} [FloatOps F]

/-- The two body tables agree at their one label. -/
theorem body_table : @Cert.FfnTwoIdeal.defs₀ F _ Cert.FfnTwoIdeal.Gen.facts = @Cert.FfnTwo.defs₀ F _ Cert.FfnTwo.Gen.facts :=
  congrArg Defs.onTc (funext fun l => funext fun x => by
    match l, x with
    | 0, (t, s) => rfl
    | ⟨_ + 1, h⟩, _ => exact absurd h (Nat.not_lt.2 (Nat.le_add_left _ _)))

theorem frame : Cert.quiescent_FfnTwo (hFfnTwo := Cert.FfnTwo.Gen.facts) := by
  intro m ρ _
  have h := Cert.FfnTwoIdeal.Body.frame (F := Bits) m ρ
  unfold Cert.FfnTwoIdeal.defs at h
  rw [body_table] at h
  exact h

end Cert.FfnTwo.Body

end
-- ==== Proof.FfnOneRun.lean ====
/- The first feed-forward kernel's body run symbolically, in each of the five cases that its conditions on the grid point leave. -/
module

public import proofs.«01_k».proof.Proof.Gen.FfnOneIdeal.Skeleton
public import proofs.«01_k».proof.Proof.Gen.FfnOneIdeal.Frame
public import Idealize.ShloMosaic.Lib.VecWindow

@[expose] public section

set_option maxRecDepth 16384

noncomputable section

namespace Cert.FfnOneIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.FfnOneIdeal.Gen

variable {F : FTy → Type} [FloatOps F]

local notation "𝕄" => MT nD τ sig Unit (Elt F) ℕ (UR sig nD τ) ℕ

/-- The body's first condition: both coordinates are 0. -/
abbrev cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32))) 0#32

/-- The first of the 128 rows that the body works on at a grid point. -/
abbrev row (i : grid0.Coords) : Fin 2 → ℕ := ![128 * min (i 1).val 7, 0]

theorem row_inb (i : grid0.Coords) (a : Fin 2) : row i a + S128x2048.size a ≤ S1024x2048.size a := by
  fin_cases a
  · show 128 * min (i 1).val 7 + 128 ≤ 1024
    omega
  · exact (by decide : 0 + 2048 ≤ 2048)

/-- Those 128 rows of a tile. -/
def rows {e : EltTy} (i : grid0.Coords) (s : Vec F S1024x2048 e) : Vec F S128x2048 e :=
  VecWindow.window s (row i) S128x2048.size (row_inb i)

/-- The tile with those 128 rows replaced. -/
def setRows {e : EltTy} (i : grid0.Coords) (s : Vec F S1024x2048 e) (p : Vec F S128x2048 e) : Vec F S1024x2048 e :=
  VecWindow.put s (row i) S128x2048.size p

/-- What one point does to the two outputs' blocks and to the four scratch tiles, in the five cases its conditions leave. -/
inductive Step (i : grid0.Coords) (hp hn : Vec F S128x2048 .f32) (gpre gpost : Vec F S1x2048 .f32)
    (wg wu : Vec F S2048x512 .bf16) (wd : Vec F S512x2048 .bf16) (gnext : Vec F S1x2048 .f32)
    (o : Vec F S128x2048 .f32) (p : Vec F S128x2048 .bf16) (x0 x1 : Vec F S1024x2048 .bf16) (a0 a1 : Vec F S1024x2048 .f32) :
    Vec F S128x2048 .f32 → Vec F S128x2048 .bf16 → Vec F S1024x2048 .bf16 → Vec F S1024x2048 .bf16 → Vec F S1024x2048 .f32
      → Vec F S1024x2048 .f32 → Prop
  | start (h1 : cond1 i = 1#1) (h2 : k0_cond2 i = 1#1) (h3 : ¬ k0_cond3 i = 1#1) (h4 : ¬ k0_cond4 i = 1#1) (h5 : ¬ k0_cond5 i = 1#1) :
    Step i hp hn gpre gpost wg wu wd gnext o p x0 x1 a0 a1 o p (setRows i x0 (k0_pay2 hn gpre)) x1 a0 k0_pay1
  | first (h1 : ¬ cond1 i = 1#1) (h2 : k0_cond2 i = 1#1) (h3 : ¬ k0_cond3 i = 1#1) (h4 : ¬ k0_cond4 i = 1#1) (h5 : ¬ k0_cond5 i = 1#1) :
    Step i hp hn gpre gpost wg wu wd gnext o p x0 x1 a0 a1 o p (setRows i x0 (k0_pay2 hn gpre)) x1 a0 a1
  | even (h1 : ¬ cond1 i = 1#1) (h2 : ¬ k0_cond2 i = 1#1) (h3 : k0_cond3 i = 1#1) (h4 : ¬ k0_cond4 i = 1#1) (h5 : ¬ k0_cond5 i = 1#1) :
    Step i hp hn gpre gpost wg wu wd gnext o p x0 x1 a0 a1 (k0_pay9 hp (rows i a0) gpost) (k0_pay10 hp (rows i a0) gpost gnext)
      (setRows i x0 (k0_pay3 hn gpre)) x1 a0 (k0_pay4 i x1 wg wu wd a1)
  | odd (h1 : ¬ cond1 i = 1#1) (h2 : ¬ k0_cond2 i = 1#1) (h3 : ¬ k0_cond3 i = 1#1) (h4 : k0_cond4 i = 1#1) (h5 : ¬ k0_cond5 i = 1#1) :
    Step i hp hn gpre gpost wg wu wd gnext o p x0 x1 a0 a1 (k0_pay11 hp (rows i a1) gpost) (k0_pay12 hp (rows i a1) gpost gnext)
      x0 (setRows i x1 (k0_pay5 hn gpre)) (k0_pay6 i x0 wg wu wd a0) a1
  | last (h1 : ¬ cond1 i = 1#1) (h2 : ¬ k0_cond2 i = 1#1) (h3 : ¬ k0_cond3 i = 1#1) (h4 : ¬ k0_cond4 i = 1#1) (h5 : k0_cond5 i = 1#1) :
    Step i hp hn gpre gpost wg wu wd gnext o p x0 x1 a0 a1 (k0_pay7 hp (rows i a1) gpost) (k0_pay8 hp (rows i a1) gpost gnext) x0 x1 a0 a1

/-- A load of a whole buffer at its own sizes reads what it holds. -/
theorem load_full {s : Shape} {e : EltTy} {m : Memref sig .tc .vmem s e} (hm : m.IsWhole) (x : Vec F s e) {off : Fin s.rank → ℕ}
    (inb : ∀ a, off a + s.size a ≤ s.size a) :
    m.view.readAt (Elt F) (Rect.unit off s.size inb).toLoadRect (hm.unread x) = x :=
  (View.readAt_full _ _ inb).trans (hm.read_unread x)

/-- A load of the point's 128 rows of a whole tile. -/
theorem load_rows {e : EltTy} {m : Memref sig .tc .vmem S1024x2048 e} (hm : m.IsWhole) (i : grid0.Coords) (x : Vec F S1024x2048 e)
    {off : Fin 2 → ℕ} (inb : ∀ a, off a + S128x2048.size a ≤ S1024x2048.size a) (h : off = row i) :
    m.view.readAt (Elt F) (Rect.unit (s := S1024x2048) off S128x2048.size inb).toLoadRect (hm.unread x) = rows i x :=
  (View.readAt_unit m.view (hm.unread x) inb h (row_inb i)).trans
    (by rw [hm.read_unread]; rfl)

/-- A store to the point's 128 rows of a whole tile. -/
theorem store_rows {e : EltTy} {m : Memref sig .tc .vmem S1024x2048 e} (hm : m.IsWhole) (i : grid0.Coords) (x : Vec F S1024x2048 e)
    {off : Fin 2 → ℕ} (inb : ∀ a, off a + S128x2048.size a ≤ S1024x2048.size a) (h : off = row i) (w : Vec F S128x2048 e) :
    m.view.read (Elt F) (m.view.writes (Elt F) (hm.unread x) [⟨Rect.unit (s := S1024x2048) off S128x2048.size inb, w⟩]) = setRows i x w :=
  (View.read_writes_cons_put m.view (hm.unread x) inb w [] h).trans
    (by rw [View.writes_nil, hm.read_unread]; rfl)

section Run

variable (c : Dev nD) (i : grid0.Coords)
  (arg2 : Memref sig .tc .vmem S128x2048 .f32) (harg2 : arg2.IsWhole)
  (arg3 : Memref sig .tc .vmem S128x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1x2048 .f32) (harg9 : arg9.IsWhole)
  (arg10 : Memref sig .tc .vmem S128x2048 .f32) (harg10 : arg10.IsWhole)
  (arg11 : Memref sig .tc .vmem S128x2048 .bf16) (harg11 : arg11.IsWhole)
  (arg12 : Memref sig .tc .vmem S1024x2048 .bf16) (harg12 : arg12.IsWhole)
  (arg13 : Memref sig .tc .vmem S1024x2048 .bf16) (harg13 : arg13.IsWhole)
  (arg14 : Memref sig .tc .vmem S1024x2048 .f32) (harg14 : arg14.IsWhole)
  (arg15 : Memref sig .tc .vmem S1024x2048 .f32) (harg15 : arg15.IsWhole)
  (hp hn : Vec F S128x2048 .f32) (gpre gpost : Vec F S1x2048 .f32) (wg wu : Vec F S2048x512 .bf16) (wd : Vec F S512x2048 .bf16)
  (gnext : Vec F S1x2048 .f32)
  (o : Vec F S128x2048 .f32) (p : Vec F S128x2048 .bf16) (x0 x1 : Vec F S1024x2048 .bf16) (a0 a1 : Vec F S1024x2048 .f32)

/-- The fourteen buffers, the first eight at the blocks, the others at what is given. -/
def bufs (o : Vec F S128x2048 .f32) (p : Vec F S128x2048 .bf16) (x0 x1 : Vec F S1024x2048 .bf16) (a0 a1 : Vec F S1024x2048 .f32) : sProp 𝕄 :=
  iprop(owns (c : Thread nD τ) arg2 fullShare hp ∗ owns (c : Thread nD τ) arg3 fullShare hn ∗ owns (c : Thread nD τ) arg4 fullShare gpre
    ∗ owns (c : Thread nD τ) arg5 fullShare gpost ∗ owns (c : Thread nD τ) arg6 fullShare wg ∗ owns (c : Thread nD τ) arg7 fullShare wu
    ∗ owns (c : Thread nD τ) arg8 fullShare wd ∗ owns (c : Thread nD τ) arg9 fullShare gnext ∗ owns (c : Thread nD τ) arg10 fullShare o
    ∗ owns (c : Thread nD τ) arg11 fullShare p ∗ owns (c : Thread nD τ) arg12 fullShare x0 ∗ owns (c : Thread nD τ) arg13 fullShare x1
    ∗ owns (c : Thread nD τ) arg14 fullShare a0 ∗ owns (c : Thread nD τ) arg15 fullShare a1)

set_option maxHeartbeats 8000000 in
/-- The body carries the fourteen buffers through the point's step. -/
theorem run (o' : Vec F S128x2048 .f32) (p' : Vec F S128x2048 .bf16) (x0' x1' : Vec F S1024x2048 .bf16) (a0' a1' : Vec F S1024x2048 .f32)
    (hs : Step i hp hn gpre gpost wg wu wd gnext o p x0 x1 a0 a1 o' p' x0' x1' a0' a1') (E : Set ℕ) (K : PUnit → sProp 𝕄) :
    iprop(bufs c arg2 arg3 arg4 arg5 arg6 arg7 arg8 arg9 arg10 arg11 arg12 arg13 arg14 arg15 hp hn gpre gpost wg wu wd gnext o p x0 x1 a0 a1
      ∗ (bufs c arg2 arg3 arg4 arg5 arg6 arg7 arg8 arg9 arg10 arg11 arg12 arg13 arg14 arg15 hp hn gpre gpost wg wu wd gnext o' p' x0' x1' a0' a1' -∗ K ⟨⟩))
      ⊢ wp frame (wpE (defs₀ (F := F)) Variants.none c none) E
          (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_eq_skeleton]; unfold cc0_ffn_skel
  simp only [k0_part1_eq_skeleton, k0_part2_eq_skeleton]
  unfold bufs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  obtain rfl := harg14.eq_unread hf14; obtain rfl := harg15.eq_unread hf15
  cases hs with
  | start h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact (store_rows harg12 i _ _ (k0_off1_eq i) _).trans (congrArg (setRows i _) (congr (congrArg _ (load_full harg3 _ _)) (load_full harg4 _ _)))
    isplitl [H13]
    · iexists _; isplitr; swap; · iexact H13
      ipureintro; exact harg13.read_unread _
    isplitl [H14]
    · iexists _; isplitr; swap; · iexact H14
      ipureintro; exact harg14.read_unread _
    iexists _; isplitr; swap; · iexact H15
    ipureintro; exact View.read_writes_full _ _ _ _ _
  | first h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact (store_rows harg12 i _ _ (k0_off1_eq i) _).trans (congrArg (setRows i _) (congr (congrArg _ (load_full harg3 _ _)) (load_full harg4 _ _)))
    isplitl [H13]
    · iexists _; isplitr; swap; · iexact H13
      ipureintro; exact harg13.read_unread _
    isplitl [H14]
    · iexists _; isplitr; swap; · iexact H14
      ipureintro; exact harg14.read_unread _
    iexists _; isplitr; swap; · iexact H15
    ipureintro; exact harg15.read_unread _
  | even h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; refine (View.read_writes_full _ _ _ _ _).trans ?_; congr 1 <;> first | exact load_full harg2 _ _ | exact load_rows harg14 i _ _ (k0_off2_eq i) | exact load_full harg5 _ _
    isplitl [H11]
    · iexists _; isplitr; swap; · iexact H11
      ipureintro; refine (View.read_writes_full _ _ _ _ _).trans ?_; congr 1 <;> first | exact load_full harg2 _ _ | exact load_rows harg14 i _ _ (k0_off2_eq i) | exact load_full harg5 _ _ | exact load_full harg9 _ _
    isplitl [H12]
    · iexists _; isplitr; swap; · iexact H12
      ipureintro; exact (store_rows harg12 i _ _ (k0_off2_eq i) _).trans (congrArg (setRows i _) (congr (congrArg _ (load_full harg3 _ _)) (load_full harg4 _ _)))
    isplitl [H13]
    · iexists _; isplitr; swap; · iexact H13
      ipureintro; exact harg13.read_unread _
    isplitl [H14]
    · iexists _; isplitr; swap; · iexact H14
      ipureintro; exact harg14.read_unread _
    iexists _; isplitr; swap; · iexact H15
    ipureintro; refine (View.read_writes_full _ _ _ _ _).trans ?_; congr 1 <;> first | exact load_full harg13 _ _ | exact load_full harg6 _ _ | exact load_full harg7 _ _ | exact load_full harg8 _ _ | exact load_full harg15 _ _
  | odd h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; refine (View.read_writes_full _ _ _ _ _).trans ?_; congr 1 <;> first | exact load_full harg2 _ _ | exact load_rows harg15 i _ _ (k0_off3_eq i) | exact load_full harg5 _ _
    isplitl [H11]
    · iexists _; isplitr; swap; · iexact H11
      ipureintro; refine (View.read_writes_full _ _ _ _ _).trans ?_; congr 1 <;> first | exact load_full harg2 _ _ | exact load_rows harg15 i _ _ (k0_off3_eq i) | exact load_full harg5 _ _ | exact load_full harg9 _ _
    isplitl [H12]
    · iexists _; isplitr; swap; · iexact H12
      ipureintro; exact harg12.read_unread _
    isplitl [H13]
    · iexists _; isplitr; swap; · iexact H13
      ipureintro; exact (store_rows harg13 i _ _ (k0_off3_eq i) _).trans (congrArg (setRows i _) (congr (congrArg _ (load_full harg3 _ _)) (load_full harg4 _ _)))
    isplitl [H14]
    · iexists _; isplitr; swap; · iexact H14
      ipureintro; refine (View.read_writes_full _ _ _ _ _).trans ?_; congr 1 <;> first | exact load_full harg12 _ _ | exact load_full harg6 _ _ | exact load_full harg7 _ _ | exact load_full harg8 _ _ | exact load_full harg14 _ _
    iexists _; isplitr; swap; · iexact H15
    ipureintro; exact harg15.read_unread _
  | last h1 h2 h3 h4 h5 =>
    sl_exec (disch := first | sl_exact h1 | sl_exact h2 | sl_exact h3 | sl_exact h4 | sl_exact h5)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; refine (View.read_writes_full _ _ _ _ _).trans ?_; congr 1 <;> first | exact load_full harg2 _ _ | exact load_rows harg15 i _ _ (k0_off4_eq i) | exact load_full harg5 _ _
    isplitl [H11]
    · iexists _; isplitr; swap; · iexact H11
      ipureintro; refine (View.read_writes_full _ _ _ _ _).trans ?_; congr 1 <;> first | exact load_full harg2 _ _ | exact load_rows harg15 i _ _ (k0_off4_eq i) | exact load_full harg5 _ _ | exact load_full harg9 _ _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    iexists _; isplitr; swap; · iexact H15
    ipureintro; exact harg15.read_unread _

end Run

end Cert.FfnOneIdeal.Body
-- ==== Proof.FfnOneBody.lean ====
/- The first feed-forward kernel's launch: its body's step at every grid point, put under the pipeline's rule with an invariant on the
   four scratch tiles and a relation on what each point leaves in the outputs' blocks. -/
module

public import proofs.«01_k».proof.Proof.FfnOneRun
public import Idealize.ShloMosaic.Lib.Pipeline.ArrRel

@[expose] public section

set_option maxRecDepth 16384

noncomputable section

namespace Cert.FfnOneIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.FfnOneIdeal.Gen

variable {F : FTy → Type} [FloatOps F]

local notation "𝕄" => MT nD τ sig Unit (Elt F) ℕ (UR sig nD τ) ℕ

/-- The grid's coordinates at a point, and which of the body's five cases the point takes. -/
theorem point_cases : ∀ t : Fin cfg0.N, ((grid0.coords t) 0).val = t.val / 11 ∧ ((grid0.coords t) 1).val = t.val % 11 ∧
    ((t.val = 0 ∧ cond1 (grid0.coords t) = 1#1 ∧ k0_cond2 (grid0.coords t) = 1#1 ∧ ¬ k0_cond3 (grid0.coords t) = 1#1
        ∧ ¬ k0_cond4 (grid0.coords t) = 1#1 ∧ ¬ k0_cond5 (grid0.coords t) = 1#1)
      ∨ (0 < t.val ∧ t.val < 11 ∧ ¬ cond1 (grid0.coords t) = 1#1 ∧ k0_cond2 (grid0.coords t) = 1#1 ∧ ¬ k0_cond3 (grid0.coords t) = 1#1
        ∧ ¬ k0_cond4 (grid0.coords t) = 1#1 ∧ ¬ k0_cond5 (grid0.coords t) = 1#1)
      ∨ (11 ≤ t.val ∧ t.val < 363 ∧ t.val / 11 % 2 = 0 ∧ ¬ cond1 (grid0.coords t) = 1#1 ∧ ¬ k0_cond2 (grid0.coords t) = 1#1
        ∧ k0_cond3 (grid0.coords t) = 1#1 ∧ ¬ k0_cond4 (grid0.coords t) = 1#1 ∧ ¬ k0_cond5 (grid0.coords t) = 1#1)
      ∨ (11 ≤ t.val ∧ t.val < 363 ∧ t.val / 11 % 2 = 1 ∧ ¬ cond1 (grid0.coords t) = 1#1 ∧ ¬ k0_cond2 (grid0.coords t) = 1#1
        ∧ ¬ k0_cond3 (grid0.coords t) = 1#1 ∧ k0_cond4 (grid0.coords t) = 1#1 ∧ ¬ k0_cond5 (grid0.coords t) = 1#1)
      ∨ (363 ≤ t.val ∧ ¬ cond1 (grid0.coords t) = 1#1 ∧ ¬ k0_cond2 (grid0.coords t) = 1#1
        ∧ ¬ k0_cond3 (grid0.coords t) = 1#1 ∧ ¬ k0_cond4 (grid0.coords t) = 1#1 ∧ k0_cond5 (grid0.coords t) = 1#1)) :=
  (by decide +kernel : ∀ t : Fin grid0.N, _)

/-- Some step is taken at every point. -/
theorem step_exists (t : Fin cfg0.N) (hp hn : Vec F S128x2048 .f32) (gpre gpost : Vec F S1x2048 .f32)
    (wg wu : Vec F S2048x512 .bf16) (wd : Vec F S512x2048 .bf16) (gnext : Vec F S1x2048 .f32)
    (o : Vec F S128x2048 .f32) (p : Vec F S128x2048 .bf16) (x0 x1 : Vec F S1024x2048 .bf16) (a0 a1 : Vec F S1024x2048 .f32) :
    ∃ o' p' x0' x1' a0' a1', Step (grid0.coords t) hp hn gpre gpost wg wu wd gnext o p x0 x1 a0 a1 o' p' x0' x1' a0' a1' := by
  obtain ⟨-, -, h⟩ := point_cases t
  rcases h with ⟨-, h1, h2, h3, h4, h5⟩ | ⟨-, -, h1, h2, h3, h4, h5⟩ | ⟨-, -, -, h1, h2, h3, h4, h5⟩ | ⟨-, -, -, h1, h2, h3, h4, h5⟩ | ⟨-, h1, h2, h3, h4, h5⟩
  · exact ⟨_, _, _, _, _, _, .start h1 h2 h3 h4 h5⟩
  · exact ⟨_, _, _, _, _, _, .first h1 h2 h3 h4 h5⟩
  · exact ⟨_, _, _, _, _, _, .even h1 h2 h3 h4 h5⟩
  · exact ⟨_, _, _, _, _, _, .odd h1 h2 h3 h4 h5⟩
  · exact ⟨_, _, _, _, _, _, .last h1 h2 h3 h4 h5⟩

/-- What the proof tracks: of the scratch tiles before a point, and of an output's block after a point. -/
structure Track (F : FTy → Type) where
  inv : ℕ → Vec F S1024x2048 .bf16 → Vec F S1024x2048 .bf16 → Vec F S1024x2048 .f32 → Vec F S1024x2048 .f32 → Prop
  out : Fin cfg0.N → Vec F S128x2048 .f32 → Prop
  nxt : Fin cfg0.N → Vec F S128x2048 .bf16 → Prop

variable (m : (ℓ : Loc nD τ sig) → Buf (Elt F) ℓ) (ρ : Dev nD → PrngReg) (T : Dev nD → Track F)

/-- The tracked facts hold at the launch and every step keeps them. -/
structure Keeps (c : Dev nD) : Prop where
  init : ∀ x0 x1 a0 a1, (T c).inv 0 x0 x1 a0 a1
  step : ∀ (t : Fin cfg0.N) o p x0 x1 a0 a1 o' p' x0' x1' a0' a1', (T c).inv t.val x0 x1 a0 a1 →
    Step (grid0.coords t) (iblk m c 0 t) (iblk m c 1 t) (iblk m c 2 t) (iblk m c 3 t) (iblk m c 4 t) (iblk m c 5 t) (iblk m c 6 t)
      (iblk m c 7 t) o p x0 x1 a0 a1 o' p' x0' x1' a0' a1' → (T c).inv (t.val + 1) x0' x1' a0' a1' ∧ (T c).out t o' ∧ (T c).nxt t p'

/-- The four scratch buffers. -/
abbrev scr0 : Memref sig .tc .vmem S1024x2048 .bf16 := Memref.whole cc0_scratch0
abbrev scr1 : Memref sig .tc .vmem S1024x2048 .bf16 := Memref.whole cc0_scratch1
abbrev scr2 : Memref sig .tc .vmem S1024x2048 .f32 := Memref.whole cc0_scratch2
abbrev scr3 : Memref sig .tc .vmem S1024x2048 .f32 := Memref.whole cc0_scratch3

/-- What a point leaves in a window's buffer: an input's block as found, an output's block as tracked. -/
def left (c : Dev nD) : (w : Fin cfg0.W) → Fin cfg0.N → (Y X : (cfg0.win w).block.Idx → Elt F (cfg0.win w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, _, Y, X => X = Y
  | 8, t, _, X => (T c).out t X
  | 9, t, _, X => (T c).nxt t X

/-- The relational proof data of the one region. -/
def rdat (c : Dev nD) : RDat τ (Elt F) Unit ℕ (UR sig nD τ) ℕ cfg0 c where
  A w := V m c (Pipeline.arrRef spec0 w)
  after := left T c
  Φ t := iprop((∃ x0 x1 a0 a1, ⌜(T c).inv t.val x0 x1 a0 a1⌝ ∗ owns (c : Thread nD τ) scr0 fullShare x0 ∗ owns (c : Thread nD τ) scr1 fullShare x1
    ∗ owns (c : Thread nD τ) scr2 fullShare a0 ∗ owns (c : Thread nD τ) scr3 fullShare a1) ∗ ∃ r, prngReg c r)
  q w := Pipeline.shareOf spec0 w
  owed _ := 0

theorem finds0 (c : Dev nD) (t : Fin cfg0.N) (Y) (h : (rdat m T c).Finds 0 t Y) : Y = iblk m c 0 t := by
  obtain ⟨d, rfl⟩ := (rdat m T c).finds_in_eq_fetched 0 rfl (fun _ _ _ => rfl) (fun _ _ _ h => h) t Y h
  unfold RDat.fetched RDat.blockOf iblk; rfl
theorem finds1 (c : Dev nD) (t : Fin cfg0.N) (Y) (h : (rdat m T c).Finds 1 t Y) : Y = iblk m c 1 t := by
  obtain ⟨d, rfl⟩ := (rdat m T c).finds_in_eq_fetched 1 rfl (fun _ _ _ => rfl) (fun _ _ _ h => h) t Y h
  unfold RDat.fetched RDat.blockOf iblk; rfl
theorem finds2 (c : Dev nD) (t : Fin cfg0.N) (Y) (h : (rdat m T c).Finds 2 t Y) : Y = iblk m c 2 t := by
  obtain ⟨d, rfl⟩ := (rdat m T c).finds_in_eq_fetched 2 rfl (fun _ _ _ => rfl) (fun _ _ _ h => h) t Y h
  unfold RDat.fetched RDat.blockOf iblk; rfl
theorem finds3 (c : Dev nD) (t : Fin cfg0.N) (Y) (h : (rdat m T c).Finds 3 t Y) : Y = iblk m c 3 t := by
  obtain ⟨d, rfl⟩ := (rdat m T c).finds_in_eq_fetched 3 rfl (fun _ _ _ => rfl) (fun _ _ _ h => h) t Y h
  unfold RDat.fetched RDat.blockOf iblk; rfl
theorem finds4 (c : Dev nD) (t : Fin cfg0.N) (Y) (h : (rdat m T c).Finds 4 t Y) : Y = iblk m c 4 t := by
  obtain ⟨d, rfl⟩ := (rdat m T c).finds_in_eq_fetched 4 rfl (fun _ _ _ => rfl) (fun _ _ _ h => h) t Y h
  unfold RDat.fetched RDat.blockOf iblk; rfl
theorem finds5 (c : Dev nD) (t : Fin cfg0.N) (Y) (h : (rdat m T c).Finds 5 t Y) : Y = iblk m c 5 t := by
  obtain ⟨d, rfl⟩ := (rdat m T c).finds_in_eq_fetched 5 rfl (fun _ _ _ => rfl) (fun _ _ _ h => h) t Y h
  unfold RDat.fetched RDat.blockOf iblk; rfl
theorem finds6 (c : Dev nD) (t : Fin cfg0.N) (Y) (h : (rdat m T c).Finds 6 t Y) : Y = iblk m c 6 t := by
  obtain ⟨d, rfl⟩ := (rdat m T c).finds_in_eq_fetched 6 rfl (fun _ _ _ => rfl) (fun _ _ _ h => h) t Y h
  unfold RDat.fetched RDat.blockOf iblk; rfl
theorem finds7 (c : Dev nD) (t : Fin cfg0.N) (Y) (h : (rdat m T c).Finds 7 t Y) : Y = iblk m c 7 t := by
  obtain ⟨d, rfl⟩ := (rdat m T c).finds_in_eq_fetched 7 rfl (fun _ _ _ => rfl) (fun _ _ _ h => h) t Y h
  unfold RDat.fetched RDat.blockOf iblk; rfl

/-- The body table's row at a point is the body. -/
theorem body_row (t : Fin cfg0.N) : defs₀ (F := F) .tc cfg0.body (cfg0.bodyArgs t (cfg0.slots t)) = bodyAt0 t := by
  unfold defs₀; rw [Defs.onTc_tc]

set_option maxHeartbeats 1600000 in
theorem body_obligation (c : Dev nD) (hT : Keeps m T c) :
    (rdat (F := F) m T c).BodyObligation (defs₀ (F := F)) Variants.none () Set.univ := by
  intro t Y hY
  rw [bigSep_W0, bigSep_W0, body_row]
  have e0 := finds0 m T c t _ (hY 0)
  have e1 := finds1 m T c t _ (hY 1)
  have e2 := finds2 m T c t _ (hY 2)
  have e3 := finds3 m T c t _ (hY 3)
  have e4 := finds4 m T c t _ (hY 4)
  have e5 := finds5 m T c t _ (hY 5)
  have e6 := finds6 m T c t _ (hY 6)
  have e7 := finds7 m T c t _ (hY 7)
  rw [show (rdat m T c).owesAt () t.succ = (rdat m T c).owesAt () t.castSucc from rfl]
  unfold bodyAt0
  rw [e0, e1, e2, e3, e4, e5, e6, e7]
  unfold rdat; dsimp only
  iintro ⟨⟨⟨%x0, %x1, %a0, %a1, %hi, S0, S1, S2, S3⟩, Hg⟩, Ho, H0, H1, H2, H3, H4, H5, H6, H7, H8, H9⟩
  obtain ⟨o', p', x0', x1', a0', a1', hs⟩ := step_exists t (iblk m c 0 t) (iblk m c 1 t) (iblk m c 2 t) (iblk m c 3 t) (iblk m c 4 t)
    (iblk m c 5 t) (iblk m c 6 t) (iblk m c 7 t) (Y 8) (Y 9) x0 x1 a0 a1
  obtain ⟨hi', ho', hp'⟩ := hT.step t _ _ _ _ _ _ _ _ _ _ _ _ hi hs
  iapply (run c (grid0.coords t) _ _ _ _ _ _ _ _ _ _ _ _ _ _ _ _ _ _ _ _ _ _ _ _ _ _ _ _ _ _ _ _ _ _ _ _ _ _ _ _ _ _ _ _ _ _ _ _ hs Set.univ _)
  unfold bufs
  isplitl [S0 S1 S2 S3 H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro ⟨H0, H1, H2, H3, H4, H5, H6, H7, H8, H9, S0, S1, S2, S3⟩
  isplitl [S0 S1 S2 S3 Hg]
  · isplitl [S0 S1 S2 S3]
    · iexists x0'; iexists x1'; iexists a0'; iexists a1'
      isplitr; · ipureintro; exact hi'
      isplitl [S0]; · iexact S0
      isplitl [S1]; · iexact S1
      isplitl [S2]; · iexact S2
      iexact S3
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; exact ho'
  iexists _; isplitr; swap; · iexact H9
  ipureintro; exact hp'

/-- The scratch tiles and the generator's register, as the launch hands them over. -/
theorem scratch_eq (c : Dev nD) : (Pipeline.ΦA spec0 c : sProp 𝕄)
    = iprop(((∃ x, owns (c : Thread nD τ) scr0 fullShare x) ∗ (∃ x, owns (c : Thread nD τ) scr1 fullShare x)
      ∗ (∃ x, owns (c : Thread nD τ) scr2 fullShare x) ∗ (∃ x, owns (c : Thread nD τ) scr3 fullShare x)) ∗ ∃ r, prngReg c r) := by
  unfold Pipeline.ΦA; rw [scopedRest0_eq]; simp only [scr0, scr1, scr2, scr3, owns_whole]; rfl

theorem scratch_in (c : Dev nD) (hT : Keeps m T c) : Pipeline.ΦA spec0 c ⊢ (rdat (F := F) m T c).Φ 0 := by
  rw [scratch_eq]; unfold rdat; dsimp only
  iintro ⟨⟨⟨%x0, S0⟩, ⟨%x1, S1⟩, ⟨%a0, S2⟩, ⟨%a1, S3⟩⟩, Hg⟩
  isplitl [S0 S1 S2 S3]
  · iexists x0; iexists x1; iexists a0; iexists a1
    isplitr; · ipureintro; exact hT.init _ _ _ _
    isplitl [S0]; · iexact S0
    isplitl [S1]; · iexact S1
    isplitl [S2]; · iexact S2
    iexact S3
  iexact Hg

theorem scratch_out (c : Dev nD) : (rdat (F := F) m T c).Φ (Fin.last cfg0.N) ⊢ Pipeline.ΦA spec0 c := by
  rw [scratch_eq]; unfold rdat; dsimp only
  iintro ⟨⟨%x0, %x1, %a0, %a1, -, S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The launch with what is tracked: every weakly fair execution ends, the arrays as the proof data say and the counters at zero. -/
theorem run_main (hT : ∀ c, Keeps m T c) : θ_run defs (onTc (τ := τ) (main (F := F))) (s₀ m ρ)
    (fun r => RDat.FramePost cfg0 (rdat m T) (V m) r ∧ r.2.sem = fun _ => 0) :=
  RDat.θ_run_frame_track_shared (Q' := _) cfgs (0 : Fin 1) launch₀0 defs₀ Variants.none (rdat m T) m ρ main
    (fun c => body_obligation m T c (hT c)) (fun _ _ _ => rfl) (fun _ _ => rfl) (V m) (hmain m Variants.none) (fun _ _ => rfl)
    (fun c => scratch_in m T c (hT c)) (fun c => scratch_out m T c) (fun _ h => h)

/-- Nothing tracked. -/
def noTrack (F : FTy → Type) : Track F := ⟨fun _ _ _ _ _ => True, fun _ _ => True, fun _ _ => True⟩

/-- The frame: every weakly fair execution ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨h.1.arr_in c 1 rfl, h.1.arr_in c 2 rfl, h.1.arr_in c 3 rfl, h.1.arr_in c 4 rfl,
      h.1.arr_in c 5 rfl, h.1.arr_in c 6 rfl, h.1.arr_in c 7 rfl⟩, h.2⟩)
    (run_main m ρ (fun _ => noTrack F) fun c => ⟨fun _ _ _ _ => trivial, fun _ _ _ _ _ _ _ _ _ _ _ _ _ _ _ => ⟨trivial, trivial, trivial⟩⟩)

end Cert.FfnOneIdeal.Body
-- ==== Proof.FfnOneValue.lean ====
/-
  The value of the first feed-forward block: the kernel's two results, the new residual and its normed rows for the next block, are
  the reference's terms of the same arguments. The tiles are followed as in the second block; the payloads are the same functions.
-/
module

public import proofs.«01_k».proof.Defs
public import proofs.«01_k».proof.Proof.FfnOneBody
public import proofs.«01_k».proof.Proof.FfnPay
public import proofs.«01_k».proof.Proof.FfnRef
public import proofs.«01_k».proof.Proof.Gen.FfnOneRefIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat RDat)

namespace Cert.FfnOneIdeal.Body

open Cert.FfnOneIdeal Cert.FfnOneIdeal.Gen Cert.Proof

theorem norm_at (x : FVec Ideal S128x2048 .f32) (g : FVec Ideal S1x2048 .f32) (r : Fin 128) (l : Fin 2048) :
    k0_pay2 (F := Ideal) x g (ix2 r l) = rowNorm (fun a => x (ix2 r a)) (g (ix2 0 l)) l :=
  Cert.FfnTwoIdeal.Body.norm_at x g r l

theorem fin_at (h y : FVec Ideal S128x2048 .f32) (g : FVec Ideal S1x2048 .f32) (r : Fin 128) (l : Fin 2048) :
    k0_pay7 (F := Ideal) h y g (ix2 r l)
      = h (ix2 r l) + Ideal.ofBits .f32 0x3F000000#32 * rowNorm (fun a => y (ix2 r a)) (g (ix2 0 l)) l :=
  Cert.FfnTwoIdeal.Body.fin_at h y g r l

/-- The rows handed to the next block: the finished rows, normed. -/
theorem nxt_at (h y : FVec Ideal S128x2048 .f32) (g gn : FVec Ideal S1x2048 .f32) (r : Fin 128) (l : Fin 2048) :
    k0_pay8 (F := Ideal) h y g gn (ix2 r l) = rowNorm (fun a => k0_pay7 (F := Ideal) h y g (ix2 r a)) (gn (ix2 0 l)) l := by
  unfold k0_pay8
  generalize k0_pay7 (F := Ideal) h y g = z
  pointwise [rowNorm]

/-- A chunk's contribution to the down product. -/
def chunk (x : FVec Ideal S1024x2048 .bf16) (wg wu : FVec Ideal S2048x512 .bf16) (wd : FVec Ideal S512x2048 .bf16) :
    FVec Ideal S1024x2048 .f32 :=
  Cert.FfnTwoIdeal.Body.dotDown (Cert.FfnTwoIdeal.Body.dotUp x wg) (Cert.FfnTwoIdeal.Body.dotUp x wu) wd

theorem chunk_at (x : FVec Ideal S1024x2048 .bf16) (wg wu : FVec Ideal S2048x512 .bf16) (wd : FVec Ideal S512x2048 .bf16)
    (r : Fin 1024) (l : Fin 2048) : chunk x wg wu wd (ix2 r l)
      = ∑ a : Fin 512, (∑ k : Fin 2048, x (ix2 r k) * wg (ix2 k a)) * Ideal.logistic (∑ k : Fin 2048, x (ix2 r k) * wg (ix2 k a))
          * (∑ k : Fin 2048, x (ix2 r k) * wu (ix2 k a)) * wd (ix2 a l) := by
  refine (Cert.FfnTwoIdeal.Body.dotDown_at _ _ wd r l).trans ?_
  simp only [Cert.FfnTwoIdeal.Body.dotUp_at]

theorem acc_at (i : grid0.Coords) (x : FVec Ideal S1024x2048 .bf16) (wg wu : FVec Ideal S2048x512 .bf16)
    (wd : FVec Ideal S512x2048 .bf16) (acc : FVec Ideal S1024x2048 .f32) (r : Fin 1024) (l : Fin 2048) :
    k0_pay4 (F := Ideal) i x wg wu wd acc (ix2 r l)
      = if (i 1).val = 0 then chunk x wg wu wd (ix2 r l) else acc (ix2 r l) + chunk x wg wu wd (ix2 r l) :=
  Cert.FfnTwoIdeal.Body.acc_at i x wg wu wd acc r l

section

variable {e : EltTy}

theorem rows_at (i : grid0.Coords) (s : Vec Ideal S1024x2048 e) (r : Fin 128) (l : Fin 2048) (h : 128 * min (i 1).val 7 + r.val < 1024) :
    rows i s (ix2 r l) = s (ix2 ⟨128 * min (i 1).val 7 + r.val, h⟩ l) :=
  Cert.FfnTwoIdeal.Body.rows_at i s r l h

theorem setRows_in (i : grid0.Coords) (s : Vec Ideal S1024x2048 e) (p : Vec Ideal S128x2048 e) (k : Fin 1024) (l : Fin 2048)
    (h0 : 128 * min (i 1).val 7 ≤ k.val) (h1 : k.val - 128 * min (i 1).val 7 < 128) :
    setRows i s p (ix2 k l) = p (ix2 ⟨k.val - 128 * min (i 1).val 7, h1⟩ l) :=
  Cert.FfnTwoIdeal.Body.setRows_in i s p k l h0 h1

theorem setRows_out (i : grid0.Coords) (s : Vec Ideal S1024x2048 e) (p : Vec Ideal S128x2048 e) (k : Fin 1024) (l : Fin 2048)
    (h : ¬ (128 * min (i 1).val 7 ≤ k.val ∧ k.val < 128 * min (i 1).val 7 + 128)) :
    setRows i s p (ix2 k l) = s (ix2 k l) :=
  Cert.FfnTwoIdeal.Body.setRows_out i s p k l h

end

/-- Where each window's block sits at a point. -/
theorem idx : ∀ t : Fin cfg0.N, win0_0.index t = ![(t.val / 11 - 2) * 8 + (if 2 ≤ t.val / 11 then min (t.val % 11) 7 else 0), 0]
    ∧ win0_1.index t = ![min (t.val / 11) 31 * 8 + min (t.val % 11) 7, 0] ∧ win0_2.index t = ![0, 0] ∧ win0_3.index t = ![0, 0]
    ∧ win0_4.index t = ![0, if 1 ≤ t.val / 11 ∧ t.val / 11 ≤ 32 then t.val % 11 else 0]
    ∧ win0_5.index t = ![0, if 1 ≤ t.val / 11 ∧ t.val / 11 ≤ 32 then t.val % 11 else 0]
    ∧ win0_6.index t = ![if 1 ≤ t.val / 11 ∧ t.val / 11 ≤ 32 then t.val % 11 else 0, 0]
    ∧ win0_7.index t = ![0, 0]
    ∧ win0_8.index t = ![(t.val / 11 - 2) * 8 + (if 2 ≤ t.val / 11 then min (t.val % 11) 7 else 0), 0]
    ∧ win0_9.index t = ![(t.val / 11 - 2) * 8 + (if 2 ≤ t.val / 11 then min (t.val % 11) 7 else 0), 0] :=
  (by decide +kernel : ∀ t : Fin grid0.N, _)

variable (m : (ℓ : Loc nD τ sig) → Buf (Elt Ideal) ℓ) (c : Dev nD)

/-- The launch's arguments. -/
def dat : Ffn := Cert.FfnTwoRefIdeal.Value.data (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

theorem blk0 (t : Fin cfg0.N) (h : 2 ≤ t.val / 11) (a : Fin 128) (l : Fin 2048) :
    iblk m c 0 t (ix2 a l) = (dat m c).h (1024 * (t.val / 11 - 2) + 128 * min (t.val % 11) 7 + a.val) l := by
  have i0 := (idx t).1
  have ht : t.val < 374 := t.isLt
  rw [if_pos h] at i0
  unfold dat Cert.FfnTwoRefIdeal.Value.data
  blk_point [iblk, V, i0]

theorem blk1 (t : Fin cfg0.N) (h : t.val / 11 ≤ 31) (a : Fin 128) (l : Fin 2048) :
    iblk m c 1 t (ix2 a l) = (dat m c).h (1024 * (t.val / 11) + 128 * min (t.val % 11) 7 + a.val) l := by
  have i0 := (idx t).2.1
  have ht : t.val < 374 := t.isLt
  rw [show min (t.val / 11) 31 = t.val / 11 by omega] at i0
  unfold dat Cert.FfnTwoRefIdeal.Value.data
  blk_point [iblk, V, i0]

theorem blk2 (t : Fin cfg0.N) (l : Fin 2048) : iblk m c 2 t (ix2 0 l) = (dat m c).pre l := by
  unfold dat Cert.FfnTwoRefIdeal.Value.data
  blk_point [iblk, V, idx t]

theorem blk3 (t : Fin cfg0.N) (l : Fin 2048) : iblk m c 3 t (ix2 0 l) = (dat m c).post l := by
  unfold dat Cert.FfnTwoRefIdeal.Value.data
  blk_point [iblk, V, idx t]

theorem blk4 (t : Fin cfg0.N) (h : 1 ≤ t.val / 11 ∧ t.val / 11 ≤ 32) (k : Fin 2048) (a : Fin 512) :
    iblk m c 4 t (ix2 k a) = (dat m c).gate k (512 * (t.val % 11) + a.val) := by
  have i0 := (idx t).2.2.2.2.1
  rw [if_pos h] at i0
  unfold dat Cert.FfnTwoRefIdeal.Value.data
  blk_point [iblk, V, i0]

theorem blk5 (t : Fin cfg0.N) (h : 1 ≤ t.val / 11 ∧ t.val / 11 ≤ 32) (k : Fin 2048) (a : Fin 512) :
    iblk m c 5 t (ix2 k a) = (dat m c).up k (512 * (t.val % 11) + a.val) := by
  have i0 := (idx t).2.2.2.2.2.1
  rw [if_pos h] at i0
  unfold dat Cert.FfnTwoRefIdeal.Value.data
  blk_point [iblk, V, i0]

theorem blk6 (t : Fin cfg0.N) (h : 1 ≤ t.val / 11 ∧ t.val / 11 ≤ 32) (a : Fin 512) (l : Fin 2048) :
    iblk m c 6 t (ix2 a l) = (dat m c).down (512 * (t.val % 11) + a.val) l := by
  have i0 := (idx t).2.2.2.2.2.2.1
  rw [if_pos h] at i0
  unfold dat Cert.FfnTwoRefIdeal.Value.data
  blk_point [iblk, V, i0]

/-- The gain of the next block's norm. -/
def gain (l : Fin 2048) : EReal := (show FVec Ideal S1x2048 .f32 from m ((c : Thread nD τ).loc main_arg6)) (ix2 0 l)

theorem blk7 (t : Fin cfg0.N) (l : Fin 2048) : iblk m c 7 t (ix2 0 l) = gain m c l := by
  unfold gain
  blk_point [iblk, V, idx t]

/-- A tile as a function of row and column. -/
def tile (x : S1024x2048.Idx → EReal) : Fin 1024 → Fin 2048 → EReal := fun i l => x (ix2 i l)

/-- What is tracked: the tiles in their roles, by the row tile's parity, and the block that a point finishes. -/
def track : Track Ideal where
  inv t x0 x1 a0 a1 := if t / 11 % 2 = 0 then (dat m c).Tiles t (tile x0) (tile x1) (tile a1) (tile a0)
    else (dat m c).Tiles t (tile x1) (tile x0) (tile a0) (tile a1)
  out t o := 2 ≤ t.val / 11 → ∀ (a : Fin 128) (l : Fin 2048),
    o (ix2 a l) = (dat m c).out (1024 * (t.val / 11 - 2) + 128 * min (t.val % 11) 7 + a.val) l
  nxt t p := 2 ≤ t.val / 11 → ∀ (a : Fin 128) (l : Fin 2048),
    p (ix2 a l) = rowNorm ((dat m c).out (1024 * (t.val / 11 - 2) + 128 * min (t.val % 11) 7 + a.val)) (gain m c l) l

/-- The rows that a point norms. -/
theorem norm_rows (t : Fin cfg0.N) (hi : ((grid0.coords t) 1).val = t.val % 11) (x : FVec Ideal S1024x2048 .bf16) (h : t.val / 11 ≤ 31)
    (i : Fin 1024) (l : Fin 2048) : tile (setRows (F := Ideal) (e := .bf16) (grid0.coords t) x (k0_pay2 (F := Ideal) (iblk m c 1 t) (iblk m c 2 t))) i l
      = if 128 * min (t.val % 11) 7 ≤ i.val ∧ i.val < 128 * min (t.val % 11) 7 + 128
        then (dat m c).xn (1024 * (t.val / 11) + i.val) l else tile x i l := by
  unfold tile
  split_ifs with h0
  · have hb : i.val - 128 * min (t.val % 11) 7 < 128 := by omega
    rw [← hi] at h0 hb
    rw [setRows_in _ _ _ _ _ h0.1 hb, norm_at, blk2]
    simp only [blk1 m c t h]
    unfold Ffn.xn
    rw [hi] at h0 ⊢
    rw [show 1024 * (t.val / 11) + 128 * min (t.val % 11) 7 + (i.val - 128 * min (t.val % 11) 7) = 1024 * (t.val / 11) + i.val by omega]
  · rw [← hi] at h0
    exact setRows_out _ _ _ _ _ h0

/-- The chunk that a point sums. -/
theorem sum_chunk (t : Fin cfg0.N) (hi : ((grid0.coords t) 1).val = t.val % 11) (x : FVec Ideal S1024x2048 .bf16)
    (acc : FVec Ideal S1024x2048 .f32) (h : 1 ≤ t.val / 11 ∧ t.val / 11 ≤ 32)
    (hx : ∀ (i : Fin 1024) l, tile x i l = (dat m c).xn (1024 * (t.val / 11 - 1) + i.val) l) (i : Fin 1024) (l : Fin 2048) :
    tile (k0_pay4 (F := Ideal) (grid0.coords t) x (iblk m c 4 t) (iblk m c 5 t) (iblk m c 6 t) acc) i l
      = if t.val % 11 = 0 then (dat m c).part (1024 * (t.val / 11 - 1) + i.val) (t.val % 11) l
        else tile acc i l + (dat m c).part (1024 * (t.val / 11 - 1) + i.val) (t.val % 11) l := by
  have hd : chunk x (iblk m c 4 t) (iblk m c 5 t) (iblk m c 6 t) (ix2 i l)
      = (dat m c).part (1024 * (t.val / 11 - 1) + i.val) (t.val % 11) l := by
    have hx' : ∀ k : Fin 2048, x (ix2 i k) = (dat m c).xn (1024 * (t.val / 11 - 1) + i.val) k := fun k => hx i k
    rw [chunk_at]
    simp only [hx', blk4 m c t h, blk5 m c t h, blk6 m c t h]
    rfl
  unfold tile
  rw [acc_at, hi, hd]

/-- The block that a point finishes. -/
theorem fin_block (t : Fin cfg0.N) (hi : ((grid0.coords t) 1).val = t.val % 11) (acc : FVec Ideal S1024x2048 .f32) (h : 2 ≤ t.val / 11)
    (hy : ∀ (i : Fin 1024) l, tile acc i l = (dat m c).prod (1024 * (t.val / 11 - 2) + i.val) l) (a : Fin 128) (l : Fin 2048) :
    k0_pay7 (F := Ideal) (iblk m c 0 t) (rows (F := Ideal) (e := .f32) (grid0.coords t) acc) (iblk m c 3 t) (ix2 a l)
      = (dat m c).out (1024 * (t.val / 11 - 2) + 128 * min (t.val % 11) 7 + a.val) l := by
  have hb : 128 * min ((grid0.coords t) 1).val 7 + a.val < 1024 := by omega
  have hr : ∀ k : Fin 2048, rows (F := Ideal) (e := .f32) (grid0.coords t) acc (ix2 a k)
      = (dat m c).prod (1024 * (t.val / 11 - 2) + 128 * min (t.val % 11) 7 + a.val) k := fun k => by
    rw [rows_at _ _ _ _ hb]
    refine (hy _ k).trans ?_
    dsimp only
    rw [hi, ← Nat.add_assoc]
  rw [fin_at, blk0 m c t h, blk3]
  simp only [hr]
  rfl

/-- And its rows for the next block. -/
theorem nxt_block (t : Fin cfg0.N) (hi : ((grid0.coords t) 1).val = t.val % 11) (acc : FVec Ideal S1024x2048 .f32) (h : 2 ≤ t.val / 11)
    (hy : ∀ (i : Fin 1024) l, tile acc i l = (dat m c).prod (1024 * (t.val / 11 - 2) + i.val) l) (a : Fin 128) (l : Fin 2048) :
    k0_pay8 (F := Ideal) (iblk m c 0 t) (rows (F := Ideal) (e := .f32) (grid0.coords t) acc) (iblk m c 3 t) (iblk m c 7 t) (ix2 a l)
      = rowNorm ((dat m c).out (1024 * (t.val / 11 - 2) + 128 * min (t.val % 11) 7 + a.val)) (gain m c l) l := by
  rw [nxt_at, blk7]
  simp only [fin_block m c t hi acc h hy a]

/-- Every point keeps it. -/
theorem keeps : Keeps m (track m) c where
  init x0 x1 a0 a1 := by
    unfold track; dsimp only
    rw [if_pos (by decide)]
    exact Ffn.Tiles.start _ _ _ _ _
  step := by
    intro t o p x0 x1 a0 a1 o' p' x0' x1' a0' a1' h hs
    obtain ⟨-, hi, hcase⟩ := point_cases t
    have ht : t.val < 374 := t.isLt
    have hmod : t.val % 11 < 10 ∨ t.val % 11 = 10 := by omega
    unfold track at h ⊢
    dsimp only at h ⊢
    rcases hcase with ⟨ht0, c1, c2, c3, c4, c5⟩ | ⟨ht0, ht1, c1, c2, c3, c4, c5⟩ | ⟨ht0, ht1, hp, c1, c2, c3, c4, c5⟩
      | ⟨ht0, ht1, hp, c1, c2, c3, c4, c5⟩ | ⟨ht0, c1, c2, c3, c4, c5⟩ <;> cases hs <;> first | contradiction | skip
    · rw [if_pos (by omega)] at h
      refine ⟨?_, fun h2 => absurd h2 (by omega), fun h2 => absurd h2 (by omega)⟩
      have hn := h.next (norm_rows m c t hi x0) (ca' := tile (k0_pay1 (F := Ideal))) fun h1 => absurd h1 (by omega)
      rw [if_pos (by omega)]; exact hn.1 (by omega)
    · rw [if_pos (by omega)] at h
      refine ⟨?_, fun h2 => absurd h2 (by omega), fun h2 => absurd h2 (by omega)⟩
      have hn := h.next (norm_rows m c t hi x0) (ca' := tile a1) fun h1 => absurd h1 (by omega)
      rcases hmod with hf | hf
      · rw [if_pos (by omega)]; exact hn.1 hf
      · rw [if_neg (by omega)]; exact hn.2 hf
    · rw [if_pos hp] at h
      have hn := h.next (norm_rows m c t hi x0) fun h1 h2 => sum_chunk m c t hi x1 a1 ⟨h1, h2⟩ (h.normed h1 h2)
      refine ⟨?_, fun h2 => fin_block m c t hi a0 h2 (h.summed h2 (by omega)),
        fun h2 => nxt_block m c t hi a0 h2 (h.summed h2 (by omega))⟩
      rcases hmod with hf | hf
      · rw [if_pos (by omega)]; exact hn.1 hf
      · rw [if_neg (by omega)]; exact hn.2 hf
    · rw [if_neg (by omega)] at h
      have hn := h.next (norm_rows m c t hi x1) fun h1 h2 => sum_chunk m c t hi x0 a0 ⟨h1, h2⟩ (h.normed h1 h2)
      refine ⟨?_, fun h2 => fin_block m c t hi a1 h2 (h.summed h2 (by omega)),
        fun h2 => nxt_block m c t hi a1 h2 (h.summed h2 (by omega))⟩
      rcases hmod with hf | hf
      · rw [if_neg (by omega)]; exact hn.1 hf
      · rw [if_pos (by omega)]; exact hn.2 hf
    · rw [if_neg (by omega)] at h
      have hn := h.next (nx' := tile x1) (ca' := tile a0) (fun h1 => absurd h1 (by omega)) fun h1 h2 => absurd h2 (by omega)
      refine ⟨?_, fun h2 => fin_block m c t hi a1 h2 (h.summed h2 (by omega)),
        fun h2 => nxt_block m c t hi a1 h2 (h.summed h2 (by omega))⟩
      rcases hmod with hf | hf
      · rw [if_neg (by omega)]; exact hn.1 hf
      · rw [if_pos (by omega)]; exact hn.2 hf

/-- Only points from the third row of the grid on write a block back. -/
theorem flush_late : ∀ t : Fin cfg0.N, ((cfg0.win 8).flush t = true → 2 ≤ t.val / 11) ∧ ((cfg0.win 9).flush t = true → 2 ≤ t.val / 11) :=
  (by decide +kernel : ∀ t : Fin grid0.N, ((cfg0.win 8).flush t = true → 2 ≤ t.val / 11) ∧ ((cfg0.win 9).flush t = true → 2 ≤ t.val / 11))

/-- The reference's first result. -/
def outA : FVec Ideal Cert.FfnTwoRefIdeal.S32768x2048 .f32 := Cert.FfnTwoRefIdeal.Value.outT (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5))

theorem outA_at (r : Fin 32768) (l : Fin 2048) : outA m c (ix2 r l) = (dat m c).out r.val l :=
  Cert.FfnTwoRefIdeal.Value.outT_at _ _ _ _ _ _ r l

/-- The reference's second result. -/
def nxtA : FVec Ideal Cert.FfnTwoRefIdeal.S32768x2048 .bf16 := truncf .bf16
  (Cert.FfnTwoRefIdeal.Value.normT (outA m c) (m ((c : Thread nD τ).loc main_arg6))) (by decide)

theorem nxtA_at (r : Fin 32768) (l : Fin 2048) : nxtA m c (ix2 r l) = rowNorm ((dat m c).out r.val) (gain m c l) l := by
  have e : nxtA m c (ix2 r l) = rowNorm (fun a => outA m c (ix2 r a)) (gain m c l) l :=
    Cert.FfnTwoRefIdeal.Value.normT_at (outA m c) _ r l
  rw [e]
  simp only [outA_at]

variable (after : (w : Fin cfg0.W) → Fin cfg0.N → (cfg0.win w).block.Idx → Elt Ideal (cfg0.win w).elt)
  (ha : ∀ (w : Fin cfg0.W) (u : Fin cfg0.N), (cfg0.win w).flush u = true → (rdat m (track m) c).Leaves w u (after w u))

include ha

/-- The first result array, whatever the body left at the points that write it back, so long as each left what is tracked. -/
theorem final : ((rdat m (track m) c).withAfter after).arrAt 8 cfg0.N = outA m c := by
  refine ((rdat m (track m) c).withAfter after).arrAt_eq_of_covers 8 _ (by decide +kernel) fun t hf y => ?_
  have h2 := (flush_late t).1 hf
  obtain ⟨Y, -, hl⟩ := ha 8 t hf
  obtain ⟨r, l, rfl⟩ : ∃ (r : Fin 128) (l : Fin 2048), y = ix2 r l := ⟨y 0, y 1, eq_ix2 y⟩
  have hl : ∀ (a : Fin 128) (l : Fin 2048), after 8 t (ix2 a l) = (dat m c).out (1024 * (t.val / 11 - 2) + 128 * min (t.val % 11) 7 + a.val) l :=
    (show (track m c).out t (after 8 t) from hl) h2
  obtain ⟨i, j, hij⟩ : ∃ (i : Fin 32768) (j : Fin 2048), ((cfg0.win 8).blk t).view.emb (ix2 r l) = ix2 i j := ⟨_, _, eq_ix2 _⟩
  have hi := congrArg (fun x => (x 0).val) hij
  have hj := congrArg (fun x => (x 1).val) hij
  have i0 := (idx t).2.2.2.2.2.2.2.2.1
  rw [if_pos h2] at i0
  blk_simp [i0] at hi hj
  refine Eq.trans ?_ (congrArg _ hij.symm)
  rw [outA_at]
  obtain rfl : l = j := Fin.ext (by omega)
  refine (hl r l).trans ?_
  rw [show 1024 * (t.val / 11 - 2) + 128 * min (t.val % 11) 7 + r.val = i.val by omega]

/-- The second result array, whatever the body left at the points that write it back, so long as each left what is tracked. -/
theorem final_next : ((rdat m (track m) c).withAfter after).arrAt 9 cfg0.N = nxtA m c := by
  refine ((rdat m (track m) c).withAfter after).arrAt_eq_of_covers 9 _ (by decide +kernel) fun t hf y => ?_
  have h2 := (flush_late t).2 hf
  obtain ⟨Y, -, hl⟩ := ha 9 t hf
  obtain ⟨r, l, rfl⟩ : ∃ (r : Fin 128) (l : Fin 2048), y = ix2 r l := ⟨y 0, y 1, eq_ix2 y⟩
  have hl : ∀ (a : Fin 128) (l : Fin 2048), after 9 t (ix2 a l) = rowNorm ((dat m c).out (1024 * (t.val / 11 - 2) + 128 * min (t.val % 11) 7 + a.val)) (gain m c l) l :=
    (show (track m c).nxt t (after 9 t) from hl) h2
  obtain ⟨i, j, hij⟩ : ∃ (i : Fin 32768) (j : Fin 2048), ((cfg0.win 9).blk t).view.emb (ix2 r l) = ix2 i j := ⟨_, _, eq_ix2 _⟩
  have hi := congrArg (fun x => (x 0).val) hij
  have hj := congrArg (fun x => (x 1).val) hij
  have i0 := (idx t).2.2.2.2.2.2.2.2.2
  rw [if_pos h2] at i0
  blk_simp [i0] at hi hj
  refine Eq.trans ?_ (congrArg _ hij.symm)
  rw [nxtA_at]
  obtain rfl : l = j := Fin.ext (by omega)
  refine (hl r l).trans ?_
  rw [show 1024 * (t.val / 11 - 2) + 128 * min (t.val % 11) 7 + r.val = i.val by omega]

end Cert.FfnOneIdeal.Body

namespace Cert.Proof

open Cert.FfnOneIdeal Cert.FfnOneIdeal.Gen Cert.FfnOneIdeal.Body

variable (m : (ℓ : Loc Cert.FfnOneRefIdeal.nD Cert.FfnOneRefIdeal.τ Cert.FfnOneRefIdeal.sig) → Buf (Elt Ideal) ℓ)
  (c : Dev Cert.FfnOneRefIdeal.nD)

theorem ref_out : Cert.FfnOneRefIdeal.Value.res_main_v38 m c
    = Cert.FfnTwoRefIdeal.Value.outT (m ((c.tc : Thread Cert.FfnOneRefIdeal.nD Cert.FfnOneRefIdeal.τ).loc Cert.FfnOneRefIdeal.main_arg0)) (m ((c.tc : Thread Cert.FfnOneRefIdeal.nD Cert.FfnOneRefIdeal.τ).loc Cert.FfnOneRefIdeal.main_arg1))
      (m ((c.tc : Thread Cert.FfnOneRefIdeal.nD Cert.FfnOneRefIdeal.τ).loc Cert.FfnOneRefIdeal.main_arg2)) (m ((c.tc : Thread Cert.FfnOneRefIdeal.nD Cert.FfnOneRefIdeal.τ).loc Cert.FfnOneRefIdeal.main_arg3))
      (m ((c.tc : Thread Cert.FfnOneRefIdeal.nD Cert.FfnOneRefIdeal.τ).loc Cert.FfnOneRefIdeal.main_arg4)) (m ((c.tc : Thread Cert.FfnOneRefIdeal.nD Cert.FfnOneRefIdeal.τ).loc Cert.FfnOneRefIdeal.main_arg5)) := rfl

theorem ref_next : Cert.FfnOneRefIdeal.Value.res_main_v53 m c
    = truncf .bf16 (Cert.FfnTwoRefIdeal.Value.normT (
      Cert.FfnTwoRefIdeal.Value.outT (m ((c.tc : Thread Cert.FfnOneRefIdeal.nD Cert.FfnOneRefIdeal.τ).loc Cert.FfnOneRefIdeal.main_arg0)) (m ((c.tc : Thread Cert.FfnOneRefIdeal.nD Cert.FfnOneRefIdeal.τ).loc Cert.FfnOneRefIdeal.main_arg1))
      (m ((c.tc : Thread Cert.FfnOneRefIdeal.nD Cert.FfnOneRefIdeal.τ).loc Cert.FfnOneRefIdeal.main_arg2)) (m ((c.tc : Thread Cert.FfnOneRefIdeal.nD Cert.FfnOneRefIdeal.τ).loc Cert.FfnOneRefIdeal.main_arg3))
      (m ((c.tc : Thread Cert.FfnOneRefIdeal.nD Cert.FfnOneRefIdeal.τ).loc Cert.FfnOneRefIdeal.main_arg4)) (m ((c.tc : Thread Cert.FfnOneRefIdeal.nD Cert.FfnOneRefIdeal.τ).loc Cert.FfnOneRefIdeal.main_arg5)))
      (m ((c.tc : Thread Cert.FfnOneRefIdeal.nD Cert.FfnOneRefIdeal.τ).loc Cert.FfnOneRefIdeal.main_arg6))) (by decide) := rfl

theorem algebraic_ffnOne : Cert.algebraic_FfnOneIdeal_FfnOneRefIdeal (hFfnOneIdeal := Cert.FfnOneIdeal.Gen.facts)
    (hFfnOneRefIdeal := Cert.FfnOneRefIdeal.Gen.facts) := by
  intro m g m' g' _ hargs
  refine ⟨fun c => Cert.FfnOneRefIdeal.Value.res_main_v38 m' c, fun c => Cert.FfnOneRefIdeal.Value.res_main_v53 m' c, ?_, ?_⟩
  · refine (θ_run (Cert.FfnOneIdeal.defs (F := Ideal)) _ _).mono (fun r h c => ?_) (run_main m g (track m) fun c => keeps m c)
    obtain ⟨after, ha, hA⟩ := h.1.exists_exact c
    obtain ⟨e0, e1, e2, e3, e4, e5, e6⟩ := hargs c
    refine ⟨((hA 8).trans (final m c after ha)).trans ?_, ((hA 9).trans (final_next m c after ha)).trans ?_, h.1.arr_in c 1 rfl,
      h.1.arr_in c 2 rfl, h.1.arr_in c 3 rfl, h.1.arr_in c 4 rfl, h.1.arr_in c 5 rfl, h.1.arr_in c 6 rfl, h.1.arr_in c 7 rfl⟩
    · show _ = Cert.FfnOneRefIdeal.Value.res_main_v38 m' c
      rw [ref_out, outA, e0, e1, e2, e3, e4, e5]
    · show _ = Cert.FfnOneRefIdeal.Value.res_main_v53 m' c
      rw [ref_next, nxtA, outA, e0, e1, e2, e3, e4, e5, e6]
  · exact (θ_run (Cert.FfnOneRefIdeal.defs (F := Ideal)) _ _).mono (fun r h c => h c) (Cert.FfnOneRefIdeal.Value.run (F := Ideal) m' g')

end Cert.Proof

end
-- ==== Proof.FfnOneFrame.lean ====
/- The frame of the program as compiled, from the one of the program as idealized: no rule rewrites it, so the two programs are one text. -/
module

public import proofs.«01_k».proof.Defs
public import proofs.«01_k».proof.Proof.FfnOneBody
public import proofs.«01_k».proof.Proof.Gen.FfnOne.Frame

@[expose] public section

noncomputable section

namespace Cert.FfnOne.Body

open Idealize.ShloMosaic Idealize.ShloMosaic.TcCoe Idealize.SL.Sem

variable {F : FTy → Type} [FloatOps F]

/-- The two body tables agree at their one label. -/
theorem body_table : @Cert.FfnOneIdeal.defs₀ F _ Cert.FfnOneIdeal.Gen.facts = @Cert.FfnOne.defs₀ F _ Cert.FfnOne.Gen.facts :=
  congrArg Defs.onTc (funext fun l => funext fun x => by
    match l, x with
    | 0, (t, s) => rfl
    | ⟨_ + 1, h⟩, _ => exact absurd h (Nat.not_lt.2 (Nat.le_add_left _ _)))

theorem frame : Cert.quiescent_FfnOne (hFfnOne := Cert.FfnOne.Gen.facts) := by
  intro m ρ _
  have h := Cert.FfnOneIdeal.Body.frame (F := Bits) m ρ
  unfold Cert.FfnOneIdeal.defs at h
  rw [body_table] at h
  exact h

end Cert.FfnOne.Body

end
-- ==== Proof.InpValue.lean ====
/-
  The value of the mixer's input projection: its four results are the reference's terms of the same arguments. A point
  takes 512 rows. The recurrence's input goes through a scratch buffer and is stored in 128 pieces, each a strided load
  of it; one lemma at variable piece serves them all.
-/
module

public import proofs.«01_k».proof.Defs
public import proofs.«01_k».proof.Proof.Gen.InpIdeal.Value
public import proofs.«01_k».proof.Proof.Gen.InpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InpRefIdeal.Value

open Cert.InpRefIdeal Cert.InpRefIdeal.Gen

/-- The two products. -/
def wide (X : FVec Ideal S32768x2048 .bf16) (W : FVec Ideal S2048x4096 .bf16) : FVec Ideal S32768x4096 .f32 :=
  Host.dotGeneral dot_S32768x2048_S2048x4096_S32768x4096_1_0_0_1_n_n none (extf .f32 X bitsLt_bf16_f32) (extf .f32 W bitsLt_bf16_f32)

theorem wide_at (X : FVec Ideal S32768x2048 .bf16) (W : FVec Ideal S2048x4096 .bf16) (r : Fin 32768) (l : Fin 4096) :
    wide X W (ix2 r l) = ∑ k : Fin 2048, X (ix2 r k) * W (ix2 k l) := by
  pointwise [wide]

def narrow (X : FVec Ideal S32768x2048 .bf16) (W : FVec Ideal S2048x1024 .bf16) : FVec Ideal S32768x1024 .f32 :=
  Host.dotGeneral dot_S32768x2048_S2048x1024_S32768x1024_1_0_0_1_n_n none (extf .f32 X bitsLt_bf16_f32) (extf .f32 W bitsLt_bf16_f32)

theorem narrow_at (X : FVec Ideal S32768x2048 .bf16) (W : FVec Ideal S2048x1024 .bf16) (r : Fin 32768) (l : Fin 1024) :
    narrow X W (ix2 r l) = ∑ k : Fin 2048, X (ix2 r k) * W (ix2 k l) := by
  pointwise [narrow]

/-- The first result: the wide product rounded. -/
def projT (z : FVec Ideal S32768x4096 .f32) : FVec Ideal S32768x4096 .bf16 := truncf .bf16 z bitsLt_bf16_f32

theorem projT_at (z : FVec Ideal S32768x4096 .f32) (r : Fin 32768) (l : Fin 4096) : projT z (ix2 r l) = z (ix2 r l) := rfl

/-- The second and third: the last 512 rows of each sequence, the columns of the keys, of the values. -/
def keysT (z : FVec Ideal S32768x4096 .f32) : FVec Ideal S4096x1024 .f32 :=
  shapeCast _ (extractStridedSlice S8x512x1024 ![0, 0, 1024] (extractStridedSlice S8x512x4096 ![0, 3584, 0] (shapeCast _ z shapeCasts_S32768x4096_S8x4096x4096) slices_S8x4096x4096_S8x512x4096_0_3584_0) slices_S8x512x4096_S8x512x1024_0_0_1024) shapeCasts_S8x512x1024_S4096x1024

def valuesT (z : FVec Ideal S32768x4096 .f32) : FVec Ideal S4096x1024 .f32 :=
  shapeCast _ (extractStridedSlice S8x512x1024 ![0, 0, 2048] (extractStridedSlice S8x512x4096 ![0, 3584, 0] (shapeCast _ z shapeCasts_S32768x4096_S8x4096x4096) slices_S8x4096x4096_S8x512x4096_0_3584_0) slices_S8x512x4096_S8x512x1024_0_0_2048) shapeCasts_S8x512x1024_S4096x1024

/-- The fourth: channels in octets, steps in chunks of 16. -/
def octT (z : FVec Ideal S32768x1024 .f32) : FVec Ideal S8x2048x2048 .f32 :=
  shapeCast _ (transpose S8x2048x16x128 [2, 0, 1, 3] (shapeCast _ z shapeCasts_S32768x1024_S2048x16x8x128) transposes_S2048x16x8x128_S8x2048x16x128_2_0_1_3) shapeCasts_S8x2048x16x128_S8x2048x2048

theorem keysT_at (z : FVec Ideal S32768x4096 .f32) (r : Fin 4096) (l : Fin 1024) (i : Fin 32768) (j : Fin 4096)
    (hi : i.val = r.val / 512 * 4096 + 3584 + r.val % 512) (hj : j.val = 1024 + l.val) : keysT z (ix2 r l) = z (ix2 i j) := by
  pointwise [keysT]
  blk_ext

theorem valuesT_at (z : FVec Ideal S32768x4096 .f32) (r : Fin 4096) (l : Fin 1024) (i : Fin 32768) (j : Fin 4096)
    (hi : i.val = r.val / 512 * 4096 + 3584 + r.val % 512) (hj : j.val = 2048 + l.val) : valuesT z (ix2 r l) = z (ix2 i j) := by
  pointwise [valuesT]
  blk_ext

theorem octT_at (z : FVec Ideal S32768x1024 .f32) (o : Fin 8) (q : Fin 2048) (l : Fin 2048) (i : Fin 32768) (j : Fin 1024)
    (hi : i.val = q.val * 16 + l.val / 128) (hj : j.val = o.val * 128 + l.val % 128) : octT z (ix3 o q l) = z (ix2 i j) := by
  pointwise [octT]
  blk_ext

end Cert.InpRefIdeal.Value

namespace Cert.InpIdeal.Value

open Cert.InpIdeal Cert.InpIdeal.Gen

/-- Where each window's block sits, at every one of the 64 points. -/
theorem idx : ∀ t : Fin cfg0.N, win0_0.index t = ![t.val, 0] ∧ win0_1.index t = ![0, 0] ∧ win0_2.index t = ![0, 0]
    ∧ win0_3.index t = ![t.val, 0] ∧ win0_4.index t = ![t.val / 8, 0] ∧ win0_5.index t = ![t.val / 8, 0] ∧ win0_6.index t = ![0, t.val, 0] :=
  (by decide +kernel : ∀ t : Fin grid0.N, _)

/-- The product that the scratch buffer takes. -/
theorem nat_at (x : FVec Ideal S512x2048 .bf16) (w : FVec Ideal S2048x1024 .bf16) (r : Fin 512) (l : Fin 1024) :
    k0_pay8 (F := Ideal) x w (ix2 r l) = ∑ k : Fin 2048, x (ix2 r k) * w (ix2 k l) := by
  pointwise [k0_pay8]

/-- The scratch buffer's stores, last first: an octet of channels each, of the product `z`. -/
def octets (z : FVec Ideal S512x1024 .f32) : List (View.Piece (Elt Ideal) S8x512x128 .f32) :=
  [⟨Rect.unit ![7, 0, 0] S1x512x128.size inb_S8x512x128_S1x512x128_7_0_0, k0_pay17 (F := Ideal) z⟩,
   ⟨Rect.unit ![6, 0, 0] S1x512x128.size inb_S8x512x128_S1x512x128_6_0_0, k0_pay16 (F := Ideal) z⟩,
   ⟨Rect.unit ![5, 0, 0] S1x512x128.size inb_S8x512x128_S1x512x128_5_0_0, k0_pay15 (F := Ideal) z⟩,
   ⟨Rect.unit ![4, 0, 0] S1x512x128.size inb_S8x512x128_S1x512x128_4_0_0, k0_pay14 (F := Ideal) z⟩,
   ⟨Rect.unit ![3, 0, 0] S1x512x128.size inb_S8x512x128_S1x512x128_3_0_0, k0_pay13 (F := Ideal) z⟩,
   ⟨Rect.unit ![2, 0, 0] S1x512x128.size inb_S8x512x128_S1x512x128_2_0_0, k0_pay12 (F := Ideal) z⟩,
   ⟨Rect.unit ![1, 0, 0] S1x512x128.size inb_S8x512x128_S1x512x128_1_0_0, k0_pay11 (F := Ideal) z⟩,
   ⟨Rect.unit ![0, 0, 0] S1x512x128.size inb_S8x512x128_S1x512x128_0_0_0,
    k0_pay10 (F := Ideal) (extractStridedSlice S512x128 ![0, 0] z slices_S512x1024_o0_0_S512x128)⟩]

/-- What the scratch buffer then holds. -/
def held (z : FVec Ideal S512x1024 .f32) : FVec Ideal S8x512x128 .f32 := fun y =>
  z (ix2 (y 1) ⟨128 * (y 0).val + (y 2).val, by have h0 : (y 0).val < 8 := (y 0).isLt; have h2 : (y 2).val < 128 := (y 2).isLt; omega⟩)

theorem held_pieces (z : FVec Ideal S512x1024 .f32) : View.PiecesOf (held z) (octets z) := by
  refine ⟨fun x => ?_, fun x => ?_, fun x => ?_, fun x => ?_, fun x => ?_, fun x => ?_, fun x => ?_, fun x => ?_, trivial⟩
  all_goals
    obtain ⟨a, r, l, rfl⟩ : ∃ (a : Fin 1) (r : Fin 512) (l : Fin 128), x = ix3 a r l := ⟨x 0, x 1, x 2, eq_ix3 x⟩
    unfold held
    pointwise [k0_pay10, k0_pay11, k0_pay12, k0_pay13, k0_pay14, k0_pay15, k0_pay16, k0_pay17]
    blk_ext

theorem octets_at (z : FVec Ideal S512x1024 .f32) (y : S8x512x128.Idx) : View.canon (octets z) y = held z y :=
  View.canon_apply_of_pieces (held z) (octets z) (held_pieces z).mem y (View.cover_of_tiledL (octets z) S1x512x128.size (by sl_kernel_rfl) y)

/-- The block of the fourth result. -/
def octBlock (z : FVec Ideal S512x1024 .f32) : FVec Ideal S8x32x2048 .f32 := fun y =>
  z (ix2 ⟨16 * (y 1).val + (y 2).val / 128, by have h1 : (y 1).val < 32 := (y 1).isLt; have h2 : (y 2).val < 2048 := (y 2).isLt; omega⟩
    ⟨128 * (y 0).val + (y 2).val % 128, by have h0 : (y 0).val < 8 := (y 0).isLt; omega⟩)

theorem recast (f : FVec Ideal S1x32x128 .f32) (a : Fin 1) (q : Fin 32) (l : Fin 128) :
    shapeCast S1x32x128 (shapeCast S32x128 f shapeCasts_S1x32x128_S32x128) shapeCasts_S32x128_S1x32x128 (ix3 a q l) = f (ix3 a q l) := by
  pointwise

/-- One of its pieces: rows 16 apart of an octet, from row `j` on, stored at the columns `o`. -/
theorem piece {κ : Kind} {sp : Space} (v : View sig κ sp S8x512x128 .f32) (z : FVec Ideal S512x1024 .f32) (L : List (View.Piece (Elt Ideal) S8x512x128 .f32)) (m j o : ℕ)
    (inb : ∀ a, S1x32x128.size a = 0 ∨ (![m, j, 0] : Fin 3 → ℕ) a + (![1, 16, 1] : Fin 3 → ℕ) a * (S1x32x128.size a - 1) < S8x512x128.size a)
    (inb' : ∀ a, (![m, 0, o] : Fin 3 → ℕ) a + S1x32x128.size a ≤ S8x32x2048.size a) (hL : L = octets z) (hm : m < 8) (hj : j < 16) (ho : o = 128 * j) (x : S1x32x128.Idx) :
    shapeCast S1x32x128 (shapeCast S32x128 (v.readCov L (⟨![m, j, 0], S1x32x128.size, ![1, 16, 1], inb⟩ : LoadRect S8x512x128))
      shapeCasts_S1x32x128_S32x128) shapeCasts_S32x128_S1x32x128 x = octBlock z ((Rect.unit (s := S8x32x2048) ![m, 0, o] S1x32x128.size inb').emb x) := by
  subst hL
  obtain ⟨a, q, l, rfl⟩ : ∃ (a : Fin 1) (q : Fin 32) (l : Fin 128), x = ix3 a q l := ⟨x 0, x 1, x 2, eq_ix3 x⟩
  refine (recast _ a q l).trans ?_
  rw [View.readCov_eq_canon']
  show View.canon (octets z) _ = _
  rw [octets_at]
  unfold held octBlock
  refine congrArg z (funext fun d => Fin.ext ?_)
  fin_cases d
  · show j + 16 * q.val = 16 * (0 + 1 * q.val) + (o + 1 * l.val) / 128
    omega
  · show 128 * (m + 1 * a.val) + (0 + 1 * l.val) = 128 * (m + 1 * a.val) + (o + 1 * l.val) % 128
    omega

variable (m : (ℓ : Loc nD τ sig) → Buf (Elt Ideal) ℓ) (c : Dev nD)

set_option maxHeartbeats 0 in
theorem after6 (t : Fin cfg0.N) (y : S8x32x2048.Idx) : (dats m 0 c).after 6 t y = octBlock (k0_pay8 (F := Ideal) (iblk m c 0 t) (iblk m c 2 t)) y := by
  rw [after0_6]; unfold Gen.outsAt0; frame_out
  refine View.canon_apply_of_pieces (Val := Elt Ideal) (e := .f32) (octBlock (k0_pay8 (F := Ideal) (iblk m c 0 t) (iblk m c 2 t))) _ (View.PiecesOf.mem ?_) y ?_
  · iterate 128
      refine And.intro (fun x => ?_) ?_
      · dsimp only
        refine piece (View.whole cc0_scratch0) (k0_pay8 (F := Ideal) (iblk m c 0 t) (iblk m c 2 t)) _ _ _ _ _ _ ?_ ?_ ?_ ?_ x
        · rfl
        all_goals decide
    trivial
  · exact View.cover_of_tiledL (s := S8x32x2048) _ S1x32x128.size (by sl_kernel_rfl) y

/-- An element of a stored block of the wide product; `w` is the block's columns of the weights. -/
theorem keys_at (x : FVec Ideal S512x2048 .bf16) (w : FVec Ideal S2048x1024 .bf16) (r : Fin 512) (l : Fin 1024) :
    k0_pay3 (F := Ideal) x w (ix2 r l) = ∑ k : Fin 2048, x (ix2 r k) * w (ix2 k l) := by
  pointwise [k0_pay3]

theorem values_at (x : FVec Ideal S512x2048 .bf16) (w : FVec Ideal S2048x1024 .bf16) (r : Fin 512) (l : Fin 1024) :
    k0_pay5 (F := Ideal) x w (ix2 r l) = ∑ k : Fin 2048, x (ix2 r k) * w (ix2 k l) := by
  pointwise [k0_pay5]

/-- The block of the first result. -/
def projBlock (x : FVec Ideal S512x2048 .bf16) (w : FVec Ideal S2048x4096 .bf16) : FVec Ideal S512x4096 .bf16 := fun y =>
  ∑ k : Fin 2048, x (ix2 (y 0) k) * w (ix2 k (y 1))

theorem projBlock_at (x : FVec Ideal S512x2048 .bf16) (w : FVec Ideal S2048x4096 .bf16) (r : Fin 512) (l : Fin 4096) :
    projBlock x w (ix2 r l) = ∑ k : Fin 2048, x (ix2 r k) * w (ix2 k l) := rfl

theorem after3 (t : Fin cfg0.N) (y : S512x4096.Idx) : (dats m 0 c).after 3 t y = projBlock (iblk m c 0 t) (iblk m c 1 t) y := by
  rw [after0_3]; unfold Gen.outsAt0; frame_out
  refine View.canon_apply_of_pieces (Val := Elt Ideal) (e := .bf16) (projBlock (iblk m c 0 t) (iblk m c 1 t)) _ (View.PiecesOf.mem ?_) y ?_
  · generalize (iblk m c 0 t : FVec Ideal S512x2048 .bf16) = x
    generalize (iblk m c 1 t : FVec Ideal S2048x4096 .bf16) = w
    refine ⟨fun z => ?_, fun z => ?_, fun z => ?_, fun z => ?_, trivial⟩
    all_goals
      dsimp only
      obtain ⟨r, l, rfl⟩ : ∃ (r : Fin 512) (l : Fin 1024), z = ix2 r l := ⟨z 0, z 1, eq_ix2 z⟩
      unfold projBlock
      pointwise [k0_pay2, k0_pay3, k0_pay4, k0_pay5, k0_pay6, k0_pay7]
      refine Finset.sum_congr rfl fun k _ => congrArg₂ (fun i j => HMul.hMul (α := EReal) (β := EReal) (γ := EReal) (x (ix2 i k)) (w (ix2 k j))) ?_ ?_
      · exact Fin.ext (show r.val = 0 + 1 * r.val by omega)
      · first
        | exact Fin.ext (show l.val = 0 + 1 * l.val by omega)
        | exact Fin.ext (congrArg (_ + ·) (Nat.one_mul l.val).symm)
  · exact View.cover_of_tiledL (s := S512x4096) _ S512x1024.size (by sl_kernel_rfl) y

theorem final3 : (dats m 0 c).arrAt 3 cfg0.N = Cert.InpRefIdeal.Value.projT (Cert.InpRefIdeal.Value.wide
    (m ((c : Thread nD τ).loc main_arg0)) (m ((c : Thread nD τ).loc main_arg1))) := by
  refine (dats m 0 c).arrAt_eq_of_covers 3 _ (by decide +kernel) fun t _ y => ?_
  blk_simp
  obtain ⟨r, l, rfl⟩ : ∃ (r : Fin 512) (l : Fin 4096), y = ix2 r l := ⟨y 0, y 1, eq_ix2 y⟩
  refine (after3 m c t _).trans ?_
  refine (projBlock_at _ _ r l).trans ?_
  obtain ⟨i, j, hij⟩ : ∃ (i : Fin 32768) (j : Fin 4096), ((cfg0.win 3).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  obtain rfl : l = j := Fin.ext (by omega)
  rw [Cert.InpRefIdeal.Value.projT_at, Cert.InpRefIdeal.Value.wide_at]
  refine Finset.sum_congr rfl fun k _ => congrArg₂ (· * ·) ?_ ?_
  · blk_point [iblk, V, idx t]
  · blk_point [iblk, V, idx t]

theorem final4 : (dats m 0 c).arrAt 4 cfg0.N = Cert.InpRefIdeal.Value.keysT (Cert.InpRefIdeal.Value.wide
    (m ((c : Thread nD τ).loc main_arg0)) (m ((c : Thread nD τ).loc main_arg1))) := by
  refine (dats m 0 c).arrAt_eq_of_covers 4 _ (by decide +kernel) fun t hf y => ?_
  have ht : t.val % 8 = 7 := (flush0_4 t).mp hf
  have hN : t.val < 64 := t.isLt
  blk_simp
  rw [after0_4]; unfold Gen.outsAt0; frame_out
  obtain ⟨r, l, rfl⟩ : ∃ (r : Fin 512) (l : Fin 1024), y = ix2 r l := ⟨y 0, y 1, eq_ix2 y⟩
  refine (keys_at _ _ r l).trans ?_
  obtain ⟨i, j, hij⟩ : ∃ (i : Fin 4096) (j : Fin 1024), ((cfg0.win 4).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  have hr := r.isLt
  rw [Cert.InpRefIdeal.Value.keysT_at _ i j ⟨512 * t.val + r.val, by omega⟩ ⟨1024 + l.val, by omega⟩ (by simp only; omega) (by simp only; omega),
    Cert.InpRefIdeal.Value.wide_at]
  refine Finset.sum_congr rfl fun k _ => congrArg₂ (· * ·) ?_ ?_
  · blk_point [iblk, V, idx t]
  · blk_point [iblk, V, idx t]

theorem final5 : (dats m 0 c).arrAt 5 cfg0.N = Cert.InpRefIdeal.Value.valuesT (Cert.InpRefIdeal.Value.wide
    (m ((c : Thread nD τ).loc main_arg0)) (m ((c : Thread nD τ).loc main_arg1))) := by
  refine (dats m 0 c).arrAt_eq_of_covers 5 _ (by decide +kernel) fun t hf y => ?_
  have ht : t.val % 8 = 7 := (flush0_5 t).mp hf
  have hN : t.val < 64 := t.isLt
  blk_simp
  rw [after0_5]; unfold Gen.outsAt0; frame_out
  obtain ⟨r, l, rfl⟩ : ∃ (r : Fin 512) (l : Fin 1024), y = ix2 r l := ⟨y 0, y 1, eq_ix2 y⟩
  refine (values_at _ _ r l).trans ?_
  obtain ⟨i, j, hij⟩ : ∃ (i : Fin 4096) (j : Fin 1024), ((cfg0.win 5).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  have hr := r.isLt
  rw [Cert.InpRefIdeal.Value.valuesT_at _ i j ⟨512 * t.val + r.val, by omega⟩ ⟨2048 + l.val, by omega⟩ (by simp only; omega) (by simp only; omega),
    Cert.InpRefIdeal.Value.wide_at]
  refine Finset.sum_congr rfl fun k _ => congrArg₂ (· * ·) ?_ ?_
  · blk_point [iblk, V, idx t]
  · blk_point [iblk, V, idx t]

theorem final6 : (dats m 0 c).arrAt 6 cfg0.N = Cert.InpRefIdeal.Value.octT (Cert.InpRefIdeal.Value.narrow
    (m ((c : Thread nD τ).loc main_arg0)) (m ((c : Thread nD τ).loc main_arg2))) := by
  refine (dats m 0 c).arrAt_eq_of_covers 6 _ (by decide +kernel) fun t _ y => ?_
  have hN : t.val < 64 := t.isLt
  blk_simp
  obtain ⟨o, q, l, rfl⟩ : ∃ (o : Fin 8) (q : Fin 32) (l : Fin 2048), y = ix3 o q l := ⟨y 0, y 1, y 2, eq_ix3 y⟩
  refine (after6 m c t _).trans ?_
  obtain ⟨i, j, k, hij⟩ : ∃ (i : Fin 8) (j : Fin 2048) (k : Fin 2048), ((cfg0.win 6).blk t).view.emb (ix3 o q l) = ix3 i j k := ⟨_, _, _, eq_ix3 _⟩
  refine Eq.trans ?_ (congrArg _ hij.symm)
  have hi := congrArg (fun x => (x 0).val) hij
  have hj := congrArg (fun x => (x 1).val) hij
  have hk := congrArg (fun x => (x 2).val) hij
  blk_simp [idx t] at hi hj hk
  have hq := q.isLt
  have ho := o.isLt
  have hl := l.isLt
  rw [Cert.InpRefIdeal.Value.octT_at _ i j k ⟨512 * t.val + (16 * q.val + l.val / 128), by omega⟩ ⟨128 * o.val + l.val % 128, by omega⟩
    (by simp only; omega) (by simp only; omega), Cert.InpRefIdeal.Value.narrow_at]
  refine (nat_at _ _ _ _).trans (Finset.sum_congr rfl fun k _ => congrArg₂ (· * ·) ?_ ?_)
  · blk_point [iblk, V, idx t]
  · blk_point [iblk, V, idx t]

end Cert.InpIdeal.Value

namespace Cert.Proof

open Cert.InpIdeal Cert.InpIdeal.Gen Cert.InpIdeal.Value

theorem algebraic_inp : Cert.algebraic_InpIdeal_InpRefIdeal (hInpIdeal := Cert.InpIdeal.Gen.facts)
    (hInpRefIdeal := Cert.InpRefIdeal.Gen.facts) := by
  intro m g m' g' _ hargs
  refine ⟨fun c => (dats m 0 c).arrAt 3 cfg0.N, fun c => (dats m 0 c).arrAt 4 cfg0.N, fun c => (dats m 0 c).arrAt 5 cfg0.N,
    fun c => (dats m 0 c).arrAt 6 cfg0.N, Cert.InpIdeal.Value.run_blocks m g, ?_⟩
  refine (θ_run (Cert.InpRefIdeal.defs (F := Ideal)) _ _).mono (fun r h c => ?_) (Cert.InpRefIdeal.Value.run (F := Ideal) m' g')
  obtain ⟨h3, h4, h5, h6, hk⟩ := h c
  obtain ⟨e0, e1, e2⟩ := hargs c
  refine ⟨h3.trans ?_, h4.trans ?_, h5.trans ?_, h6.trans ?_, hk⟩
  · rw [e0, e1]; exact (final3 m c).symm
  · rw [e0, e1]; exact (final4 m c).symm
  · rw [e0, e1]; exact (final5 m c).symm
  · rw [e0, e2]; exact (final6 m c).symm

end Cert.Proof

end
-- ==== Proof.InpSampleValue.lean ====
/-
  The value of the mixer's input projection of the sample group: one point takes all 256 rows, so every block is its
  array and the keys and values are column ranges of the wide product. The recurrence's input goes through the scratch
  buffer in octets of channels, as the prompt group's does, with chunks of 16 steps.
-/
module

public import proofs.«01_k».proof.Defs
public import proofs.«01_k».proof.Proof.Gen.InpSampleIdeal.Value
public import proofs.«01_k».proof.Proof.Gen.InpSampleRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InpSampleRefIdeal.Value

open Cert.InpSampleRefIdeal Cert.InpSampleRefIdeal.Gen

/-- The two products. -/
def wide (X : FVec Ideal S256x2048 .bf16) (W : FVec Ideal S2048x4096 .bf16) : FVec Ideal S256x4096 .f32 :=
  Host.dotGeneral dot_S256x2048_S2048x4096_S256x4096_1_0_0_1_n_n none (extf .f32 X bitsLt_bf16_f32) (extf .f32 W bitsLt_bf16_f32)

theorem wide_at (X : FVec Ideal S256x2048 .bf16) (W : FVec Ideal S2048x4096 .bf16) (r : Fin 256) (l : Fin 4096) :
    wide X W (ix2 r l) = ∑ k : Fin 2048, X (ix2 r k) * W (ix2 k l) := by
  pointwise [wide]

def narrow (X : FVec Ideal S256x2048 .bf16) (W : FVec Ideal S2048x1024 .bf16) : FVec Ideal S256x1024 .f32 :=
  Host.dotGeneral dot_S256x2048_S2048x1024_S256x1024_1_0_0_1_n_n none (extf .f32 X bitsLt_bf16_f32) (extf .f32 W bitsLt_bf16_f32)

theorem narrow_at (X : FVec Ideal S256x2048 .bf16) (W : FVec Ideal S2048x1024 .bf16) (r : Fin 256) (l : Fin 1024) :
    narrow X W (ix2 r l) = ∑ k : Fin 2048, X (ix2 r k) * W (ix2 k l) := by
  pointwise [narrow]

/-- The first result: the wide product rounded. -/
def projT (z : FVec Ideal S256x4096 .f32) : FVec Ideal S256x4096 .bf16 := truncf .bf16 z bitsLt_bf16_f32

theorem projT_at (z : FVec Ideal S256x4096 .f32) (r : Fin 256) (l : Fin 4096) : projT z (ix2 r l) = z (ix2 r l) := rfl

/-- The second and third: the columns of the keys, of the values. -/
def keysT (z : FVec Ideal S256x4096 .f32) : FVec Ideal S256x1024 .f32 :=
  extractStridedSlice S256x1024 ![0, 1024] z slices_S256x4096_S256x1024_0_1024

def valuesT (z : FVec Ideal S256x4096 .f32) : FVec Ideal S256x1024 .f32 :=
  extractStridedSlice S256x1024 ![0, 2048] z slices_S256x4096_S256x1024_0_2048

/-- The fourth: channels in octets, steps in chunks of 16. -/
def octT (z : FVec Ideal S256x1024 .f32) : FVec Ideal S8x16x2048 .f32 :=
  shapeCast _ (transpose S8x16x16x128 [2, 0, 1, 3] (shapeCast _ z shapeCasts_S256x1024_S16x16x8x128) transposes_S16x16x8x128_S8x16x16x128_2_0_1_3) shapeCasts_S8x16x16x128_S8x16x2048

theorem keysT_at (z : FVec Ideal S256x4096 .f32) (r : Fin 256) (l : Fin 1024) (j : Fin 4096) (hj : j.val = 1024 + l.val) :
    keysT z (ix2 r l) = z (ix2 r j) := by
  pointwise [keysT]
  blk_ext

theorem valuesT_at (z : FVec Ideal S256x4096 .f32) (r : Fin 256) (l : Fin 1024) (j : Fin 4096) (hj : j.val = 2048 + l.val) :
    valuesT z (ix2 r l) = z (ix2 r j) := by
  pointwise [valuesT]
  blk_ext

theorem octT_at (z : FVec Ideal S256x1024 .f32) (o : Fin 8) (q : Fin 16) (l : Fin 2048) (i : Fin 256) (j : Fin 1024)
    (hi : i.val = 16 * q.val + l.val / 128) (hj : j.val = 128 * o.val + l.val % 128) : octT z (ix3 o q l) = z (ix2 i j) := by
  pointwise [octT]
  blk_ext

end Cert.InpSampleRefIdeal.Value

namespace Cert.InpSampleIdeal.Value

open Cert.InpSampleIdeal Cert.InpSampleIdeal.Gen

/-- Every window's block is its array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0, 0] :=
  (by decide +kernel : ∀ t : Fin grid0.N, _)

/-- The product that the scratch buffer takes. -/
theorem nat_at (x : FVec Ideal S256x2048 .bf16) (w : FVec Ideal S2048x1024 .bf16) (r : Fin 256) (l : Fin 1024) :
    k0_pay8 (F := Ideal) x w (ix2 r l) = ∑ k : Fin 2048, x (ix2 r k) * w (ix2 k l) := by
  pointwise [k0_pay8]

/-- The scratch buffer's stores, last first: an octet of channels each, of the product `z`. -/
def octets (z : FVec Ideal S256x1024 .f32) : List (View.Piece (Elt Ideal) S8x256x128 .f32) :=
  [⟨Rect.unit ![7, 0, 0] S1x256x128.size inb_S8x256x128_S1x256x128_7_0_0, k0_pay17 (F := Ideal) z⟩,
   ⟨Rect.unit ![6, 0, 0] S1x256x128.size inb_S8x256x128_S1x256x128_6_0_0, k0_pay16 (F := Ideal) z⟩,
   ⟨Rect.unit ![5, 0, 0] S1x256x128.size inb_S8x256x128_S1x256x128_5_0_0, k0_pay15 (F := Ideal) z⟩,
   ⟨Rect.unit ![4, 0, 0] S1x256x128.size inb_S8x256x128_S1x256x128_4_0_0, k0_pay14 (F := Ideal) z⟩,
   ⟨Rect.unit ![3, 0, 0] S1x256x128.size inb_S8x256x128_S1x256x128_3_0_0, k0_pay13 (F := Ideal) z⟩,
   ⟨Rect.unit ![2, 0, 0] S1x256x128.size inb_S8x256x128_S1x256x128_2_0_0, k0_pay12 (F := Ideal) z⟩,
   ⟨Rect.unit ![1, 0, 0] S1x256x128.size inb_S8x256x128_S1x256x128_1_0_0, k0_pay11 (F := Ideal) z⟩,
   ⟨Rect.unit ![0, 0, 0] S1x256x128.size inb_S8x256x128_S1x256x128_0_0_0,
    k0_pay10 (F := Ideal) (extractStridedSlice S256x128 ![0, 0] z slices_S256x1024_o0_0_S256x128)⟩]

/-- What the scratch buffer then holds. -/
def held (z : FVec Ideal S256x1024 .f32) : FVec Ideal S8x256x128 .f32 := fun y =>
  z (ix2 (y 1) ⟨128 * (y 0).val + (y 2).val, by have h0 : (y 0).val < 8 := (y 0).isLt; have h2 : (y 2).val < 128 := (y 2).isLt; omega⟩)

theorem held_pieces (z : FVec Ideal S256x1024 .f32) : View.PiecesOf (held z) (octets z) := by
  refine ⟨fun x => ?_, fun x => ?_, fun x => ?_, fun x => ?_, fun x => ?_, fun x => ?_, fun x => ?_, fun x => ?_, trivial⟩
  all_goals
    obtain ⟨a, r, l, rfl⟩ : ∃ (a : Fin 1) (r : Fin 256) (l : Fin 128), x = ix3 a r l := ⟨x 0, x 1, x 2, eq_ix3 x⟩
    unfold held
    pointwise [k0_pay10, k0_pay11, k0_pay12, k0_pay13, k0_pay14, k0_pay15, k0_pay16, k0_pay17]
    blk_ext

theorem octets_at (z : FVec Ideal S256x1024 .f32) (y : S8x256x128.Idx) : View.canon (octets z) y = held z y :=
  View.canon_apply_of_pieces (held z) (octets z) (held_pieces z).mem y (View.cover_of_tiledL (octets z) S1x256x128.size (by sl_kernel_rfl) y)

/-- The fourth result. -/
def octBlock (z : FVec Ideal S256x1024 .f32) : FVec Ideal S8x16x2048 .f32 := fun y =>
  z (ix2 ⟨16 * (y 1).val + (y 2).val / 128, by have h1 : (y 1).val < 16 := (y 1).isLt; have h2 : (y 2).val < 2048 := (y 2).isLt; omega⟩
    ⟨128 * (y 0).val + (y 2).val % 128, by have h0 : (y 0).val < 8 := (y 0).isLt; omega⟩)

theorem recast (f : FVec Ideal S1x16x128 .f32) (a : Fin 1) (q : Fin 16) (l : Fin 128) :
    shapeCast S1x16x128 (shapeCast S16x128 f shapeCasts_S1x16x128_S16x128) shapeCasts_S16x128_S1x16x128 (ix3 a q l) = f (ix3 a q l) := by
  pointwise

/-- One of its pieces: rows 16 apart of an octet, from row `j` on, stored at the columns `o`. -/
theorem piece {κ : Kind} {sp : Space} (v : View sig κ sp S8x256x128 .f32) (z : FVec Ideal S256x1024 .f32) (L : List (View.Piece (Elt Ideal) S8x256x128 .f32)) (m j o : ℕ)
    (inb : ∀ a, S1x16x128.size a = 0 ∨ (![m, j, 0] : Fin 3 → ℕ) a + (![1, 16, 1] : Fin 3 → ℕ) a * (S1x16x128.size a - 1) < S8x256x128.size a)
    (inb' : ∀ a, (![m, 0, o] : Fin 3 → ℕ) a + S1x16x128.size a ≤ S8x16x2048.size a) (hL : L = octets z) (hm : m < 8) (hj : j < 16) (ho : o = 128 * j) (x : S1x16x128.Idx) :
    shapeCast S1x16x128 (shapeCast S16x128 (v.readCov L (⟨![m, j, 0], S1x16x128.size, ![1, 16, 1], inb⟩ : LoadRect S8x256x128))
      shapeCasts_S1x16x128_S16x128) shapeCasts_S16x128_S1x16x128 x = octBlock z ((Rect.unit (s := S8x16x2048) ![m, 0, o] S1x16x128.size inb').emb x) := by
  subst hL
  obtain ⟨a, q, l, rfl⟩ : ∃ (a : Fin 1) (q : Fin 16) (l : Fin 128), x = ix3 a q l := ⟨x 0, x 1, x 2, eq_ix3 x⟩
  refine (recast _ a q l).trans ?_
  rw [View.readCov_eq_canon']
  show View.canon (octets z) _ = _
  rw [octets_at]
  unfold held octBlock
  refine congrArg z (funext fun d => Fin.ext ?_)
  fin_cases d
  · show j + 16 * q.val = 16 * (0 + 1 * q.val) + (o + 1 * l.val) / 128
    omega
  · show 128 * (m + 1 * a.val) + (0 + 1 * l.val) = 128 * (m + 1 * a.val) + (o + 1 * l.val) % 128
    omega

variable (m : (ℓ : Loc nD τ sig) → Buf (Elt Ideal) ℓ) (c : Dev nD)

set_option maxHeartbeats 0 in
theorem after6 (t : Fin cfg0.N) (y : S8x16x2048.Idx) : (dats m 0 c).after 6 t y = octBlock (k0_pay8 (F := Ideal) (iblk m c 0 t) (iblk m c 2 t)) y := by
  rw [after0_6]; unfold Gen.outsAt0; frame_out
  refine View.canon_apply_of_pieces (Val := Elt Ideal) (e := .f32) (octBlock (k0_pay8 (F := Ideal) (iblk m c 0 t) (iblk m c 2 t))) _ (View.PiecesOf.mem ?_) y ?_
  · iterate 128
      refine And.intro (fun x => ?_) ?_
      · dsimp only
        refine piece (View.whole cc0_scratch0) (k0_pay8 (F := Ideal) (iblk m c 0 t) (iblk m c 2 t)) _ _ _ _ _ _ ?_ ?_ ?_ ?_ x
        · rfl
        all_goals decide
    trivial
  · exact View.cover_of_tiledL (s := S8x16x2048) _ S1x16x128.size (by sl_kernel_rfl) y

/-- An element of a stored column range of the wide product; `w` is the range's weights. -/
theorem keys_at (x : FVec Ideal S256x2048 .bf16) (w : FVec Ideal S2048x1024 .bf16) (r : Fin 256) (l : Fin 1024) :
    k0_pay3 (F := Ideal) x w (ix2 r l) = ∑ k : Fin 2048, x (ix2 r k) * w (ix2 k l) := by
  pointwise [k0_pay3]

theorem values_at (x : FVec Ideal S256x2048 .bf16) (w : FVec Ideal S2048x1024 .bf16) (r : Fin 256) (l : Fin 1024) :
    k0_pay5 (F := Ideal) x w (ix2 r l) = ∑ k : Fin 2048, x (ix2 r k) * w (ix2 k l) := by
  pointwise [k0_pay5]

/-- The first result. -/
def projBlock (x : FVec Ideal S256x2048 .bf16) (w : FVec Ideal S2048x4096 .bf16) : FVec Ideal S256x4096 .bf16 := fun y =>
  ∑ k : Fin 2048, x (ix2 (y 0) k) * w (ix2 k (y 1))

theorem projBlock_at (x : FVec Ideal S256x2048 .bf16) (w : FVec Ideal S2048x4096 .bf16) (r : Fin 256) (l : Fin 4096) :
    projBlock x w (ix2 r l) = ∑ k : Fin 2048, x (ix2 r k) * w (ix2 k l) := rfl

theorem after3 (t : Fin cfg0.N) (y : S256x4096.Idx) : (dats m 0 c).after 3 t y = projBlock (iblk m c 0 t) (iblk m c 1 t) y := by
  rw [after0_3]; unfold Gen.outsAt0; frame_out
  refine View.canon_apply_of_pieces (Val := Elt Ideal) (e := .bf16) (projBlock (iblk m c 0 t) (iblk m c 1 t)) _ (View.PiecesOf.mem ?_) y ?_
  · generalize (iblk m c 0 t : FVec Ideal S256x2048 .bf16) = x
    generalize (iblk m c 1 t : FVec Ideal S2048x4096 .bf16) = w
    refine ⟨fun z => ?_, fun z => ?_, fun z => ?_, fun z => ?_, trivial⟩
    all_goals
      dsimp only
      obtain ⟨r, l, rfl⟩ : ∃ (r : Fin 256) (l : Fin 1024), z = ix2 r l := ⟨z 0, z 1, eq_ix2 z⟩
      unfold projBlock
      pointwise [k0_pay2, k0_pay3, k0_pay4, k0_pay5, k0_pay6, k0_pay7]
      refine Finset.sum_congr rfl fun k _ => congrArg₂ (fun i j => HMul.hMul (α := EReal) (β := EReal) (γ := EReal) (x (ix2 i k)) (w (ix2 k j))) ?_ ?_
      · exact Fin.ext (show r.val = 0 + 1 * r.val by omega)
      · first
        | exact Fin.ext (show l.val = 0 + 1 * l.val by omega)
        | exact Fin.ext (congrArg (_ + ·) (Nat.one_mul l.val).symm)
  · exact View.cover_of_tiledL (s := S256x4096) _ S256x1024.size (by sl_kernel_rfl) y

theorem final3 : (dats m 0 c).arrAt 3 cfg0.N = Cert.InpSampleRefIdeal.Value.projT (Cert.InpSampleRefIdeal.Value.wide
    (m ((c : Thread nD τ).loc main_arg0)) (m ((c : Thread nD τ).loc main_arg1))) := by
  refine (dats m 0 c).arrAt_eq_of_covers 3 _ (by decide +kernel) fun t _ y => ?_
  blk_simp
  obtain ⟨r, l, rfl⟩ : ∃ (r : Fin 256) (l : Fin 4096), y = ix2 r l := ⟨y 0, y 1, eq_ix2 y⟩
  refine (after3 m c t _).trans ?_
  refine (projBlock_at _ _ r l).trans ?_
  obtain ⟨i, j, hij⟩ : ∃ (i : Fin 256) (j : Fin 4096), ((cfg0.win 3).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  obtain rfl : r = i := Fin.ext (by omega)
  obtain rfl : l = j := Fin.ext (by omega)
  rw [Cert.InpSampleRefIdeal.Value.projT_at, Cert.InpSampleRefIdeal.Value.wide_at]
  refine Finset.sum_congr rfl fun k _ => congrArg₂ (· * ·) ?_ ?_
  · blk_point [iblk, V, idx t]
  · blk_point [iblk, V, idx t]

theorem final4 : (dats m 0 c).arrAt 4 cfg0.N = Cert.InpSampleRefIdeal.Value.keysT (Cert.InpSampleRefIdeal.Value.wide
    (m ((c : Thread nD τ).loc main_arg0)) (m ((c : Thread nD τ).loc main_arg1))) := by
  refine (dats m 0 c).arrAt_eq_of_covers 4 _ (by decide +kernel) fun t _ y => ?_
  blk_simp
  rw [after0_4]; unfold Gen.outsAt0; frame_out
  obtain ⟨r, l, rfl⟩ : ∃ (r : Fin 256) (l : Fin 1024), y = ix2 r l := ⟨y 0, y 1, eq_ix2 y⟩
  refine (keys_at _ _ r l).trans ?_
  obtain ⟨i, j, hij⟩ : ∃ (i : Fin 256) (j : Fin 1024), ((cfg0.win 4).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  obtain rfl : r = i := Fin.ext (by omega)
  obtain rfl : l = j := Fin.ext (by omega)
  rw [Cert.InpSampleRefIdeal.Value.keysT_at _ r l ⟨1024 + l.val, by omega⟩ rfl, Cert.InpSampleRefIdeal.Value.wide_at]
  refine Finset.sum_congr rfl fun k _ => congrArg₂ (· * ·) ?_ ?_
  · blk_point [iblk, V, idx t]
  · blk_point [iblk, V, idx t]

theorem final5 : (dats m 0 c).arrAt 5 cfg0.N = Cert.InpSampleRefIdeal.Value.valuesT (Cert.InpSampleRefIdeal.Value.wide
    (m ((c : Thread nD τ).loc main_arg0)) (m ((c : Thread nD τ).loc main_arg1))) := by
  refine (dats m 0 c).arrAt_eq_of_covers 5 _ (by decide +kernel) fun t _ y => ?_
  blk_simp
  rw [after0_5]; unfold Gen.outsAt0; frame_out
  obtain ⟨r, l, rfl⟩ : ∃ (r : Fin 256) (l : Fin 1024), y = ix2 r l := ⟨y 0, y 1, eq_ix2 y⟩
  refine (values_at _ _ r l).trans ?_
  obtain ⟨i, j, hij⟩ : ∃ (i : Fin 256) (j : Fin 1024), ((cfg0.win 5).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  obtain rfl : r = i := Fin.ext (by omega)
  obtain rfl : l = j := Fin.ext (by omega)
  rw [Cert.InpSampleRefIdeal.Value.valuesT_at _ r l ⟨2048 + l.val, by omega⟩ rfl, Cert.InpSampleRefIdeal.Value.wide_at]
  refine Finset.sum_congr rfl fun k _ => congrArg₂ (· * ·) ?_ ?_
  · blk_point [iblk, V, idx t]
  · blk_point [iblk, V, idx t]

theorem final6 : (dats m 0 c).arrAt 6 cfg0.N = Cert.InpSampleRefIdeal.Value.octT (Cert.InpSampleRefIdeal.Value.narrow
    (m ((c : Thread nD τ).loc main_arg0)) (m ((c : Thread nD τ).loc main_arg2))) := by
  refine (dats m 0 c).arrAt_eq_of_covers 6 _ (by decide +kernel) fun t _ y => ?_
  blk_simp
  obtain ⟨o, q, l, rfl⟩ : ∃ (o : Fin 8) (q : Fin 16) (l : Fin 2048), y = ix3 o q l := ⟨y 0, y 1, y 2, eq_ix3 y⟩
  refine (after6 m c t _).trans ?_
  obtain ⟨i, j, k, hij⟩ : ∃ (i : Fin 8) (j : Fin 16) (k : Fin 2048), ((cfg0.win 6).blk t).view.emb (ix3 o q l) = ix3 i j k := ⟨_, _, _, eq_ix3 _⟩
  refine Eq.trans ?_ (congrArg _ hij.symm)
  have hi := congrArg (fun x => (x 0).val) hij
  have hj := congrArg (fun x => (x 1).val) hij
  have hk := congrArg (fun x => (x 2).val) hij
  blk_simp [idx t] at hi hj hk
  have hq := q.isLt
  have ho := o.isLt
  have hl := l.isLt
  rw [Cert.InpSampleRefIdeal.Value.octT_at _ i j k ⟨16 * q.val + l.val / 128, by omega⟩ ⟨128 * o.val + l.val % 128, by omega⟩
    (by simp only; omega) (by simp only; omega), Cert.InpSampleRefIdeal.Value.narrow_at]
  refine (nat_at _ _ _ _).trans (Finset.sum_congr rfl fun k _ => congrArg₂ (· * ·) ?_ ?_)
  · blk_point [iblk, V, idx t]
  · blk_point [iblk, V, idx t]

end Cert.InpSampleIdeal.Value

namespace Cert.Proof

open Cert.InpSampleIdeal Cert.InpSampleIdeal.Gen Cert.InpSampleIdeal.Value

theorem algebraic_inpSample : Cert.algebraic_InpSampleIdeal_InpSampleRefIdeal (hInpSampleIdeal := Cert.InpSampleIdeal.Gen.facts)
    (hInpSampleRefIdeal := Cert.InpSampleRefIdeal.Gen.facts) := by
  intro m g m' g' _ hargs
  refine ⟨fun c => (dats m 0 c).arrAt 3 cfg0.N, fun c => (dats m 0 c).arrAt 4 cfg0.N, fun c => (dats m 0 c).arrAt 5 cfg0.N,
    fun c => (dats m 0 c).arrAt 6 cfg0.N, Cert.InpSampleIdeal.Value.run_blocks m g, ?_⟩
  refine (θ_run (Cert.InpSampleRefIdeal.defs (F := Ideal)) _ _).mono (fun r h c => ?_) (Cert.InpSampleRefIdeal.Value.run (F := Ideal) m' g')
  obtain ⟨h3, h4, h5, h6, hk⟩ := h c
  obtain ⟨e0, e1, e2⟩ := hargs c
  refine ⟨h3.trans ?_, h4.trans ?_, h5.trans ?_, h6.trans ?_, hk⟩
  · rw [e0, e1]; exact (final3 m c).symm
  · rw [e0, e1]; exact (final4 m c).symm
  · rw [e0, e1]; exact (final5 m c).symm
  · rw [e0, e2]; exact (final6 m c).symm

end Cert.Proof

end
-- ==== Proof.GluValue.lean ====
/- The value of the half-GLU after the state space: a point takes 1024 rows, each with the gelu's tanh form, the product
   with the weights, the bias and the sigmoid. -/
module

public import proofs.«01_k».proof.Defs
public import proofs.«01_k».proof.Proof.Gen.GluIdeal.Value
public import proofs.«01_k».proof.Proof.Gen.GluRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

/-- The gelu in its tanh form. -/
def gelu (x : EReal) : EReal := x * (Ideal.ofBits .f32 0x3F000000#32 * (Ideal.ofBits .f32 0x3F800000#32
  + Ideal.tanh (Ideal.ofBits .f32 0x3F4C422A#32 * (x + Ideal.ofBits .f32 0x3D372713#32 * (x * x * x)))))

end Cert.Proof

namespace Cert.GluRefIdeal.Value

open Cert.GluRefIdeal Cert.GluRefIdeal.Gen Cert.Proof

/-- The gelu of the rows. -/
def act (X : FVec Ideal S32768x1024 .f32) : FVec Ideal S32768x1024 .f32 :=
  mulf X (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf X (mulf (broadcastInDim S32768x1024 ![] bcast_S_S32768x1024 (constant S_ .f32 0x3D372713#32)) (mulf (mulf X X) X)))))))

theorem act_at (X : FVec Ideal S32768x1024 .f32) (r : Fin 32768) (l : Fin 1024) : act X (ix2 r l) = gelu (X (ix2 r l)) := by
  pointwise [act, gelu]

/-- The rest of the reference's term, of the activated rows. -/
def term (Y : FVec Ideal S32768x1024 .f32) (W : FVec Ideal S1024x1024 .bf16) (B : FVec Ideal S1x1024 .f32) : FVec Ideal S32768x1024 .bf16 :=
  truncf .bf16 (mulf Y (Host.divf (broadcastInDim S32768x1024 ![] bcast_S_S32768x1024 (constant S_ .f32 0x3F800000#32)) (addf (broadcastInDim S32768x1024 ![] bcast_S_S32768x1024 (constant S_ .f32 0x3F800000#32)) (Host.exp (Host.negf (addf (Host.dotGeneral dot_S32768x1024_S1024x1024_S32768x1024_1_0_0_1_n_n none Y (extf .f32 W bitsLt_bf16_f32)) (broadcastInDim S32768x1024 ![0, 1] bcast_S1x1024_S32768x1024_0_1 (broadcastInDim S1x1024 ![1] bcast_S1024_S1x1024_1 (shapeCast _ B shapeCasts_S1x1024_S1024))))))))) bitsLt_bf16_f32

theorem term_at (Y : FVec Ideal S32768x1024 .f32) (W : FVec Ideal S1024x1024 .bf16) (B : FVec Ideal S1x1024 .f32) (r : Fin 32768) (l : Fin 1024) :
    term Y W B (ix2 r l) = Y (ix2 r l) * Ideal.logistic (∑ k : Fin 1024, Y (ix2 r k) * W (ix2 k l) + B (ix2 0 l)) := by
  pointwise [term, Ideal.logistic]

end Cert.GluRefIdeal.Value

namespace Cert.GluIdeal.Value

open Cert.GluIdeal Cert.GluIdeal.Gen Cert.Proof

/-- Where each window's block sits, at every one of the 32 points. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- An element of the block that the body stores. -/
theorem pay_at (y : FVec Ideal S1024x1024 .f32) (w : FVec Ideal S1024x1024 .bf16) (b : FVec Ideal S1x1024 .f32) (r : Fin 1024) (l : Fin 1024) :
    k0_pay1 (F := Ideal) y w b (ix2 r l)
      = gelu (y (ix2 r l)) * Ideal.logistic (∑ k : Fin 1024, gelu (y (ix2 r k)) * w (ix2 k l) + b (ix2 0 l)) := by
  pointwise [k0_pay1, gelu]

variable (m : (ℓ : Loc nD τ sig) → Buf (Elt Ideal) ℓ) (c : Dev nD)

theorem final : (dats m 0 c).arrAt 3 cfg0.N = Cert.GluRefIdeal.Value.term (Cert.GluRefIdeal.Value.act (m ((c : Thread nD τ).loc main_arg0)))
    (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨r, l, rfl⟩ : ∃ (r : Fin 1024) (l : Fin 1024), y = ix2 r l := ⟨y 0, y 1, eq_ix2 y⟩
  refine (pay_at _ _ _ r l).trans ?_
  obtain ⟨i, j, hij⟩ : ∃ (i : Fin 32768) (j : Fin 1024), ((cfg0.win 3).blk t).view.emb (ix2 r l) = ix2 i j := ⟨_, _, eq_ix2 _⟩
  refine Eq.trans ?_ (congrArg _ hij.symm)
  have hi := congrArg (fun x => (x 0).val) hij
  have hj := congrArg (fun x => (x 1).val) hij
  blk_simp [idx t] at hi hj
  rw [Cert.GluRefIdeal.Value.term_at]
  obtain rfl : l = j := Fin.ext (by omega)
  have e0 : ∀ k : Fin 1024, iblk m c 0 t (ix2 r k) = m ((c : Thread nD τ).loc main_arg0) (ix2 i k) := fun k => by
    blk_point [iblk, V, idx t]
  have e1 : ∀ k : Fin 1024, iblk m c 1 t (ix2 k l) = m ((c : Thread nD τ).loc main_arg1) (ix2 k l) := fun k => by
    blk_point [iblk, V, idx t]
  have e2 : iblk m c 2 t (ix2 0 l) = m ((c : Thread nD τ).loc main_arg2) (ix2 0 l) := by
    blk_point [iblk, V, idx t]
  rw [e2]
  simp only [e0, e1, Cert.GluRefIdeal.Value.act_at]

end Cert.GluIdeal.Value

namespace Cert.Proof

open Cert.GluIdeal Cert.GluIdeal.Gen Cert.GluIdeal.Value

theorem algebraic_glu : Cert.algebraic_GluIdeal_GluRefIdeal (hGluIdeal := Cert.GluIdeal.Gen.facts)
    (hGluRefIdeal := Cert.GluRefIdeal.Gen.facts) := by
  intro m g m' g' _ hargs
  refine ⟨fun c => (dats m 0 c).arrAt 3 cfg0.N, Cert.GluIdeal.Value.run_blocks m g, ?_⟩
  refine (θ_run (Cert.GluRefIdeal.defs (F := Ideal)) _ _).mono (fun r h c => ?_) (Cert.GluRefIdeal.Value.run (F := Ideal) m' g')
  obtain ⟨hv, hk⟩ := h c
  obtain ⟨e0, e1, e2⟩ := hargs c
  refine ⟨hv.trans ?_, hk⟩
  rw [e0, e1, e2]; exact (final m c).symm

end Cert.Proof

end
-- ==== Proof.FfnSampleRun.lean ====
/- The feed-forward kernel's body at one tile of 256 rows, run symbolically in each of the four cases that its conditions on the
   grid point leave: the tile is normed, its chunks are summed, it is finished, in three rows of the grid. -/
module

public import proofs.«01_k».proof.Proof.Gen.FfnSampleIdeal.Skeleton
public import proofs.«01_k».proof.Proof.Gen.FfnSampleIdeal.Frame
public import Idealize.ShloMosaic.Lib.VecWindow

@[expose] public section

set_option maxRecDepth 16384

noncomputable section

namespace Cert.FfnSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.FfnSampleIdeal.Gen

variable {F : FTy → Type} [FloatOps F]

local notation "𝕄" => MT nD τ sig Unit (Elt F) ℕ (UR sig nD τ) ℕ

/-- The body's first condition: both coordinates are 0. -/
abbrev cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32))) 0#32

/-- The first of the 32 rows that the body works on at a grid point. -/
abbrev row (i : grid0.Coords) : Fin 2 → ℕ := ![32 * min (i 1).val 7, 0]

theorem row_inb (i : grid0.Coords) (a : Fin 2) : row i a + S32x2048.size a ≤ S256x2048.size a := by
  fin_cases a
  · show 32 * min (i 1).val 7 + 32 ≤ 256
    omega
  · exact (by decide : 0 + 2048 ≤ 2048)

/-- Those rows of the tile. -/
def rows {e : EltTy} (i : grid0.Coords) (s : Vec F S256x2048 e) : Vec F S32x2048 e :=
  VecWindow.window s (row i) S32x2048.size (row_inb i)

/-- The tile with those rows replaced. -/
def setRows {e : EltTy} (i : grid0.Coords) (s : Vec F S256x2048 e) (p : Vec F S32x2048 e) : Vec F S256x2048 e :=
  VecWindow.put s (row i) S32x2048.size p

/-- What one point does to the output's block and to the four scratch tiles, in the four cases its conditions leave. -/
inductive Step (i : grid0.Coords) (hp hn : Vec F S32x2048 .f32) (gpre gpost : Vec F S1x2048 .f32)
    (wg wu : Vec F S2048x512 .bf16) (wd : Vec F S512x2048 .bf16)
    (o : Vec F S32x2048 .f32) (x0 x1 : Vec F S256x2048 .bf16) (a0 a1 : Vec F S256x2048 .f32) :
    Vec F S32x2048 .f32 → Vec F S256x2048 .bf16 → Vec F S256x2048 .bf16 → Vec F S256x2048 .f32 → Vec F S256x2048 .f32 → Prop
  | start (h1 : cond1 i = 1#1) (h2 : k0_cond2 i = 1#1) (h3 : ¬ k0_cond3 i = 1#1) (h4 : ¬ k0_cond4 i = 1#1) (h5 : ¬ k0_cond5 i = 1#1) :
    Step i hp hn gpre gpost wg wu wd o x0 x1 a0 a1 o (setRows i x0 (k0_pay2 hn gpre)) x1 a0 k0_pay1
  | norm (h1 : ¬ cond1 i = 1#1) (h2 : k0_cond2 i = 1#1) (h3 : ¬ k0_cond3 i = 1#1) (h4 : ¬ k0_cond4 i = 1#1) (h5 : ¬ k0_cond5 i = 1#1) :
    Step i hp hn gpre gpost wg wu wd o x0 x1 a0 a1 o (setRows i x0 (k0_pay2 hn gpre)) x1 a0 a1
  | sum (h1 : ¬ cond1 i = 1#1) (h2 : ¬ k0_cond2 i = 1#1) (h3 : ¬ k0_cond3 i = 1#1) (h4 : k0_cond4 i = 1#1) (h5 : ¬ k0_cond5 i = 1#1) :
    Step i hp hn gpre gpost wg wu wd o x0 x1 a0 a1 (k0_pay8 hp (rows i a1) gpost) x0 (setRows i x1 (k0_pay9 hn gpre))
      (k0_pay4 i x0 wg wu wd a0) a1
  | finish (h1 : ¬ cond1 i = 1#1) (h2 : ¬ k0_cond2 i = 1#1) (h3 : ¬ k0_cond3 i = 1#1) (h4 : ¬ k0_cond4 i = 1#1) (h5 : k0_cond5 i = 1#1) :
    Step i hp hn gpre gpost wg wu wd o x0 x1 a0 a1 (k0_pay5 hp (rows i a0) gpost) x0 x1 a0 a1

/-- A load of a whole buffer at its own sizes reads what it holds. -/
theorem load_full {s : Shape} {e : EltTy} {m : Memref sig .tc .vmem s e} (hm : m.IsWhole) (x : Vec F s e) {off : Fin s.rank → ℕ}
    (inb : ∀ a, off a + s.size a ≤ s.size a) :
    m.view.readAt (Elt F) (Rect.unit off s.size inb).toLoadRect (hm.unread x) = x :=
  (View.readAt_full _ _ inb).trans (hm.read_unread x)

/-- A load of the point's rows of a whole tile. -/
theorem load_rows {e : EltTy} {m : Memref sig .tc .vmem S256x2048 e} (hm : m.IsWhole) (i : grid0.Coords) (x : Vec F S256x2048 e)
    {off : Fin 2 → ℕ} (inb : ∀ a, off a + S32x2048.size a ≤ S256x2048.size a) (h : off = row i) :
    m.view.readAt (Elt F) (Rect.unit (s := S256x2048) off S32x2048.size inb).toLoadRect (hm.unread x) = rows i x :=
  (View.readAt_unit m.view (hm.unread x) inb h (row_inb i)).trans
    (by rw [hm.read_unread]; rfl)

/-- A store to the point's rows of a whole tile. -/
theorem store_rows {e : EltTy} {m : Memref sig .tc .vmem S256x2048 e} (hm : m.IsWhole) (i : grid0.Coords) (x : Vec F S256x2048 e)
    {off : Fin 2 → ℕ} (inb : ∀ a, off a + S32x2048.size a ≤ S256x2048.size a) (h : off = row i) (w : Vec F S32x2048 e) :
    m.view.read (Elt F) (m.view.writes (Elt F) (hm.unread x) [⟨Rect.unit (s := S256x2048) off S32x2048.size inb, w⟩]) = setRows i x w :=
  (View.read_writes_cons_put m.view (hm.unread x) inb w [] h).trans
    (by rw [View.writes_nil, hm.read_unread]; rfl)

section Run

variable (c : Dev nD) (i : grid0.Coords) (arg2 : Memref sig .tc .vmem S32x2048 .f32) (harg2 : arg2.IsWhole)
  (arg3 : Memref sig .tc .vmem S32x2048 .f32) (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S2048x512 .bf16) (harg6 : arg6.IsWhole)
  (arg7 : Memref sig .tc .vmem S2048x512 .bf16) (harg7 : arg7.IsWhole) (arg8 : Memref sig .tc .vmem S512x2048 .bf16) (harg8 : arg8.IsWhole)
  (arg9 : Memref sig .tc .vmem S32x2048 .f32) (harg9 : arg9.IsWhole) (arg10 : Memref sig .tc .vmem S256x2048 .bf16) (harg10 : arg10.IsWhole)
  (arg11 : Memref sig .tc .vmem S256x2048 .bf16) (harg11 : arg11.IsWhole) (arg12 : Memref sig .tc .vmem S256x2048 .f32) (harg12 : arg12.IsWhole)
  (arg13 : Memref sig .tc .vmem S256x2048 .f32) (harg13 : arg13.IsWhole)
  (hp hn : Vec F S32x2048 .f32) (gpre gpost : Vec F S1x2048 .f32) (wg wu : Vec F S2048x512 .bf16) (wd : Vec F S512x2048 .bf16)
  (o : Vec F S32x2048 .f32) (x0 x1 : Vec F S256x2048 .bf16) (a0 a1 : Vec F S256x2048 .f32)

/-- The seven inputs' buffers at their blocks. -/
def ins : sProp 𝕄 :=
  iprop(owns (c : Thread nD τ) arg2 fullShare hp ∗ owns (c : Thread nD τ) arg3 fullShare hn ∗ owns (c : Thread nD τ) arg4 fullShare gpre
    ∗ owns (c : Thread nD τ) arg5 fullShare gpost ∗ owns (c : Thread nD τ) arg6 fullShare wg ∗ owns (c : Thread nD τ) arg7 fullShare wu
    ∗ owns (c : Thread nD τ) arg8 fullShare wd)

/-- The output's block and the four tiles at what is given. -/
def outs (o : Vec F S32x2048 .f32) (x0 x1 : Vec F S256x2048 .bf16) (a0 a1 : Vec F S256x2048 .f32) : sProp 𝕄 :=
  iprop(owns (c : Thread nD τ) arg9 fullShare o ∗ owns (c : Thread nD τ) arg10 fullShare x0
    ∗ owns (c : Thread nD τ) arg11 fullShare x1 ∗ owns (c : Thread nD τ) arg12 fullShare a0 ∗ owns (c : Thread nD τ) arg13 fullShare a1)

set_option maxHeartbeats 8000000 in
/-- The body carries the buffers through the point's step. -/
theorem run (o' : Vec F S32x2048 .f32) (x0' x1' : Vec F S256x2048 .bf16) (a0' a1' : Vec F S256x2048 .f32)
    (hs : Step i hp hn gpre gpost wg wu wd o x0 x1 a0 a1 o' x0' x1' a0' a1') (E : Set ℕ) (K : PUnit → sProp 𝕄) :
    iprop((ins c arg2 arg3 arg4 arg5 arg6 arg7 arg8 hp hn gpre gpost wg wu wd ∗ outs c arg9 arg10 arg11 arg12 arg13 o x0 x1 a0 a1)
      ∗ ((ins c arg2 arg3 arg4 arg5 arg6 arg7 arg8 hp hn gpre gpost wg wu wd ∗ outs c arg9 arg10 arg11 arg12 arg13 o' x0' x1' a0' a1') -∗ K ⟨⟩))
      ⊢ wp frame (wpE (defs₀ (F := F)) Variants.none c none) E
          (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  simp only [k0_part1_eq_skeleton, k0_part2_eq_skeleton]
  unfold ins outs owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, ⟨%f11, %hf11, H11⟩, ⟨%f12, %hf12, H12⟩, ⟨%f13, %hf13, H13⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  cases hs
  all_goals
    rename_i h1 h2 h3 h4 h5
    sl_exec (disch := first | sl_exact h1 | sl_exact h2 | sl_exact h3 | sl_exact h4 | sl_exact h5)
    sl_step
    iapply Hk
    isplitl [H2 H3 H4 H5 H6 H7 H8]
    · isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      iexists _; isplitr; swap; · iexact H8
      ipureintro; exact harg8.read_unread _
    isplitl [H9]
    · iexists _; isplitr; swap; · iexact H9
      ipureintro
      first
      | with_reducible exact harg9.read_unread _
      | refine (View.read_writes_full _ _ _ _ _).trans ?_
        congr 1 <;> first | exact load_full harg2 _ _ | exact load_rows harg13 i _ _ (k0_off3_eq i) | exact load_rows harg12 i _ _ (k0_off4_eq i) | exact load_full harg5 _ _
    isplitl [H10]
    · iexists _; isplitr; swap; · iexact H10
      ipureintro
      first
      | with_reducible exact harg10.read_unread _
      | exact (store_rows harg10 i _ _ (k0_off1_eq i) _).trans (congrArg (setRows i _) (congr (congrArg _ (load_full harg3 _ _)) (load_full harg4 _ _)))
    isplitl [H11]
    · iexists _; isplitr; swap; · iexact H11
      ipureintro
      first
      | with_reducible exact harg11.read_unread _
      | exact (store_rows harg11 i _ _ (k0_off3_eq i) _).trans (congrArg (setRows i _) (congr (congrArg _ (load_full harg3 _ _)) (load_full harg4 _ _)))
    isplitl [H12]
    · iexists _; isplitr; swap; · iexact H12
      ipureintro
      first
      | with_reducible exact harg12.read_unread _
      | refine (View.read_writes_full _ _ _ _ _).trans ?_
        congr 1 <;> first | exact load_full harg10 _ _ | exact load_full harg6 _ _ | exact load_full harg7 _ _ | exact load_full harg8 _ _ | exact load_full harg12 _ _
    iexists _; isplitr; swap; · iexact H13
    ipureintro
    first
    | with_reducible exact harg13.read_unread _
    | exact View.read_writes_full _ _ _ _ _

end Run

end Cert.FfnSampleIdeal.Body
-- ==== Proof.FfnSampleBody.lean ====
/- The one-tile feed-forward kernel's launch: its body's step at each of the 33 grid points, put under the pipeline's rule with an
   invariant on the scratch tiles and a fact of what a point leaves in the output's block. -/
module

public import proofs.«01_k».proof.Proof.FfnSampleRun
public import Idealize.ShloMosaic.Lib.Pipeline.ArrRel

@[expose] public section

set_option maxRecDepth 16384

noncomputable section

namespace Cert.FfnSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.FfnSampleIdeal.Gen

variable {F : FTy → Type} [FloatOps F]

local notation "𝕄" => MT nD τ sig Unit (Elt F) ℕ (UR sig nD τ) ℕ

/-- The second coordinate at a point, and which of the body's four cases the point takes. -/
theorem point_cases : ∀ t : Fin cfg0.N, ((grid0.coords t) 1).val = t.val % 11 ∧
    ((t.val = 0 ∧ cond1 (grid0.coords t) = 1#1 ∧ k0_cond2 (grid0.coords t) = 1#1 ∧ ¬ k0_cond3 (grid0.coords t) = 1#1
        ∧ ¬ k0_cond4 (grid0.coords t) = 1#1 ∧ ¬ k0_cond5 (grid0.coords t) = 1#1)
      ∨ (0 < t.val ∧ t.val < 11 ∧ ¬ cond1 (grid0.coords t) = 1#1 ∧ k0_cond2 (grid0.coords t) = 1#1 ∧ ¬ k0_cond3 (grid0.coords t) = 1#1
        ∧ ¬ k0_cond4 (grid0.coords t) = 1#1 ∧ ¬ k0_cond5 (grid0.coords t) = 1#1)
      ∨ (11 ≤ t.val ∧ t.val < 22 ∧ ¬ cond1 (grid0.coords t) = 1#1 ∧ ¬ k0_cond2 (grid0.coords t) = 1#1
        ∧ ¬ k0_cond3 (grid0.coords t) = 1#1 ∧ k0_cond4 (grid0.coords t) = 1#1 ∧ ¬ k0_cond5 (grid0.coords t) = 1#1)
      ∨ (22 ≤ t.val ∧ ¬ cond1 (grid0.coords t) = 1#1 ∧ ¬ k0_cond2 (grid0.coords t) = 1#1
        ∧ ¬ k0_cond3 (grid0.coords t) = 1#1 ∧ ¬ k0_cond4 (grid0.coords t) = 1#1 ∧ k0_cond5 (grid0.coords t) = 1#1)) :=
  (by decide +kernel : ∀ t : Fin grid0.N, _)

/-- Some step is taken at every point. -/
theorem step_exists (t : Fin cfg0.N) (hp hn : Vec F S32x2048 .f32) (gpre gpost : Vec F S1x2048 .f32)
    (wg wu : Vec F S2048x512 .bf16) (wd : Vec F S512x2048 .bf16)
    (o : Vec F S32x2048 .f32) (x0 x1 : Vec F S256x2048 .bf16) (a0 a1 : Vec F S256x2048 .f32) :
    ∃ o' x0' x1' a0' a1', Step (grid0.coords t) hp hn gpre gpost wg wu wd o x0 x1 a0 a1 o' x0' x1' a0' a1' := by
  obtain ⟨-, h⟩ := point_cases t
  rcases h with ⟨-, h1, h2, h3, h4, h5⟩ | ⟨-, -, h1, h2, h3, h4, h5⟩ | ⟨-, -, h1, h2, h3, h4, h5⟩ | ⟨-, h1, h2, h3, h4, h5⟩
  · exact ⟨_, _, _, _, _, .start h1 h2 h3 h4 h5⟩
  · exact ⟨_, _, _, _, _, .norm h1 h2 h3 h4 h5⟩
  · exact ⟨_, _, _, _, _, .sum h1 h2 h3 h4 h5⟩
  · exact ⟨_, _, _, _, _, .finish h1 h2 h3 h4 h5⟩

/-- What the proof tracks: of the two tiles that the result is made of before a point, and of the output's block after a point. -/
structure Track (F : FTy → Type) where
  inv : ℕ → Vec F S256x2048 .bf16 → Vec F S256x2048 .f32 → Prop
  out : Fin cfg0.N → Vec F S32x2048 .f32 → Prop

variable (m : (ℓ : Loc nD τ sig) → Buf (Elt F) ℓ) (ρ : Dev nD → PrngReg) (T : Dev nD → Track F)

/-- The tracked facts hold at the launch and every step keeps them. -/
structure Keeps (c : Dev nD) : Prop where
  init : ∀ x0 a0, (T c).inv 0 x0 a0
  step : ∀ (t : Fin cfg0.N) o x0 x1 a0 a1 o' x0' x1' a0' a1', (T c).inv t.val x0 a0 →
    Step (grid0.coords t) (iblk m c 0 t) (iblk m c 1 t) (iblk m c 2 t) (iblk m c 3 t) (iblk m c 4 t) (iblk m c 5 t) (iblk m c 6 t)
      o x0 x1 a0 a1 o' x0' x1' a0' a1' → (T c).inv (t.val + 1) x0' a0' ∧ (T c).out t o'

/-- The four scratch buffers. -/
abbrev scr0 : Memref sig .tc .vmem S256x2048 .bf16 := Memref.whole cc0_scratch0
abbrev scr1 : Memref sig .tc .vmem S256x2048 .bf16 := Memref.whole cc0_scratch1
abbrev scr2 : Memref sig .tc .vmem S256x2048 .f32 := Memref.whole cc0_scratch2
abbrev scr3 : Memref sig .tc .vmem S256x2048 .f32 := Memref.whole cc0_scratch3

/-- What a point leaves in a window's buffer: an input's block as found, the output's block as tracked. -/
def left (c : Dev nD) : (w : Fin cfg0.W) → Fin cfg0.N → (Y X : (cfg0.win w).block.Idx → Elt F (cfg0.win w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, t, _, X => (T c).out t X

/-- The relational proof data of the one region. -/
def rdat (c : Dev nD) : RDat τ (Elt F) Unit ℕ (UR sig nD τ) ℕ cfg0 c where
  A w := V m c (Pipeline.arrRef spec0 w)
  after := left T c
  Φ t := iprop((∃ x0 x1 a0 a1, ⌜(T c).inv t.val x0 a0⌝ ∗ owns (c : Thread nD τ) scr0 fullShare x0 ∗ owns (c : Thread nD τ) scr1 fullShare x1
    ∗ owns (c : Thread nD τ) scr2 fullShare a0 ∗ owns (c : Thread nD τ) scr3 fullShare a1) ∗ ∃ r, prngReg c r)
  q w := Pipeline.shareOf spec0 w
  owed _ := 0

theorem finds0 (c : Dev nD) (t : Fin cfg0.N) (Y) (h : (rdat m T c).Finds 0 t Y) : Y = iblk m c 0 t := by
  obtain ⟨d, rfl⟩ := (rdat m T c).finds_in_eq_fetched 0 rfl (fun _ _ _ => rfl) (fun _ _ _ h => h) t Y h
  unfold RDat.fetched RDat.blockOf iblk; rfl
theorem finds1 (c : Dev nD) (t : Fin cfg0.N) (Y) (h : (rdat m T c).Finds 1 t Y) : Y = iblk m c 1 t := by
  obtain ⟨d, rfl⟩ := (rdat m T c).finds_in_eq_fetched 1 rfl (fun _ _ _ => rfl) (fun _ _ _ h => h) t Y h
  unfold RDat.fetched RDat.blockOf iblk; rfl
theorem finds2 (c : Dev nD) (t : Fin cfg0.N) (Y) (h : (rdat m T c).Finds 2 t Y) : Y = iblk m c 2 t := by
  obtain ⟨d, rfl⟩ := (rdat m T c).finds_in_eq_fetched 2 rfl (fun _ _ _ => rfl) (fun _ _ _ h => h) t Y h
  unfold RDat.fetched RDat.blockOf iblk; rfl
theorem finds3 (c : Dev nD) (t : Fin cfg0.N) (Y) (h : (rdat m T c).Finds 3 t Y) : Y = iblk m c 3 t := by
  obtain ⟨d, rfl⟩ := (rdat m T c).finds_in_eq_fetched 3 rfl (fun _ _ _ => rfl) (fun _ _ _ h => h) t Y h
  unfold RDat.fetched RDat.blockOf iblk; rfl
theorem finds4 (c : Dev nD) (t : Fin cfg0.N) (Y) (h : (rdat m T c).Finds 4 t Y) : Y = iblk m c 4 t := by
  obtain ⟨d, rfl⟩ := (rdat m T c).finds_in_eq_fetched 4 rfl (fun _ _ _ => rfl) (fun _ _ _ h => h) t Y h
  unfold RDat.fetched RDat.blockOf iblk; rfl
theorem finds5 (c : Dev nD) (t : Fin cfg0.N) (Y) (h : (rdat m T c).Finds 5 t Y) : Y = iblk m c 5 t := by
  obtain ⟨d, rfl⟩ := (rdat m T c).finds_in_eq_fetched 5 rfl (fun _ _ _ => rfl) (fun _ _ _ h => h) t Y h
  unfold RDat.fetched RDat.blockOf iblk; rfl
theorem finds6 (c : Dev nD) (t : Fin cfg0.N) (Y) (h : (rdat m T c).Finds 6 t Y) : Y = iblk m c 6 t := by
  obtain ⟨d, rfl⟩ := (rdat m T c).finds_in_eq_fetched 6 rfl (fun _ _ _ => rfl) (fun _ _ _ h => h) t Y h
  unfold RDat.fetched RDat.blockOf iblk; rfl

/-- The body table's row at a point is the body. -/
theorem body_row (t : Fin cfg0.N) : defs₀ (F := F) .tc cfg0.body (cfg0.bodyArgs t (cfg0.slots t)) = bodyAt0 t := by
  unfold defs₀; rw [Defs.onTc_tc]

set_option maxHeartbeats 1600000 in
theorem body_obligation (c : Dev nD) (hT : Keeps m T c) :
    (rdat (F := F) m T c).BodyObligation (defs₀ (F := F)) Variants.none () Set.univ := by
  intro t Y hY
  rw [bigSep_W0, bigSep_W0, body_row]
  have e0 := finds0 m T c t _ (hY 0)
  have e1 := finds1 m T c t _ (hY 1)
  have e2 := finds2 m T c t _ (hY 2)
  have e3 := finds3 m T c t _ (hY 3)
  have e4 := finds4 m T c t _ (hY 4)
  have e5 := finds5 m T c t _ (hY 5)
  have e6 := finds6 m T c t _ (hY 6)
  rw [show (rdat m T c).owesAt () t.succ = (rdat m T c).owesAt () t.castSucc from rfl]
  unfold bodyAt0
  rw [e0, e1, e2, e3, e4, e5, e6]
  unfold rdat; dsimp only
  iintro ⟨⟨⟨%x0, %x1, %a0, %a1, %hi, S0, S1, S2, S3⟩, Hg⟩, Ho, H0, H1, H2, H3, H4, H5, H6, H7⟩
  obtain ⟨o', x0', x1', a0', a1', hs⟩ := step_exists t (iblk m c 0 t) (iblk m c 1 t) (iblk m c 2 t) (iblk m c 3 t) (iblk m c 4 t)
    (iblk m c 5 t) (iblk m c 6 t) (Y 7) x0 x1 a0 a1
  obtain ⟨hi', ho'⟩ := hT.step t _ _ _ _ _ _ _ _ _ _ hi hs
  iapply (run c (grid0.coords t) _ _ _ _ _ _ _ _ _ _ _ _ _ _ _ _ _ _ _ _ _ _ _ _ _ _ _ _ _ _ _ _ _ _ _ _ _ _ _ _ _ hs Set.univ _)
  unfold ins outs
  isplitl [S0 S1 S2 S3 H0 H1 H2 H3 H4 H5 H6 H7]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [S0]; · iexact S0
    isplitl [S1]; · iexact S1
    isplitl [S2]; · iexact S2
    iexact S3
  iintro ⟨⟨H0, H1, H2, H3, H4, H5, H6⟩, H7, S0, S1, S2, S3⟩
  isplitl [S0 S1 S2 S3 Hg]
  · isplitl [S0 S1 S2 S3]
    · iexists x0'; iexists x1'; iexists a0'; iexists a1'
      isplitr; · ipureintro; exact hi'
      isplitl [S0]; · iexact S0
      isplitl [S1]; · iexact S1
      isplitl [S2]; · iexact S2
      iexact S3
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro; exact ho'

/-- The scratch tiles and the generator's register, as the launch hands them over. -/
theorem scratch_eq (c : Dev nD) : (Pipeline.ΦA spec0 c : sProp 𝕄)
    = iprop(((∃ x, owns (c : Thread nD τ) scr0 fullShare x) ∗ (∃ x, owns (c : Thread nD τ) scr1 fullShare x)
      ∗ (∃ x, owns (c : Thread nD τ) scr2 fullShare x) ∗ (∃ x, owns (c : Thread nD τ) scr3 fullShare x)) ∗ ∃ r, prngReg c r) := by
  unfold Pipeline.ΦA; rw [scopedRest0_eq]; simp only [scr0, scr1, scr2, scr3, owns_whole]; rfl

theorem scratch_in (c : Dev nD) (hT : Keeps m T c) : Pipeline.ΦA spec0 c ⊢ (rdat (F := F) m T c).Φ 0 := by
  rw [scratch_eq]; unfold rdat; dsimp only
  iintro ⟨⟨⟨%x0, S0⟩, ⟨%x1, S1⟩, ⟨%a0, S2⟩, ⟨%a1, S3⟩⟩, Hg⟩
  isplitl [S0 S1 S2 S3]
  · iexists x0; iexists x1; iexists a0; iexists a1
    isplitr; · ipureintro; exact hT.init _ _
    isplitl [S0]; · iexact S0
    isplitl [S1]; · iexact S1
    isplitl [S2]; · iexact S2
    iexact S3
  iexact Hg

theorem scratch_out (c : Dev nD) : (rdat (F := F) m T c).Φ (Fin.last cfg0.N) ⊢ Pipeline.ΦA spec0 c := by
  rw [scratch_eq]; unfold rdat; dsimp only
  iintro ⟨⟨%x0, %x1, %a0, %a1, -, S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The launch with what is tracked: every weakly fair execution ends, the arrays as the proof data say and the counters at zero. -/
theorem run_main (hT : ∀ c, Keeps m T c) : θ_run defs (onTc (τ := τ) (main (F := F))) (s₀ m ρ)
    (fun r => RDat.FramePost cfg0 (rdat m T) (V m) r ∧ r.2.sem = fun _ => 0) :=
  RDat.θ_run_frame_track_shared (Q' := _) cfgs (0 : Fin 1) launch₀0 defs₀ Variants.none (rdat m T) m ρ main
    (fun c => body_obligation m T c (hT c)) (fun _ _ _ => rfl) (fun _ _ => rfl) (V m) (hmain m Variants.none) (fun _ _ => rfl)
    (fun c => scratch_in m T c (hT c)) (fun c => scratch_out m T c) (fun _ h => h)

/-- Nothing tracked. -/
def noTrack (F : FTy → Type) : Track F := ⟨fun _ _ _ => True, fun _ _ => True⟩

/-- The frame: every weakly fair execution ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨h.1.arr_in c 1 rfl, h.1.arr_in c 2 rfl, h.1.arr_in c 3 rfl, h.1.arr_in c 4 rfl,
      h.1.arr_in c 5 rfl, h.1.arr_in c 6 rfl⟩, h.2⟩)
    (run_main m ρ (fun _ => noTrack F) fun c => ⟨fun _ _ => trivial, fun _ _ _ _ _ _ _ _ _ _ _ _ _ => ⟨trivial, trivial⟩⟩)

end Cert.FfnSampleIdeal.Body
-- ==== Proof.FfnSampleRef.lean ====
/-
  The one-tile feed-forward reference's composed term, cut at the normed rows, the two up products, the hidden activation and the
  down product, and its element as the block's mathematics.
-/
module

public import proofs.«01_k».proof.Proof.Gen.FfnSampleRefIdeal.Run
public import Idealize.ShloMosaic.Lib.Pipeline.ValueKit
public import proofs.«01_k».proof.Proof.FfnMath

@[expose] public section

set_option maxRecDepth 16384

noncomputable section

open Idealize.ShloMosaic Idealize.ShloMosaic.TcCoe

namespace Cert.FfnSampleRefIdeal.Value

open Cert.FfnSampleRefIdeal Cert.FfnSampleRefIdeal.Gen Cert.Proof

/-- Rows normed, with a gain. -/
def normT (x : FVec Ideal S256x2048 .f32) (g : FVec Ideal S1x2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ g shapeCasts_S1x2048_S2048)))

theorem normT_at (x : FVec Ideal S256x2048 .f32) (g : FVec Ideal S1x2048 .f32) (r : Fin 256) (l : Fin 2048) :
    normT x g (ix2 r l) = rowNorm (fun a => x (ix2 r a)) (g (ix2 0 l)) l := by
  pointwise [normT, rowNorm]

/-- The rows times a weight. -/
def upT (x : FVec Ideal S256x2048 .f32) (w : FVec Ideal S2048x5632 .bf16) : FVec Ideal S256x5632 .f32 :=
  Host.dotGeneral dot_S256x2048_S2048x5632_S256x5632_1_0_0_1_n_n none x (extf .f32 w bitsLt_bf16_f32)

theorem upT_at (x : FVec Ideal S256x2048 .f32) (w : FVec Ideal S2048x5632 .bf16) (r : Fin 256) (j : Fin 5632) :
    upT x w (ix2 r j) = ∑ k : Fin 2048, x (ix2 r k) * w (ix2 k j) := by
  pointwise [upT]

/-- The gate through silu, times the up product. -/
def hidT (g u : FVec Ideal S256x5632 .f32) : FVec Ideal S256x5632 .f32 :=
  mulf (mulf g (Host.divf (broadcastInDim S256x5632 ![] bcast_S_S256x5632 (constant S_ .f32 0x3F800000#32)) (addf (broadcastInDim S256x5632 ![] bcast_S_S256x5632 (constant S_ .f32 0x3F800000#32)) (Host.exp (Host.negf g))))) u

theorem hidT_at (g u : FVec Ideal S256x5632 .f32) (r : Fin 256) (j : Fin 5632) :
    hidT g u (ix2 r j) = g (ix2 r j) * Ideal.logistic (g (ix2 r j)) * u (ix2 r j) := by
  pointwise [hidT, Ideal.logistic]

/-- The hidden activation times the down weight. -/
def downT (a : FVec Ideal S256x5632 .f32) (w : FVec Ideal S5632x2048 .bf16) : FVec Ideal S256x2048 .f32 :=
  Host.dotGeneral dot_S256x5632_S5632x2048_S256x2048_1_0_0_1_n_n none a (extf .f32 w bitsLt_bf16_f32)

theorem downT_at (a : FVec Ideal S256x5632 .f32) (w : FVec Ideal S5632x2048 .bf16) (r : Fin 256) (l : Fin 2048) :
    downT a w (ix2 r l) = ∑ j : Fin 5632, a (ix2 r j) * w (ix2 j l) := by
  pointwise [downT]

/-- The residual plus half of a term. -/
def halfT (h y : FVec Ideal S256x2048 .f32) : FVec Ideal S256x2048 .f32 :=
  addf h (mulf (broadcastInDim S256x2048 ![] bcast_S_S256x2048 (constant S_ .f32 0x3F000000#32)) y)

theorem halfT_at (h y : FVec Ideal S256x2048 .f32) (r : Fin 256) (l : Fin 2048) :
    halfT h y (ix2 r l) = h (ix2 r l) + Ideal.ofBits .f32 0x3F000000#32 * y (ix2 r l) := by
  pointwise [halfT]

/-- The reference's term. -/
def outT (h : FVec Ideal S256x2048 .f32) (pre post : FVec Ideal S1x2048 .f32) (wg wu : FVec Ideal S2048x5632 .bf16)
    (wd : FVec Ideal S5632x2048 .bf16) : FVec Ideal S256x2048 .f32 :=
  halfT h (normT (downT (hidT (upT (normT h pre) wg) (upT (normT h pre) wu)) wd) post)

/-- The block's data as functions of natural numbers. -/
def data (h : FVec Ideal S256x2048 .f32) (pre post : FVec Ideal S1x2048 .f32) (wg wu : FVec Ideal S2048x5632 .bf16)
    (wd : FVec Ideal S5632x2048 .bf16) : Ffn where
  h i l := h (ix2 ⟨i % 256, Nat.mod_lt _ (by decide)⟩ l)
  pre l := pre (ix2 0 l)
  post l := post (ix2 0 l)
  gate k j := wg (ix2 k ⟨j % 5632, Nat.mod_lt _ (by decide)⟩)
  up k j := wu (ix2 k ⟨j % 5632, Nat.mod_lt _ (by decide)⟩)
  down j l := wd (ix2 ⟨j % 5632, Nat.mod_lt _ (by decide)⟩ l)

theorem outT_at (h : FVec Ideal S256x2048 .f32) (pre post : FVec Ideal S1x2048 .f32) (wg wu : FVec Ideal S2048x5632 .bf16)
    (wd : FVec Ideal S5632x2048 .bf16) (r : Fin 256) (l : Fin 2048) :
    outT h pre post wg wu wd (ix2 r l) = (data h pre post wg wu wd).out r.val l := by
  have er : (⟨r.val % 256, Nat.mod_lt _ (by decide)⟩ : Fin 256) = r := Fin.ext (Nat.mod_eq_of_lt r.isLt)
  have ej : ∀ j : Fin 5632, (⟨j.val % 5632, Nat.mod_lt _ (by decide)⟩ : Fin 5632) = j := fun j =>
    Fin.ext (Nat.mod_eq_of_lt j.isLt)
  unfold outT
  rw [halfT_at, normT_at]
  simp only [downT_at, hidT_at, upT_at, normT_at]
  unfold Ffn.out Ffn.prod Ffn.act Ffn.xn data
  simp only [er, ej]

/-- The reference's result is that term. -/
theorem res_eq (m : (ℓ : Loc nD τ sig) → Buf (Elt Ideal) ℓ) (c : Dev nD) : res_main_v38 m c
    = outT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.FfnSampleRefIdeal.Value

end
-- ==== Proof.FfnSampleValue.lean ====
/-
  The value of the second feed-forward block at the sample group: the kernel's result is the reference's term of the same arguments.
  The group is one tile of 256 rows, so the tile is normed in the grid's first row, its eleven chunks are summed in the second, and
  it is finished in the third. What the second row writes to the result is overwritten, and the second pair of tiles is not used.
-/
module

public import proofs.«01_k».proof.Defs
public import proofs.«01_k».proof.Proof.FfnSampleBody
public import proofs.«01_k».proof.Proof.FfnSampleRef
public import Idealize.ShloMosaic.Lib.Claim

@[expose] public section

set_option maxRecDepth 16384

noncomputable section

open Idealize.ShloMosaic Idealize.ShloMosaic.TcCoe Idealize.SL.Sem
open Idealize.ShloMosaic.Pipeline (Dat RDat)

namespace Cert.FfnSampleIdeal.Body

open Cert.FfnSampleIdeal Cert.FfnSampleIdeal.Gen Cert.Proof

theorem norm_at (x : FVec Ideal S32x2048 .f32) (g : FVec Ideal S1x2048 .f32) (r : Fin 32) (l : Fin 2048) :
    k0_pay2 (F := Ideal) x g (ix2 r l) = rowNorm (fun a => x (ix2 r a)) (g (ix2 0 l)) l := by
  pointwise [k0_pay2, rowNorm]

theorem fin_at (h y : FVec Ideal S32x2048 .f32) (g : FVec Ideal S1x2048 .f32) (r : Fin 32) (l : Fin 2048) :
    k0_pay5 (F := Ideal) h y g (ix2 r l)
      = h (ix2 r l) + Ideal.ofBits .f32 0x3F000000#32 * rowNorm (fun a => y (ix2 r a)) (g (ix2 0 l)) l := by
  pointwise [k0_pay5, rowNorm]

/-- A weight's chunk applied to the tile. -/
def dotUp (x : FVec Ideal S256x2048 .bf16) (w : FVec Ideal S2048x512 .bf16) : FVec Ideal S256x512 .f32 :=
  matmul dot_S256x2048_S2048x512_S256x512_1_0_0_1_n_n none x w (constant S256x512 .f32 0x00000000#32)

theorem dotUp_at (x : FVec Ideal S256x2048 .bf16) (w : FVec Ideal S2048x512 .bf16) (r : Fin 256) (a : Fin 512) :
    dotUp x w (ix2 r a) = ∑ k : Fin 2048, x (ix2 r k) * w (ix2 k a) := by
  pointwise [dotUp]

/-- A chunk's contribution to the down product. -/
def dotDown (g u : FVec Ideal S256x512 .f32) (w : FVec Ideal S512x2048 .bf16) : FVec Ideal S256x2048 .f32 :=
  matmul dot_S256x512_S512x2048_S256x2048_1_0_0_1_n_n none (truncf .bf16 (mulf (mulf g (logistic g)) u) bitsLt_bf16_f32) w
    (constant S256x2048 .f32 0x00000000#32)

theorem dotDown_at (g u : FVec Ideal S256x512 .f32) (w : FVec Ideal S512x2048 .bf16) (r : Fin 256) (l : Fin 2048) :
    dotDown g u w (ix2 r l)
      = ∑ a : Fin 512, g (ix2 r a) * Ideal.logistic (g (ix2 r a)) * u (ix2 r a) * w (ix2 a l) := by
  pointwise [dotDown]

theorem first_chunk : ∀ n : Fin 11, Scalar.cmpi .eq (BitVec.ofNat 32 n.val) 0#32 = if n.val = 0 then 1#1 else 0#1 := by decide

/-- The accumulation of a chunk: the first chunk overwrites, the others add. -/
theorem acc_at (i : grid0.Coords) (x : FVec Ideal S256x2048 .bf16) (wg wu : FVec Ideal S2048x512 .bf16)
    (wd : FVec Ideal S512x2048 .bf16) (acc : FVec Ideal S256x2048 .f32) (r : Fin 256) (l : Fin 2048) :
    k0_pay4 (F := Ideal) i x wg wu wd acc (ix2 r l)
      = if (i 1).val = 0 then dotDown (dotUp x wg) (dotUp x wu) wd (ix2 r l)
        else acc (ix2 r l) + dotDown (dotUp x wg) (dotUp x wu) wd (ix2 r l) := by
  have e : k0_pay4 (F := Ideal) i x wg wu wd acc = shapeCast S256x2048 (Scalar.select (Scalar.cmpi .eq (BitVec.ofNat 32 (i 1).val) 0#32)
      (dotDown (dotUp x wg) (dotUp x wu) wd) (addf acc (dotDown (dotUp x wg) (dotUp x wu) wd))) shapeCasts_S256x2048_S256x2048 := rfl
  rw [e, show Scalar.cmpi .eq (BitVec.ofNat 32 (i 1).val) 0#32 = _ from first_chunk (i 1)]
  generalize dotDown (dotUp x wg) (dotUp x wu) wd = d
  split_ifs
  · show shapeCast S256x2048 d _ _ = _
    pointwise
  · show shapeCast S256x2048 (addf acc d) _ _ = _
    pointwise

/-- The point's rows of a tile. -/
theorem rows_at (i : grid0.Coords) (s : Vec Ideal S256x2048 .f32) (r : Fin 32) (l : Fin 2048) (h : 32 * min (i 1).val 7 + r.val < 256) :
    rows i s (ix2 r l) = s (ix2 ⟨32 * min (i 1).val 7 + r.val, h⟩ l) := by
  unfold rows VecWindow.window
  refine congrArg s (funext fun a => Fin.ext ?_)
  fin_cases a
  · show 32 * min (i 1).val 7 + 1 * r.val = 32 * min (i 1).val 7 + r.val
    omega
  · show 0 + 1 * l.val = l.val
    omega

/-- A tile after the point's rows are stored, in the rows stored. -/
theorem setRows_in (i : grid0.Coords) (s : Vec Ideal S256x2048 .bf16) (p : Vec Ideal S32x2048 .bf16) (k : Fin 256) (l : Fin 2048)
    (h0 : 32 * min (i 1).val 7 ≤ k.val) (h1 : k.val - 32 * min (i 1).val 7 < 32) :
    setRows i s p (ix2 k l) = p (ix2 ⟨k.val - 32 * min (i 1).val 7, h1⟩ l) := by
  unfold setRows VecWindow.put
  have hin : ∀ a : Fin 2, row i a ≤ ((ix2 k l : S256x2048.Idx) a).val ∧ ((ix2 k l : S256x2048.Idx) a).val < row i a + S32x2048.size a := by
    intro a
    fin_cases a
    · show 32 * min (i 1).val 7 ≤ k.val ∧ k.val < 32 * min (i 1).val 7 + 32
      omega
    · show 0 ≤ l.val ∧ l.val < 0 + 2048
      omega
  rw [dif_pos hin]
  refine congrArg p (funext fun a => Fin.ext ?_)
  fin_cases a
  · rfl
  · show l.val - 0 = l.val
    omega

/-- And in the other rows. -/
theorem setRows_out (i : grid0.Coords) (s : Vec Ideal S256x2048 .bf16) (p : Vec Ideal S32x2048 .bf16) (k : Fin 256) (l : Fin 2048)
    (h : ¬ (32 * min (i 1).val 7 ≤ k.val ∧ k.val < 32 * min (i 1).val 7 + 32)) :
    setRows i s p (ix2 k l) = s (ix2 k l) := by
  unfold setRows VecWindow.put
  exact dif_neg fun hin => h (hin (0 : Fin 2))

/-- Where the blocks sit that the result depends on: the finished rows, the rows to norm, the gains, and the chunk of the weights. -/
theorem idx : ∀ t : Fin cfg0.N, (22 ≤ t.val → win0_0.index t = ![min (t.val % 11) 7, 0] ∧ win0_7.index t = ![min (t.val % 11) 7, 0])
    ∧ win0_1.index t = ![min (t.val % 11) 7, 0] ∧ win0_2.index t = ![0, 0] ∧ win0_3.index t = ![0, 0]
    ∧ (11 ≤ t.val → t.val < 22 → win0_4.index t = ![0, t.val % 11] ∧ win0_5.index t = ![0, t.val % 11] ∧ win0_6.index t = ![t.val % 11, 0]) :=
  (by decide +kernel : ∀ t : Fin grid0.N, _)

variable (m : (ℓ : Loc nD τ sig) → Buf (Elt Ideal) ℓ) (c : Dev nD)

/-- The launch's arguments. -/
def dat : Ffn := Cert.FfnSampleRefIdeal.Value.data (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

theorem blk0 (t : Fin cfg0.N) (h : 22 ≤ t.val) (a : Fin 32) (l : Fin 2048) :
    iblk m c 0 t (ix2 a l) = (dat m c).h (32 * min (t.val % 11) 7 + a.val) l := by
  have i0 := ((idx t).1 h).1
  unfold dat Cert.FfnSampleRefIdeal.Value.data
  blk_point [iblk, V, i0]

theorem blk1 (t : Fin cfg0.N) (a : Fin 32) (l : Fin 2048) :
    iblk m c 1 t (ix2 a l) = (dat m c).h (32 * min (t.val % 11) 7 + a.val) l := by
  have i0 := (idx t).2.1
  unfold dat Cert.FfnSampleRefIdeal.Value.data
  blk_point [iblk, V, i0]

theorem blk2 (t : Fin cfg0.N) (l : Fin 2048) : iblk m c 2 t (ix2 0 l) = (dat m c).pre l := by
  have i0 := (idx t).2.2.1
  unfold dat Cert.FfnSampleRefIdeal.Value.data
  blk_point [iblk, V, i0]

theorem blk3 (t : Fin cfg0.N) (l : Fin 2048) : iblk m c 3 t (ix2 0 l) = (dat m c).post l := by
  have i0 := (idx t).2.2.2.1
  unfold dat Cert.FfnSampleRefIdeal.Value.data
  blk_point [iblk, V, i0]

theorem blk4 (t : Fin cfg0.N) (h : 11 ≤ t.val) (h' : t.val < 22) (k : Fin 2048) (a : Fin 512) :
    iblk m c 4 t (ix2 k a) = (dat m c).gate k (512 * (t.val % 11) + a.val) := by
  have i0 := ((idx t).2.2.2.2 h h').1
  unfold dat Cert.FfnSampleRefIdeal.Value.data
  blk_point [iblk, V, i0]

theorem blk5 (t : Fin cfg0.N) (h : 11 ≤ t.val) (h' : t.val < 22) (k : Fin 2048) (a : Fin 512) :
    iblk m c 5 t (ix2 k a) = (dat m c).up k (512 * (t.val % 11) + a.val) := by
  have i0 := ((idx t).2.2.2.2 h h').2.1
  unfold dat Cert.FfnSampleRefIdeal.Value.data
  blk_point [iblk, V, i0]

theorem blk6 (t : Fin cfg0.N) (h : 11 ≤ t.val) (h' : t.val < 22) (a : Fin 512) (l : Fin 2048) :
    iblk m c 6 t (ix2 a l) = (dat m c).down (512 * (t.val % 11) + a.val) l := by
  have i0 := ((idx t).2.2.2.2 h h').2.2
  unfold dat Cert.FfnSampleRefIdeal.Value.data
  blk_point [iblk, V, i0]

/-- What is tracked: the rows normed so far, the chunks summed so far, and the block that a point of the grid's third row finishes. -/
def track : Track Ideal where
  inv t x0 a0 := (∀ (i : Fin 256) (l : Fin 2048), i.val < 32 * t → x0 (ix2 i l) = (dat m c).xn i.val l)
    ∧ (12 ≤ t → ∀ (i : Fin 256) (l : Fin 2048), a0 (ix2 i l) = ∑ k ∈ Finset.range (min (t - 11) 11), (dat m c).part i.val k l)
  out t o := 22 ≤ t.val → ∀ (a : Fin 32) (l : Fin 2048), o (ix2 a l) = (dat m c).out (32 * min (t.val % 11) 7 + a.val) l

/-- A point of the grid's first row extends the normed rows by its own. -/
theorem norm_rows (t : Fin cfg0.N) (ht : t.val < 11) (hi : ((grid0.coords t) 1).val = t.val % 11) (x : FVec Ideal S256x2048 .bf16)
    (h : ∀ (i : Fin 256) (l : Fin 2048), i.val < 32 * t.val → x (ix2 i l) = (dat m c).xn i.val l) (i : Fin 256) (l : Fin 2048)
    (hr : i.val < 32 * (t.val + 1)) :
    setRows (F := Ideal) (e := .bf16) (grid0.coords t) x (k0_pay2 (F := Ideal) (iblk m c 1 t) (iblk m c 2 t)) (ix2 i l)
      = (dat m c).xn i.val l := by
  rw [show t.val % 11 = t.val by omega] at hi
  by_cases h0 : 32 * min t.val 7 ≤ i.val ∧ i.val < 32 * min t.val 7 + 32
  · have hb : i.val - 32 * min t.val 7 < 32 := by omega
    have h1 := h0.1
    rw [← hi] at hb h1
    rw [setRows_in _ _ _ _ _ h1 hb, norm_at, blk2]
    simp only [blk1]
    unfold Ffn.xn
    rw [hi] at h1 ⊢
    rw [show 32 * min (t.val % 11) 7 + (i.val - 32 * min t.val 7) = i.val by omega]
  · rw [setRows_out _ _ _ _ _ (by rw [hi]; exact h0)]
    exact h i l (by have := i.isLt; omega)

/-- A point of the grid's second row adds its chunk. -/
theorem sum_chunk (t : Fin cfg0.N) (h : 11 ≤ t.val) (h' : t.val < 22) (hi : ((grid0.coords t) 1).val = t.val % 11)
    (x : FVec Ideal S256x2048 .bf16) (acc : FVec Ideal S256x2048 .f32)
    (hx : ∀ (i : Fin 256) (l : Fin 2048), x (ix2 i l) = (dat m c).xn i.val l)
    (hc : 12 ≤ t.val → ∀ (i : Fin 256) (l : Fin 2048),
      acc (ix2 i l) = ∑ k ∈ Finset.range (min (t.val - 11) 11), (dat m c).part i.val k l) (i : Fin 256) (l : Fin 2048) :
    k0_pay4 (F := Ideal) (grid0.coords t) x (iblk m c 4 t) (iblk m c 5 t) (iblk m c 6 t) acc (ix2 i l)
      = ∑ k ∈ Finset.range (t.val % 11 + 1), (dat m c).part i.val k l := by
  have hd : dotDown (dotUp x (iblk m c 4 t)) (dotUp x (iblk m c 5 t)) (iblk m c 6 t) (ix2 i l)
      = (dat m c).part i.val (t.val % 11) l := by
    rw [dotDown_at]
    simp only [dotUp_at, hx, blk4 m c t h h', blk5 m c t h h', blk6 m c t h h']
    rfl
  rw [acc_at, hi, hd, Finset.sum_range_succ]
  split_ifs with h0
  · rw [h0, Finset.sum_range_zero, zero_add]
  · rw [hc (by omega), show min (t.val - 11) 11 = t.val % 11 by omega]

/-- A point of the grid's third row finishes its rows. -/
theorem fin_block (t : Fin cfg0.N) (h : 22 ≤ t.val) (hi : ((grid0.coords t) 1).val = t.val % 11) (acc : FVec Ideal S256x2048 .f32)
    (hy : ∀ (i : Fin 256) (l : Fin 2048), acc (ix2 i l) = (dat m c).prod i.val l) (a : Fin 32) (l : Fin 2048) :
    k0_pay5 (F := Ideal) (iblk m c 0 t) (rows (F := Ideal) (e := .f32) (grid0.coords t) acc) (iblk m c 3 t) (ix2 a l)
      = (dat m c).out (32 * min (t.val % 11) 7 + a.val) l := by
  have hb : 32 * min ((grid0.coords t) 1).val 7 + a.val < 256 := by omega
  have hr : ∀ k : Fin 2048, rows (F := Ideal) (e := .f32) (grid0.coords t) acc (ix2 a k)
      = (dat m c).prod (32 * min (t.val % 11) 7 + a.val) k := fun k => by
    rw [rows_at _ _ _ _ hb, hy]
    dsimp only
    rw [hi]
  rw [fin_at, blk0 m c t h, blk3]
  simp only [hr]
  rfl

/-- Every point keeps it. -/
theorem keeps : Keeps m (track m) c where
  init x0 a0 := ⟨fun i l h => absurd h (by omega), fun h => absurd h (by decide)⟩
  step := by
    intro t o x0 x1 a0 a1 o' x0' x1' a0' a1' h hs
    obtain ⟨hi, hcase⟩ := point_cases t
    have ht : t.val < 33 := t.isLt
    obtain ⟨hx, ha⟩ := h
    rcases hcase with ⟨ht0, c1, c2, c3, c4, c5⟩ | ⟨ht0, ht1, c1, c2, c3, c4, c5⟩ | ⟨ht0, ht1, c1, c2, c3, c4, c5⟩
      | ⟨ht0, c1, c2, c3, c4, c5⟩ <;> cases hs <;> first | contradiction | skip
    · exact ⟨⟨norm_rows m c t (by omega) hi x0 hx, fun h => absurd h (by omega)⟩, fun h => absurd h (by omega)⟩
    · exact ⟨⟨norm_rows m c t ht1 hi x0 hx, fun h => absurd h (by omega)⟩, fun h => absurd h (by omega)⟩
    · refine ⟨⟨fun i l _ => hx i l (by have := i.isLt; omega), fun _ i l => ?_⟩, fun h => absurd h (by omega)⟩
      rw [show min (t.val + 1 - 11) 11 = t.val % 11 + 1 by omega]
      exact sum_chunk m c t ht0 ht1 hi x0 a0 (fun i l => hx i l (by have := i.isLt; omega)) ha i l
    · have ha' : ∀ (i : Fin 256) (l : Fin 2048), a0 (ix2 i l) = ∑ k ∈ Finset.range 11, (dat m c).part i.val k l := fun i l => by
        rw [ha (by omega), show min (t.val - 11) 11 = 11 by omega]
      refine ⟨⟨fun i l _ => hx i l (by have := i.isLt; omega), fun _ i l => ?_⟩, fun _ => ?_⟩
      · rw [show min (t.val + 1 - 11) 11 = 11 by omega]
        exact ha' i l
      · exact fin_block m c t ht0 hi a0 fun i l => (ha' i l).trans (Ffn.sum_part _ _ _)

/-- The points that write a finished block back: those of the grid's third row. -/
theorem flush_late : ∀ t : Fin cfg0.N, (cfg0.win 7).flush t = true → 22 ≤ t.val :=
  (by decide +kernel : ∀ t : Fin grid0.N, (cfg0.win 7).flush t = true → 22 ≤ t.val)

/-- The result array, whatever the body left at the points that write it back, so long as each left what is tracked. -/
theorem final (after : (w : Fin cfg0.W) → Fin cfg0.N → (cfg0.win w).block.Idx → Elt Ideal (cfg0.win w).elt)
    (ha : ∀ (w : Fin cfg0.W) (u : Fin cfg0.N), (cfg0.win w).flush u = true → (rdat m (track m) c).Leaves w u (after w u)) :
    ((rdat m (track m) c).withAfter after).arrAt 7 cfg0.N = Cert.FfnSampleRefIdeal.Value.outT (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  refine ((rdat m (track m) c).withAfter after).arrAt_eq_of_covers 7 _ (by decide +kernel) fun t hf y => ?_
  have h2 := flush_late t hf
  obtain ⟨Y, -, hl⟩ := ha 7 t hf
  obtain ⟨r, l, rfl⟩ : ∃ (r : Fin 32) (l : Fin 2048), y = ix2 r l := ⟨y 0, y 1, eq_ix2 y⟩
  have hl : ∀ (a : Fin 32) (l : Fin 2048), after 7 t (ix2 a l) = (dat m c).out (32 * min (t.val % 11) 7 + a.val) l :=
    (show (track m c).out t (after 7 t) from hl) h2
  obtain ⟨i, j, hij⟩ : ∃ (i : Fin 256) (j : Fin 2048), ((cfg0.win 7).blk t).view.emb (ix2 r l) = ix2 i j := ⟨_, _, eq_ix2 _⟩
  have hi := congrArg (fun x => (x 0).val) hij
  have hj := congrArg (fun x => (x 1).val) hij
  have i0 := ((idx t).1 h2).2
  blk_simp [i0] at hi hj
  refine Eq.trans ?_ (congrArg _ hij.symm)
  rw [Cert.FfnSampleRefIdeal.Value.outT_at]
  obtain rfl : l = j := Fin.ext (by omega)
  refine (hl r l).trans ?_
  rw [show 32 * min (t.val % 11) 7 + r.val = i.val by omega]
  rfl

end Cert.FfnSampleIdeal.Body

namespace Cert.Proof

open Cert.FfnSampleIdeal Cert.FfnSampleIdeal.Gen Cert.FfnSampleIdeal.Body

theorem algebraic_ffnSample : Cert.algebraic_FfnSampleIdeal_FfnSampleRefIdeal (hFfnSampleIdeal := Cert.FfnSampleIdeal.Gen.facts)
    (hFfnSampleRefIdeal := Cert.FfnSampleRefIdeal.Gen.facts) := by
  intro m g m' g' _ hargs
  refine ⟨fun c => Cert.FfnSampleRefIdeal.Value.res_main_v38 m' c, ?_, ?_⟩
  · refine (θ_run (Cert.FfnSampleIdeal.defs (F := Ideal)) _ _).mono (fun r h c => ?_) (run_main m g (track m) fun c => keeps m c)
    obtain ⟨after, ha, hA⟩ := h.1.exists_exact c
    obtain ⟨e0, e1, e2, e3, e4, e5⟩ := hargs c
    refine ⟨((hA 7).trans (final m c after ha)).trans ?_, h.1.arr_in c 1 rfl, h.1.arr_in c 2 rfl, h.1.arr_in c 3 rfl, h.1.arr_in c 4 rfl,
      h.1.arr_in c 5 rfl, h.1.arr_in c 6 rfl⟩
    show _ = Cert.FfnSampleRefIdeal.Value.res_main_v38 m' c
    rw [Cert.FfnSampleRefIdeal.Value.res_eq, e0, e1, e2, e3, e4, e5]
  · exact (θ_run (Cert.FfnSampleRefIdeal.defs (F := Ideal)) _ _).mono (fun r h c => h c) (Cert.FfnSampleRefIdeal.Value.run (F := Ideal) m' g')

end Cert.Proof

end
-- ==== Proof.FfnSampleFrame.lean ====
/- The frame of the program as compiled, from the one of the program as idealized: no rule rewrites it, so the two programs are one text. -/
module

public import proofs.«01_k».proof.Defs
public import proofs.«01_k».proof.Proof.FfnSampleBody
public import proofs.«01_k».proof.Proof.Gen.FfnSample.Frame

@[expose] public section

noncomputable section

namespace Cert.FfnSample.Body

open Idealize.ShloMosaic Idealize.ShloMosaic.TcCoe Idealize.SL.Sem

variable {F : FTy → Type} [FloatOps F]

/-- The two body tables agree at their one label. -/
theorem body_table : @Cert.FfnSampleIdeal.defs₀ F _ Cert.FfnSampleIdeal.Gen.facts = @Cert.FfnSample.defs₀ F _ Cert.FfnSample.Gen.facts :=
  congrArg Defs.onTc (funext fun l => funext fun x => by
    match l, x with
    | 0, (t, s) => rfl
    | ⟨_ + 1, h⟩, _ => exact absurd h (Nat.not_lt.2 (Nat.le_add_left _ _)))

theorem frame : Cert.quiescent_FfnSample (hFfnSample := Cert.FfnSample.Gen.facts) := by
  intro m ρ _
  have h := Cert.FfnSampleIdeal.Body.frame (F := Bits) m ρ
  unfold Cert.FfnSampleIdeal.defs at h
  rw [body_table] at h
  exact h

end Cert.FfnSample.Body

end
-- ==== Proof.SsmSampleRun.lean ====
module

public import proofs.«01_k».proof.Proof.Gen.SsmSampleIdeal.Skeleton
public import proofs.«01_k».proof.Proof.Gen.SsmSampleIdeal.Frame
public import Idealize.ShloMosaic.Lib.VecWindow
public import Idealize.ShloMosaic.Lib.Pipeline.Value
public import Idealize.ShloMosaic.Lib.Pipeline.ValueKit

@[expose] public section

set_option maxRecDepth 65536

noncomputable section

namespace Cert.SsmSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.SsmSampleIdeal.Gen

variable {F : FTy → Type} [FloatOps F]

local notation "𝕄" => MT nD τ sig Unit (Elt F) ℕ (UR sig nD τ) ℕ

abbrev cond1 (i : grid0.Coords) : BitVec 1 :=
  Scalar.cmpi .ne (Scalar.extui (Scalar.cmpi .eq (BitVec.ofNat 32 (i 1).val) 0#32)) 0#32

theorem load_window {s : Shape} {e : EltTy} {m : Memref sig .tc .vmem s e} (hm : m.IsWhole) (x : Vec F s e) {off size : Fin s.rank → ℕ}
    (inb : ∀ a, off a + size a ≤ s.size a) :
    View.readAt (Elt F) m.view (Rect.unit off size inb).toLoadRect (hm.unread x) = VecWindow.window x off size inb := by
  rw [View.readAt_unit _ _ _ rfl inb, hm.read_unread]

theorem load_full {s : Shape} {e : EltTy} {m : Memref sig .tc .vmem s e} (hm : m.IsWhole) (x : Vec F s e) {off : Fin s.rank → ℕ}
    (inb : ∀ a, off a + s.size a ≤ s.size a) :
    View.readAt (Elt F) m.view (Rect.unit off s.size inb).toLoadRect (hm.unread x) = x :=
  (View.readAt_full _ _ inb).trans (hm.read_unread x)

theorem row_inb (k o : ℕ) (hk : k < 17) (ho : o ≤ 512) : ∀ a, (![0, k, o] : Fin 3 → ℕ) a + S1x1x512.size a ≤ S1x17x1024.size a := by
  intro a
  fin_cases a
  · show 0 + 1 ≤ 1; omega
  · show k + 1 ≤ 17; omega
  · show o + 512 ≤ 1024; omega

/-- The input's map times a power of the transition: a block of the map from a chunk's frames to its final state. -/
def blk (bd : Vec F S1x128x1024 .f32) (pw : Vec F S1x17x1024 .f32) (k : Fin 16) : FVec F S128x1024 .bf16 :=
  k0_pay18 (k0_pay2 (VecWindow.window bd ![0, 0, 0] S1x128x512.size inb_S1x128x1024_S1x128x512_0_0_0))
    (k0_pay3 (VecWindow.window bd ![0, 0, 512] S1x128x512.size inb_S1x128x1024_S1x128x512_0_0_512))
    (VecWindow.window pw ![0, k.val, 0] S1x1x512.size (row_inb k.val 0 (by omega) (by omega)))
    (VecWindow.window pw ![0, k.val, 512] S1x1x512.size (row_inb k.val 512 (by omega) (by omega)))

/-- The map from a chunk's frames to its final state: the frame at `t` meets the power `15 - t`. -/
def wus (bd : Vec F S1x128x1024 .f32) (pw : Vec F S1x17x1024 .f32) : Vec F S2048x1024 .bf16 :=
  fun y => blk bd pw ⟨15 - (y 0).val / 128, by omega⟩ (ix2 (⟨(y 0).val % 128, Nat.mod_lt _ (by omega)⟩ : Fin 128) (y 1 : Fin 1024))

theorem wus_at (bd : Vec F S1x128x1024 .f32) (pw : Vec F S1x17x1024 .f32) (k : Fin 16) (x : S128x1024.Idx) (y : S2048x1024.Idx)
    (h0 : (y 0).val = 128 * (15 - k.val) + (x 0).val) (h1 : (y 1).val = (x 1).val) : wus bd pw y = blk bd pw k x := by
  have hx : (x 0).val < 128 := (x 0).isLt
  have ek : (⟨15 - (y 0).val / 128, by omega⟩ : Fin 16) = k := Fin.ext (by show 15 - (y 0).val / 128 = k.val; omega)
  have ex : ix2 (⟨(y 0).val % 128, Nat.mod_lt _ (by omega)⟩ : Fin 128) (y 1 : Fin 1024) = x := by
    funext a
    fin_cases a
    · exact Fin.ext (by show (y 0).val % 128 = (x 0).val; omega)
    · exact Fin.ext h1
  exact congr (congrArg _ ek) ex

theorem mem_rows (y : S2048x1024.Idx) (o : ℕ) (inb : ∀ a, (![o, 0] : Fin 2 → ℕ) a + S128x1024.size a ≤ S2048x1024.size a)
    (h : o ≤ (y 0).val ∧ (y 0).val < o + 128) : y ∈ (Rect.unit (s := S2048x1024) ![o, 0] S128x1024.size inb).set := by
  rw [Rect.mem_set_unit]
  intro a
  fin_cases a
  · exact h
  · exact ⟨Nat.zero_le _, by show (y 1).val < 0 + 1024; have := (y 1).isLt; simpa using this⟩

theorem rows_or {q : Prop} (y : S2048x1024.Idx) (o : ℕ) (inb : ∀ a, (![o, 0] : Fin 2 → ℕ) a + S128x1024.size a ≤ S2048x1024.size a)
    (h : ¬ (o ≤ (y 0).val ∧ (y 0).val < o + 128) → q) : y ∈ (Rect.unit (s := S2048x1024) ![o, 0] S128x1024.size inb).set ∨ q :=
  (Classical.em (o ≤ (y 0).val ∧ (y 0).val < o + 128)).imp (mem_rows y o inb) h

/-- What the point leaves in the final states' block. -/
def sfin (us : Vec F S1x16x2048 .f32) (s0 : Vec F S1x1x16x1024 .f32) (bd : Vec F S1x128x1024 .f32) (pw : Vec F S1x17x1024 .f32) :
    Vec F S1x1x16x1024 .f32 :=
  k0_pay273 us (wus bd pw) (VecWindow.window pw ![0, 16, 0] S1x1x1024.size inb_S1x17x1024_S1x1x1024_0_16_0) s0

section Run

variable (c : Dev nD) (i : grid0.Coords) (arg2 : Memref sig .tc .vmem S1x16x2048 .f32) (harg2 : arg2.IsWhole)
  (arg3 : Memref sig .tc .vmem S1x1x16x1024 .f32) (harg3 : arg3.IsWhole)
  (arg4 : Memref sig .tc .vmem S1x128x1024 .f32) (harg4 : arg4.IsWhole)
  (arg5 : Memref sig .tc .vmem S1x128x1024 .f32) (harg5 : arg5.IsWhole)
  (arg6 : Memref sig .tc .vmem S1x17x1024 .f32) (harg6 : arg6.IsWhole)
  (arg7 : Memref sig .tc .vmem S1x1x128 .f32) (harg7 : arg7.IsWhole)
  (arg8 : Memref sig .tc .vmem S256x128 .f32) (harg8 : arg8.IsWhole)
  (arg9 : Memref sig .tc .vmem S1x1x16x1024 .f32) (harg9 : arg9.IsWhole)
  (arg10 : Memref sig .tc .vmem S2048x2048 .bf16) (harg10 : arg10.IsWhole)
  (arg11 : Memref sig .tc .vmem S2048x1024 .bf16) (harg11 : arg11.IsWhole)
  (arg12 : Memref sig .tc .vmem S2048x1024 .bf16) (harg12 : arg12.IsWhole)
  (arg13 : Memref sig .tc .vmem S8x16x128 .f32) (harg13 : arg13.IsWhole)
  (arg14 : Memref sig .tc .vmem S8x16x128 .f32) (harg14 : arg14.IsWhole)
  (us : Vec F S1x16x2048 .f32) (s0 : Vec F S1x1x16x1024 .f32) (bd cd : Vec F S1x128x1024 .f32) (pw : Vec F S1x17x1024 .f32)
  (d : Vec F S1x1x128 .f32)

def ins : sProp 𝕄 :=
  iprop(owns (c : Thread nD τ) arg2 fullShare us ∗ owns (c : Thread nD τ) arg3 fullShare s0 ∗ owns (c : Thread nD τ) arg4 fullShare bd
    ∗ owns (c : Thread nD τ) arg5 fullShare cd ∗ owns (c : Thread nD τ) arg6 fullShare pw ∗ owns (c : Thread nD τ) arg7 fullShare d)

def scr : sProp 𝕄 :=
  iprop((∃ x, owns (c : Thread nD τ) arg10 fullShare x) ∗ (∃ x, owns (c : Thread nD τ) arg11 fullShare x)
    ∗ (∃ x, owns (c : Thread nD τ) arg12 fullShare x) ∗ (∃ x, owns (c : Thread nD τ) arg13 fullShare x) ∗ (∃ x, owns (c : Thread nD τ) arg14 fullShare x))

set_option maxHeartbeats 80000000 in
theorem run (h1 : cond1 i = 1#1) (E : Set ℕ) (K : PUnit → sProp 𝕄) :
    iprop((ins c arg2 arg3 arg4 arg5 arg6 arg7 us s0 bd cd pw d ∗ (∃ x, owns (c : Thread nD τ) arg8 fullShare x)
        ∗ (∃ x, owns (c : Thread nD τ) arg9 fullShare x) ∗ scr c arg10 arg11 arg12 arg13 arg14)
      ∗ ((ins c arg2 arg3 arg4 arg5 arg6 arg7 us s0 bd cd pw d ∗ (∃ x, owns (c : Thread nD τ) arg8 fullShare x)
        ∗ owns (c : Thread nD τ) arg9 fullShare (sfin us s0 bd pw) ∗ scr c arg10 arg11 arg12 arg13 arg14) -∗ K ⟨⟩))
      ⊢ wp frame (wpE (defs₀ (F := F)) Variants.none c none) E
          (cc0_ssm_core i arg2 harg2 arg3 harg3 arg4 harg4 arg5 harg5 arg6 harg6 arg7 harg7 arg8 harg8 arg9 harg9 arg10 harg10 arg11 harg11 arg12 harg12 arg13 harg13 arg14 harg14) K := by
  simp only [cc0_ssm_core_eq_skeleton]; unfold cc0_ssm_core_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold ins scr owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨%y8, %f8, %hf8, H8⟩, ⟨%y9, %f9, %hf9, H9⟩, ⟨%y10, %f10, %hf10, H10⟩, ⟨%y11, %f11, %hf11, H11⟩, ⟨%y12, %f12, %hf12, H12⟩, ⟨%y13, %f13, %hf13, H13⟩, ⟨%y14, %f14, %hf14, H14⟩⟩, Hk⟩
  obtain rfl := harg2.eq_unread hf2; obtain rfl := harg3.eq_unread hf3; obtain rfl := harg4.eq_unread hf4
  obtain rfl := harg6.eq_unread hf6
  sl_exec (disch := sl_exact h1)
  sl_step
  iapply Hk
  isplitl [H2 H3 H4 H5 H6 H7]
  · isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact hf5
    isplitl [H6]
    · iexists _; isplitr; swap; · iexact H6
      ipureintro; exact harg6.read_unread _
    iexists _; isplitr; swap; · iexact H7
    ipureintro; exact hf7
  isplitl [H8]
  · iexists _; iexists _; isplitr; swap; · iexact H8
    ipureintro; rfl
  isplitl [H9]
  · iexists _; isplitr; swap; · iexact H9
    ipureintro
    rw [View.read_writes_full]
    have hw : run.sl.v6 c arg4 harg4 arg6 harg6 arg11 bd pw = wus bd pw := by
      delta run.sl.v6; delta run.sl.H11_16
      delta run.sl.r run.sl.r_1 run.sl.v323 run.sl.v324 run.sl.r_15 run.sl.r_16 run.sl.r_17 run.sl.r_18 run.sl.r_54 run.sl.r_63
      delta run.sl.v321
      rw [View.readCov_eq_canon']
      simp only [load_window]
      funext y
      rw [show (Rect.unit ![0, 0] S2048x1024.size inb_S2048x1024_S2048x1024_0_0).toLoadRect.idx y = y from
        funext fun a => Fin.ext (by fin_cases a <;> (dsimp only [Rect.toLoadRect, LoadRect.idx]; show 0 + 1 * _ = _; omega))]
      refine View.canon_apply_of_pieces (wus bd pw) _ ?_ y ?_
      · simp only [List.forall_mem_cons, List.not_mem_nil, false_imp_iff, implies_true, and_true]
        refine ⟨fun x => (wus_at bd pw 15 x _ (by show 0 + 1 * _ = _; simp) (by show 0 + 1 * _ = _; simp)).symm, fun x => (wus_at bd pw 14 x _ (by show 128 + 1 * _ = _; simp) (by show 0 + 1 * _ = _; simp)).symm, fun x => (wus_at bd pw 13 x _ (by show 256 + 1 * _ = _; simp) (by show 0 + 1 * _ = _; simp)).symm, fun x => (wus_at bd pw 12 x _ (by show 384 + 1 * _ = _; simp) (by show 0 + 1 * _ = _; simp)).symm, fun x => (wus_at bd pw 11 x _ (by show 512 + 1 * _ = _; simp) (by show 0 + 1 * _ = _; simp)).symm, fun x => (wus_at bd pw 10 x _ (by show 640 + 1 * _ = _; simp) (by show 0 + 1 * _ = _; simp)).symm, fun x => (wus_at bd pw 9 x _ (by show 768 + 1 * _ = _; simp) (by show 0 + 1 * _ = _; simp)).symm, fun x => (wus_at bd pw 8 x _ (by show 896 + 1 * _ = _; simp) (by show 0 + 1 * _ = _; simp)).symm, fun x => (wus_at bd pw 7 x _ (by show 1024 + 1 * _ = _; simp) (by show 0 + 1 * _ = _; simp)).symm, fun x => (wus_at bd pw 6 x _ (by show 1152 + 1 * _ = _; simp) (by show 0 + 1 * _ = _; simp)).symm, fun x => (wus_at bd pw 5 x _ (by show 1280 + 1 * _ = _; simp) (by show 0 + 1 * _ = _; simp)).symm, fun x => (wus_at bd pw 4 x _ (by show 1408 + 1 * _ = _; simp) (by show 0 + 1 * _ = _; simp)).symm, fun x => (wus_at bd pw 3 x _ (by show 1536 + 1 * _ = _; simp) (by show 0 + 1 * _ = _; simp)).symm, fun x => (wus_at bd pw 2 x _ (by show 1664 + 1 * _ = _; simp) (by show 0 + 1 * _ = _; simp)).symm, fun x => (wus_at bd pw 1 x _ (by show 1792 + 1 * _ = _; simp) (by show 0 + 1 * _ = _; simp)).symm, fun x => (wus_at bd pw 0 x _ (by show 1920 + 1 * _ = _; simp) (by show 0 + 1 * _ = _; simp)).symm⟩
      · have hy := (y 0).isLt
        simp only [List.mem_cons, List.not_mem_nil, or_false, exists_eq_or_imp, exists_eq_left]
        iterate 15 refine rows_or y _ _ fun h => ?_
        refine mem_rows y _ _ ⟨by omega, ?_⟩
        show (y 0).val < 1920 + 128
        exact hy
    rw [hw]
    unfold sfin
    congr 1 <;> first | exact load_full harg2 _ _ | exact load_full harg3 _ _ | exact load_window harg6 _ _
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  iexists _; iexists _; isplitr; swap; · iexact H14
  ipureintro; rfl

end Run

end Cert.SsmSampleIdeal.Body
-- ==== Proof.SsmSampleBody.lean ====
/- The state space kernel's launch, sample sizes: its body at each of the 8 octets, put under the pipeline's rule with what a point
   leaves in the final states' block. -/
module

public import proofs.«01_k».proof.Proof.SsmSampleRun
public import Idealize.ShloMosaic.Lib.Pipeline.ArrRel

@[expose] public section

set_option maxRecDepth 16384

noncomputable section

namespace Cert.SsmSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)
open Cert.SsmSampleIdeal.Gen

variable {F : FTy → Type} [FloatOps F]

local notation "𝕄" => MT nD τ sig Unit (Elt F) ℕ (UR sig nD τ) ℕ

/-- The point of an octet: it is the octet's number, and the operators are built at each. -/
theorem point_cases : ∀ t : Fin cfg0.N, cond1 (grid0.coords t) = 1#1 :=
  (by decide +kernel : ∀ t : Fin grid0.N, _)

variable (m : (ℓ : Loc nD τ sig) → Buf (Elt F) ℓ) (ρ : Dev nD → PrngReg)

/-- The five scratch buffers. -/
abbrev scr0 : Memref sig .tc .vmem S2048x2048 .bf16 := Memref.whole cc0_scratch0
abbrev scr1 : Memref sig .tc .vmem S2048x1024 .bf16 := Memref.whole cc0_scratch1
abbrev scr2 : Memref sig .tc .vmem S2048x1024 .bf16 := Memref.whole cc0_scratch2
abbrev scr3 : Memref sig .tc .vmem S8x16x128 .f32 := Memref.whole cc0_scratch3
abbrev scr4 : Memref sig .tc .vmem S8x16x128 .f32 := Memref.whole cc0_scratch4

/-- What a point leaves in a window's buffer: an input's block as found, of the outputs' blocks the final states'. -/
def left (c : Dev nD) : (w : Fin cfg0.W) → Fin cfg0.N → (Y X : (cfg0.win w).block.Idx → Elt F (cfg0.win w).elt) → Prop
  | 0, _, Y, X => X = Y
  | 1, _, Y, X => X = Y
  | 2, _, Y, X => X = Y
  | 3, _, Y, X => X = Y
  | 4, _, Y, X => X = Y
  | 5, _, Y, X => X = Y
  | 6, _, _, _ => True
  | 7, t, _, X => X = sfin (iblk m c 0 t) (iblk m c 1 t) (iblk m c 2 t) (iblk m c 4 t)

/-- The relational proof data of the one region. -/
def rdat (c : Dev nD) : RDat τ (Elt F) Unit ℕ (UR sig nD τ) ℕ cfg0 c where
  A w := V m c (Pipeline.arrRef spec0 w)
  after := left m c
  Φ _ := iprop(scr c scr0 scr1 scr2 scr3 scr4 ∗ ∃ r, prngReg c r)
  q w := Pipeline.shareOf spec0 w
  owed _ := 0

theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rfl
/-- The body table's row at a point is the body. -/
theorem body_row (t : Fin cfg0.N) : defs₀ (F := F) .tc cfg0.body (cfg0.bodyArgs t (cfg0.slots t)) = bodyAt0 t := by
  unfold defs₀; rw [Defs.onTc_tc]

set_option maxHeartbeats 1600000 in
theorem body_obligation (c : Dev nD) : (rdat (F := F) m c).BodyObligation (defs₀ (F := F)) Variants.none () Set.univ := by
  intro t Y hY
  rw [bigSep_W0, bigSep_W0, body_row]
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  rw [show (rdat m c).owesAt () t.succ = (rdat m c).owesAt () t.castSucc from rfl]
  unfold bodyAt0
  rw [e0, e1, e2, e3, e4, e5]
  unfold rdat; dsimp only
  iintro ⟨⟨HS, Hg⟩, Ho, H0, H1, H2, H3, H4, H5, H6, H7⟩
  iapply (run c (grid0.coords t) _ _ _ _ _ _ _ _ _ _ _ _ _ _ _ _ _ _ _ _ _ _ _ _ _ _ (iblk m c 0 t) (iblk m c 1 t) (iblk m c 2 t) (iblk m c 3 t)
    (iblk m c 4 t) (iblk m c 5 t) (point_cases t) Set.univ _)
  unfold ins
  isplitl [HS H0 H1 H2 H3 H4 H5 H6 H7]
  · isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    iexact HS
  iintro ⟨⟨H0, H1, H2, H3, H4, H5⟩, ⟨%y, H6⟩, H7, HS⟩
  isplitl [HS Hg]
  · isplitl [HS]; · iexact HS
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists y; isplitr; swap; · iexact H6
                  ipureintro; trivial
  iexists _; isplitr; swap; · iexact H7
  ipureintro; rfl

/-- The scratch tiles and the generator's register, as the launch hands them over and takes them back. -/
theorem scratch_eq (c : Dev nD) : (Pipeline.ΦA spec0 c : sProp 𝕄) = iprop(scr (F := F) c scr0 scr1 scr2 scr3 scr4 ∗ ∃ r, prngReg c r) := by
  unfold Pipeline.ΦA; rw [scopedRest0_eq]; simp only [scr, scr0, scr1, scr2, scr3, scr4, owns_whole]; rfl

set_option backward.isDefEq.respectTransparency.types false in
/-- The launch: every weakly fair execution ends, the arrays as the proof data say and the counters at zero. -/
theorem run_main : θ_run defs (onTc (τ := τ) (main (F := F))) (s₀ m ρ)
    (fun r => RDat.FramePost cfg0 (rdat m) (V m) r ∧ r.2.sem = fun _ => 0) :=
  RDat.θ_run_frame_track (Q' := _) cfgs (0 : Fin 1) launch0 defs₀ Variants.none (rdat m) m ρ main
    (fun c => body_obligation m c) (fun c w => by fin_cases w <;> rfl) (fun _ _ => rfl) (V m) (hmain m Variants.none) (fun _ _ => rfl)
    (fun c => by rw [scratch_eq]; exact .rfl) (fun c => by rw [scratch_eq]; exact .rfl) (fun _ h => h)

/-- What a run leaves of the arguments. -/
theorem args {r} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (V_main_arg0 m c),
    ((h c).2 main_arg1 (Pipeline.mem_restRefs_of main_arg1 (by decide) (by decide))).trans (V_main_arg1 m c),
    (h.arr_in c 2 rfl).trans (V_main_arg2 m c), (h.arr_in c 3 rfl).trans (V_main_arg3 m c), (h.arr_in c 4 rfl).trans (V_main_arg4 m c),
    (h.arr_in c 5 rfl).trans (V_main_arg5 m c)⟩

/-- The frame: every weakly fair execution ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args m h.1 c, h.2⟩) (run_main m ρ)

end Cert.SsmSampleIdeal.Body
-- ==== Proof.SsmMath.lean ====
/-
  The state space's mathematics: a recurrence run over the frames of a chunk is the power of the transition times the carried state
  plus the sum, over the frames, of the frame's input times the power left to run.
-/
module

public import proofs.«01_k».proof.Proof.MemAttRow
public import Mathlib.Data.Complex.BigOperators

@[expose] public section

noncomputable section

namespace Cert.Proof.Ssm

/-- The recurrence's state after `n` frames, in closed form. -/
theorem closed (A : ℂ) (C V : ℕ → ℂ) (h : ∀ n, C (n + 1) = A * C n + V n) (n : ℕ) :
    C n = A ^ n * C 0 + ∑ t ∈ Finset.range n, V t * A ^ (n - 1 - t) := by
  induction n with
  | zero => simp
  | succ n ih =>
    rw [h, ih, Finset.sum_range_succ, mul_add, Finset.mul_sum, pow_succ]
    have e : ∀ t ∈ Finset.range n, A * (V t * A ^ (n - 1 - t)) = V t * A ^ (n + 1 - 1 - t) := fun t ht => by
      have := Finset.mem_range.1 ht
      rw [show n + 1 - 1 - t = (n - 1 - t) + 1 by omega, pow_succ]
      ring
    rw [Finset.sum_congr rfl e]
    simp
    ring

/-- The powers' real and imaginary parts, from their own recurrence. -/
theorem powers (pr pi : ℕ → ℝ) (h0 : pr 0 = 1 ∧ pi 0 = 0)
    (h : ∀ k < 16, pr (k + 1) = pr k * pr 1 - pi k * pi 1 ∧ pi (k + 1) = pr k * pi 1 + pi k * pr 1) (k : ℕ) (hk : k ≤ 16) :
    (⟨pr 1, pi 1⟩ : ℂ) ^ k = ⟨pr k, pi k⟩ := by
  induction k with
  | zero => rw [h0.1, h0.2]; rfl
  | succ k ih =>
    rw [pow_succ, ih (by omega), (h k (by omega)).1, (h k (by omega)).2]
    exact Complex.ext (Complex.mul_re _ _) (Complex.mul_im _ _)

/-- The frames' inputs, a frame's row times the input's map. -/
def inp (u : ℕ → Fin 128 → ℝ) (b : Fin 128 → ℝ) (t : ℕ) : ℝ := ∑ l, u t l * b l

/-- The recurrence's real and imaginary parts after a chunk of 16 frames. -/
theorem chunk (pr pi : ℕ → ℝ) (h0 : pr 0 = 1 ∧ pi 0 = 0)
    (h : ∀ k < 16, pr (k + 1) = pr k * pr 1 - pi k * pi 1 ∧ pi (k + 1) = pr k * pi 1 + pi k * pr 1)
    (u : ℕ → Fin 128 → ℝ) (br bi : Fin 128 → ℝ) (x y : ℕ → ℝ)
    (hs : ∀ n, x (n + 1) = pr 1 * x n - pi 1 * y n + inp u br n ∧ y (n + 1) = pr 1 * y n + pi 1 * x n + inp u bi n) :
    x 16 = pr 16 * x 0 - pi 16 * y 0 + ∑ t : Fin 16, ∑ l, u t l * (br l * pr (15 - t) - bi l * pi (15 - t))
      ∧ y 16 = pr 16 * y 0 + pi 16 * x 0 + ∑ t : Fin 16, ∑ l, u t l * (br l * pi (15 - t) + bi l * pr (15 - t)) := by
  have hc := closed ⟨pr 1, pi 1⟩ (fun n => ⟨x n, y n⟩) (fun n => ⟨inp u br n, inp u bi n⟩)
    (fun n => Complex.ext (by rw [Complex.add_re, Complex.mul_re]; exact (hs n).1) (by rw [Complex.add_im, Complex.mul_im]; exact (hs n).2)) 16
  rw [powers pr pi h0 h 16 le_rfl, Finset.sum_range, Finset.sum_congr rfl (g := fun t : Fin 16 =>
    (⟨∑ l, u t l * (br l * pr (15 - t) - bi l * pi (15 - t)), ∑ l, u t l * (br l * pi (15 - t) + bi l * pr (15 - t))⟩ : ℂ)) fun t _ => by
      rw [powers pr pi h0 h (16 - 1 - t) (by omega)]
      refine Complex.ext ?_ ?_
      · rw [Complex.mul_re]
        show inp u br t * pr (15 - t) - inp u bi t * pi (15 - t) = _
        unfold inp
        rw [Finset.sum_mul, Finset.sum_mul, ← Finset.sum_sub_distrib]
        dsimp only
        exact Finset.sum_congr rfl fun l _ => by ring
      · rw [Complex.mul_im]
        show inp u br t * pi (15 - t) + inp u bi t * pr (15 - t) = _
        unfold inp
        rw [Finset.sum_mul, Finset.sum_mul, ← Finset.sum_add_distrib]
        dsimp only
        exact Finset.sum_congr rfl fun l _ => by ring] at hc
  have hr := congrArg Complex.re hc
  have hi := congrArg Complex.im hc
  rw [Complex.add_re, Complex.mul_re, Complex.re_sum] at hr
  rw [Complex.add_im, Complex.mul_im, Complex.im_sum] at hi
  exact ⟨hr, hi⟩

/-- One lane of the state space over a chunk, in the extended reals: the powers of its transition, the chunk's frames, the lane's two
  rows of the input's map, and the carried state. -/
structure Lane where
  pr : ℕ → EReal
  pi : ℕ → EReal
  u : ℕ → Fin 128 → EReal
  br : Fin 128 → EReal
  bi : Fin 128 → EReal
  x : EReal
  y : EReal

namespace Lane

variable (L : Lane)

/-- The recurrence, frame by frame. -/
def seq : ℕ → EReal × EReal
  | 0 => (L.x, L.y)
  | n + 1 => (L.pr 1 * (seq n).1 - L.pi 1 * (seq n).2 + ∑ l, L.u n l * L.br l,
      L.pr 1 * (seq n).2 + L.pi 1 * (seq n).1 + ∑ l, L.u n l * L.bi l)

/-- The final state's real part, in closed form. -/
def re : EReal := L.pr 16 * L.x - L.pi 16 * L.y + ∑ t : Fin 16, ∑ l, L.u t l * (L.br l * L.pr (15 - t) - L.bi l * L.pi (15 - t))

/-- The final state's imaginary part, in closed form. -/
def im : EReal := L.pr 16 * L.y + L.pi 16 * L.x + ∑ t : Fin 16, ∑ l, L.u t l * (L.br l * L.pi (15 - t) + L.bi l * L.pr (15 - t))

/-- The lane is finite, and its powers are powers. -/
structure Fine : Prop where
  pr : ∀ k, L.pr k ≠ ⊤ ∧ L.pr k ≠ ⊥
  pi : ∀ k, L.pi k ≠ ⊤ ∧ L.pi k ≠ ⊥
  u : ∀ t l, L.u t l ≠ ⊤ ∧ L.u t l ≠ ⊥
  br : ∀ l, L.br l ≠ ⊤ ∧ L.br l ≠ ⊥
  bi : ∀ l, L.bi l ≠ ⊤ ∧ L.bi l ≠ ⊥
  x : L.x ≠ ⊤ ∧ L.x ≠ ⊥
  y : L.y ≠ ⊤ ∧ L.y ≠ ⊥
  zero : L.pr 0 = 1 ∧ L.pi 0 = 0
  step : ∀ k < 16, L.pr (k + 1) = L.pr k * L.pr 1 - L.pi k * L.pi 1 ∧ L.pi (k + 1) = L.pr k * L.pi 1 + L.pi k * L.pr 1

/-- A finite lane's real one. -/
theorem real (h : L.Fine) : ∃ (pr pi : ℕ → ℝ) (u : ℕ → Fin 128 → ℝ) (br bi : Fin 128 → ℝ) (x y : ℝ),
    L = ⟨fun k => pr k, fun k => pi k, fun t l => u t l, fun l => br l, fun l => bi l, x, y⟩ := by
  refine ⟨fun k => (L.pr k).toReal, fun k => (L.pi k).toReal, fun t l => (L.u t l).toReal, fun l => (L.br l).toReal,
    fun l => (L.bi l).toReal, L.x.toReal, L.y.toReal, ?_⟩
  simp only [EReal.coe_toReal (h.pr _).1 (h.pr _).2, EReal.coe_toReal (h.pi _).1 (h.pi _).2, EReal.coe_toReal (h.u _ _).1 (h.u _ _).2,
    EReal.coe_toReal (h.br _).1 (h.br _).2, EReal.coe_toReal (h.bi _).1 (h.bi _).2, EReal.coe_toReal h.x.1 h.x.2,
    EReal.coe_toReal h.y.1 h.y.2]

/-- The real recurrence. -/
def rseq (pr pi : ℕ → ℝ) (u : ℕ → Fin 128 → ℝ) (br bi : Fin 128 → ℝ) (x y : ℝ) : ℕ → ℝ × ℝ
  | 0 => (x, y)
  | n + 1 => (pr 1 * (rseq pr pi u br bi x y n).1 - pi 1 * (rseq pr pi u br bi x y n).2 + inp u br n,
      pr 1 * (rseq pr pi u br bi x y n).2 + pi 1 * (rseq pr pi u br bi x y n).1 + inp u bi n)

/-- A finite lane's recurrence is its closed form. -/
theorem seq_eq (h : L.Fine) : (L.seq 16).1 = L.re ∧ (L.seq 16).2 = L.im := by
  obtain ⟨pr, pi, u, br, bi, x, y, rfl⟩ := L.real h
  have h0 := h.zero
  have h1 := h.step
  dsimp only at h0 h1
  have hc := chunk pr pi ⟨by exact_mod_cast h0.1, by exact_mod_cast h0.2⟩
    (fun k hk => ⟨by exact_mod_cast (h1 k hk).1, by exact_mod_cast (h1 k hk).2⟩) u br bi
    (fun n => (rseq pr pi u br bi x y n).1) (fun n => (rseq pr pi u br bi x y n).2) (fun n => ⟨rfl, rfl⟩)
  have hs : ∀ n, (seq ⟨fun k => pr k, fun k => pi k, fun t l => u t l, fun l => br l, fun l => bi l, x, y⟩ n)
      = ((((rseq pr pi u br bi x y n).1 : ℝ) : EReal), (((rseq pr pi u br bi x y n).2 : ℝ) : EReal)) := by
    intro n
    induction n with
    | zero => rfl
    | succ n ih =>
      unfold seq rseq inp
      rw [ih]
      dsimp only
      simp only [← EReal.coe_mul, Row.coe_sum, ← EReal.coe_add, ← EReal.coe_sub]
  rw [hs, hc.1, hc.2]
  unfold re im rseq
  dsimp only
  simp only [← EReal.coe_mul, Row.coe_sum, ← EReal.coe_add, ← EReal.coe_sub]
  exact ⟨trivial, trivial⟩

end Lane

end Cert.Proof.Ssm

end
-- ==== Proof.SsmSampleRef.lean ====
/-
  The reference's recurrence at the sample group: each frame's operations take a lane's state one frame on.
-/
module

public import proofs.«01_k».proof.Proof.Gen.SsmSampleRefIdeal.Run
public import proofs.«01_k».proof.Proof.SsmMath
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem

namespace Cert.SsmSampleRefIdeal.Value

open Cert.SsmSampleRefIdeal Cert.SsmSampleRefIdeal.Gen Cert.Proof.Ssm

/-- A lane of the arguments. -/
def lane (us : FVec Ideal S8x16x2048 .f32) (s0 : FVec Ideal S8x16x1024 .f32) (bd : FVec Ideal S8x128x1024 .f32)
    (pw : FVec Ideal S8x17x1024 .f32) (o : Fin 8) (b : Fin 16) (p : Fin 512) : Lane where
  pr k := pw (ix3 o ⟨k % 17, Nat.mod_lt _ (by omega)⟩ ⟨p.val, by omega⟩)
  pi k := pw (ix3 o ⟨k % 17, Nat.mod_lt _ (by omega)⟩ ⟨512 + p.val, by omega⟩)
  u t l := us (ix3 o b ⟨(128 * t + l.val) % 2048, Nat.mod_lt _ (by omega)⟩)
  br l := bd (ix3 o l ⟨p.val, by omega⟩)
  bi l := bd (ix3 o l ⟨512 + p.val, by omega⟩)
  x := s0 (ix3 o b ⟨p.val, by omega⟩)
  y := s0 (ix3 o b ⟨512 + p.val, by omega⟩)

/-- A frame's input. -/
def inputs (us : FVec Ideal S8x16x2048 .f32) (bd : FVec Ideal S8x128x1024 .f32) (n : ℕ)
    (hs : S8x16x2048.Slices ![0, 0, n] S8x16x128) : FVec Ideal S8x16x1024 .f32 :=
  Host.dotGeneral (F := Ideal) dot_S8x16x128_S8x128x1024_S8x16x1024_2_1_1_2_0_0 none (extractStridedSlice S8x16x128 ![0, 0, n] us hs) bd

theorem inputs_at (us : FVec Ideal S8x16x2048 .f32) (bd : FVec Ideal S8x128x1024 .f32) (t : ℕ) (ht : t < 16)
    (hs : S8x16x2048.Slices ![0, 0, 128 * t] S8x16x128) (o : Fin 8) (b : Fin 16) (q : Fin 1024) :
    inputs us bd (128 * t) hs (ix3 o b q)
      = ∑ l : Fin 128, us (ix3 o b ⟨(128 * t + l.val) % 2048, Nat.mod_lt _ (by omega)⟩) * bd (ix3 o l q) := by
  pointwise [inputs]
  refine Finset.sum_congr rfl fun l _ => ?_
  congr 2
  exact congrArg (ix3 o b) (Fin.ext (by dsimp only; omega))

def stepRe (ar ai : FVec Ideal S8x1x512 .f32) (re im : FVec Ideal S8x16x512 .f32) (d : FVec Ideal S8x16x1024 .f32) :
    FVec Ideal S8x16x512 .f32 :=
  addf (subf (mulf (broadcastInDim S8x16x512 ![0, 1, 2] bcast_S8x1x512_S8x16x512_0_1_2 ar) re)
    (mulf (broadcastInDim S8x16x512 ![0, 1, 2] bcast_S8x1x512_S8x16x512_0_1_2 ai) im))
    (extractStridedSlice S8x16x512 ![0, 0, 0] d slices_S8x16x1024_S8x16x512_0_0_0)

def stepIm (ar ai : FVec Ideal S8x1x512 .f32) (re im : FVec Ideal S8x16x512 .f32) (d : FVec Ideal S8x16x1024 .f32) :
    FVec Ideal S8x16x512 .f32 :=
  addf (addf (mulf (broadcastInDim S8x16x512 ![0, 1, 2] bcast_S8x1x512_S8x16x512_0_1_2 ar) im)
    (mulf (broadcastInDim S8x16x512 ![0, 1, 2] bcast_S8x1x512_S8x16x512_0_1_2 ai) re))
    (extractStridedSlice S8x16x512 ![0, 0, 512] d slices_S8x16x1024_S8x16x512_0_0_512)

theorem stepRe_at (ar ai : FVec Ideal S8x1x512 .f32) (re im : FVec Ideal S8x16x512 .f32) (d : FVec Ideal S8x16x1024 .f32)
    (o : Fin 8) (b : Fin 16) (p : Fin 512) : stepRe ar ai re im d (ix3 o b p)
      = ar (ix3 o 0 p) * re (ix3 o b p) - ai (ix3 o 0 p) * im (ix3 o b p) + d (ix3 o b ⟨p.val, by omega⟩) := by
  pointwise [stepRe]

theorem stepIm_at (ar ai : FVec Ideal S8x1x512 .f32) (re im : FVec Ideal S8x16x512 .f32) (d : FVec Ideal S8x16x1024 .f32)
    (o : Fin 8) (b : Fin 16) (p : Fin 512) : stepIm ar ai re im d (ix3 o b p)
      = ar (ix3 o 0 p) * im (ix3 o b p) + ai (ix3 o 0 p) * re (ix3 o b p) + d (ix3 o b ⟨512 + p.val, by omega⟩) := by
  pointwise [stepIm]

variable (W : Valuation τ sig (Elt Ideal))

/-- The launch's lane. -/
def laneOf (o : Fin 8) (b : Fin 16) (p : Fin 512) : Lane :=
  lane (W (Proc.devRef .tc main_arg0)) (W (Proc.devRef .tc main_arg1)) (W (Proc.devRef .tc main_arg2)) (W (Proc.devRef .tc main_arg4)) o b p

theorem ar_at (o : Fin 8) (b : Fin 16) (p : Fin 512) : res_main_v0 W (ix3 o 0 p) = (laneOf W o b p).pr 1 := by
  unfold laneOf lane
  pointwise [res_main_v0]

theorem ai_at (o : Fin 8) (b : Fin 16) (p : Fin 512) : res_main_v1 W (ix3 o 0 p) = (laneOf W o b p).pi 1 := by
  unfold laneOf lane
  pointwise [res_main_v1]

/-- The two arrays hold the lanes' states after `t` frames. -/
def At (t : ℕ) (re im : FVec Ideal S8x16x512 .f32) : Prop :=
  ∀ (o : Fin 8) (b : Fin 16) (p : Fin 512), re (ix3 o b p) = ((laneOf W o b p).seq t).1 ∧ im (ix3 o b p) = ((laneOf W o b p).seq t).2

theorem init : At W 0 (res_main_v2 W) (res_main_v3 W) := by
  intro o b p
  constructor
  · unfold laneOf lane Lane.seq
    pointwise [res_main_v2]
  · unfold laneOf lane Lane.seq
    pointwise [res_main_v3]

/-- A frame's operations. -/
theorem next (t : ℕ) (ht : t < 16) (hs : S8x16x2048.Slices ![0, 0, 128 * t] S8x16x128) {re im : FVec Ideal S8x16x512 .f32}
    (h : At W t re im) :
    At W (t + 1) (stepRe (res_main_v0 W) (res_main_v1 W) re im (inputs (W (Proc.devRef .tc main_arg0)) (W (Proc.devRef .tc main_arg2)) (128 * t) hs))
      (stepIm (res_main_v0 W) (res_main_v1 W) re im (inputs (W (Proc.devRef .tc main_arg0)) (W (Proc.devRef .tc main_arg2)) (128 * t) hs)) := by
  intro o b p
  rw [stepRe_at, stepIm_at, inputs_at _ _ t ht, inputs_at _ _ t ht, (h o b p).1, (h o b p).2, ar_at W o b, ai_at W o b]
  exact ⟨rfl, rfl⟩

/-- The states before the last frame. -/
theorem fifteen : At W 15 (res_main_v236 W) (res_main_v243 W) := by
  have h : At W 1 (res_main_v12 W) (res_main_v19 W) := next W 0 (by decide) slices_S8x16x2048_S8x16x128_0_0_0 (init W)
  replace h : At W 2 (res_main_v28 W) (res_main_v35 W) := next W 1 (by decide) slices_S8x16x2048_S8x16x128_0_0_128 h
  replace h : At W 3 (res_main_v44 W) (res_main_v51 W) := next W 2 (by decide) slices_S8x16x2048_S8x16x128_0_0_256 h
  replace h : At W 4 (res_main_v60 W) (res_main_v67 W) := next W 3 (by decide) slices_S8x16x2048_S8x16x128_0_0_384 h
  replace h : At W 5 (res_main_v76 W) (res_main_v83 W) := next W 4 (by decide) slices_S8x16x2048_S8x16x128_0_0_512 h
  replace h : At W 6 (res_main_v92 W) (res_main_v99 W) := next W 5 (by decide) slices_S8x16x2048_S8x16x128_0_0_640 h
  replace h : At W 7 (res_main_v108 W) (res_main_v115 W) := next W 6 (by decide) slices_S8x16x2048_S8x16x128_0_0_768 h
  replace h : At W 8 (res_main_v124 W) (res_main_v131 W) := next W 7 (by decide) slices_S8x16x2048_S8x16x128_0_0_896 h
  replace h : At W 9 (res_main_v140 W) (res_main_v147 W) := next W 8 (by decide) slices_S8x16x2048_S8x16x128_0_0_1024 h
  replace h : At W 10 (res_main_v156 W) (res_main_v163 W) := next W 9 (by decide) slices_S8x16x2048_S8x16x128_0_0_1152 h
  replace h : At W 11 (res_main_v172 W) (res_main_v179 W) := next W 10 (by decide) slices_S8x16x2048_S8x16x128_0_0_1280 h
  replace h : At W 12 (res_main_v188 W) (res_main_v195 W) := next W 11 (by decide) slices_S8x16x2048_S8x16x128_0_0_1408 h
  replace h : At W 13 (res_main_v204 W) (res_main_v211 W) := next W 12 (by decide) slices_S8x16x2048_S8x16x128_0_0_1536 h
  replace h : At W 14 (res_main_v220 W) (res_main_v227 W) := next W 13 (by decide) slices_S8x16x2048_S8x16x128_0_0_1664 h
  exact next W 14 (by decide) slices_S8x16x2048_S8x16x128_0_0_1792 h

/-- The two halves of the result, in the result's shape. -/
def halves (re im : FVec Ideal S8x16x512 .f32) : FVec Ideal S8x1x16x1024 .f32 :=
  shapeCast S8x1x16x1024 (concatenate S8x16x1024 2 [⟨S8x16x512, re⟩, ⟨S8x16x512, im⟩] concatenates_S8x16x512_S8x16x512_S8x16x1024_d2)
    shapeCasts_S8x16x1024_S8x1x16x1024

theorem halves_re (re im : FVec Ideal S8x16x512 .f32) (o : Fin 8) (b : Fin 16) (p : Fin 512) :
    halves re im (ix4 o 0 b ⟨p.val, by omega⟩) = re (ix3 o b p) := by
  pointwise [halves]

theorem halves_im (re im : FVec Ideal S8x16x512 .f32) (o : Fin 8) (b : Fin 16) (p : Fin 512) :
    halves re im (ix4 o 0 b ⟨512 + p.val, by omega⟩) = im (ix3 o b p) := by
  pointwise [halves]

/-- The reference's result. -/
def res : FVec Ideal S8x1x16x1024 .f32 :=
  halves (stepRe (res_main_v0 W) (res_main_v1 W) (res_main_v236 W) (res_main_v243 W) (res_main_v245 W))
    (stepIm (res_main_v0 W) (res_main_v1 W) (res_main_v236 W) (res_main_v243 W) (res_main_v245 W))

theorem res_at (o : Fin 8) (b : Fin 16) (p : Fin 512) :
    res W (ix4 o 0 b ⟨p.val, by omega⟩) = ((laneOf W o b p).seq 16).1
      ∧ res W (ix4 o 0 b ⟨512 + p.val, by omega⟩) = ((laneOf W o b p).seq 16).2 := by
  have h := next W 15 (by decide) slices_S8x16x2048_S8x16x128_0_0_1920 (fifteen W) o b p
  exact ⟨(halves_re _ _ o b p).trans h.1, (halves_im _ _ o b p).trans h.2⟩

end Cert.SsmSampleRefIdeal.Value

end
-- ==== Proof.SsmSampleValue.lean ====
/-
  The value of the state space's final states at the sample group: what the launch leaves is the reference's recurrence after the
  chunk's last frame. The kernel takes the frames at once, each against the power of the transition that is left to run, and adds the
  last power times the carried state; the reference goes frame by frame. The two agree where the arguments are finite and the powers
  given are powers.
-/
module

public import proofs.«01_k».proof.Defs
public import proofs.«01_k».proof.Proof.SsmSampleBody
public import proofs.«01_k».proof.Proof.SsmSampleRef
public import proofs.«01_k».proof.Proof.MemAttValue
public import proofs.«01_k».proof.Proof.Gen.Pre_finite_powers
public import Idealize.ShloMosaic.Lib.Claim
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat RDat)

namespace Cert.SsmSampleIdeal.Body

open Cert.SsmSampleIdeal Cert.SsmSampleIdeal.Gen Cert.Proof.Ssm

/-- A window of a block of rows, read at an index. -/
theorem window_at {a b d a' b' d' : ℕ} {off : Fin 3 → ℕ} (x : Vec Ideal ⟨3, ![a, b, d]⟩ .f32)
    (inb : ∀ e, off e + (![a', b', d'] : Fin 3 → ℕ) e ≤ (⟨3, ![a, b, d]⟩ : Shape).size e) (i : Fin a') (j : Fin b') (k : Fin d') (i' : Fin a)
    (j' : Fin b) (k' : Fin d) (hi : i'.val = off 0 + i.val) (hj : j'.val = off 1 + j.val) (hk : k'.val = off 2 + k.val) :
    VecWindow.window x off ![a', b', d'] inb (ix3 i j k) = x (ix3 i' j' k') := by
  unfold VecWindow.window
  refine congrArg x (funext fun e => Fin.ext ?_)
  fin_cases e
  · show off 0 + 1 * i.val = i'.val
    omega
  · show off 1 + 1 * j.val = j'.val
    omega
  · show off 2 + 1 * k.val = k'.val
    omega

theorem pay18_re (br bi : FVec Ideal S1x128x512 .f32) (pr pi : FVec Ideal S1x1x512 .f32) (l : Fin 128) (p : Fin 512) :
    k0_pay18 (F := Ideal) (k0_pay2 br) (k0_pay3 bi) pr pi (ix2 l ⟨p.val, by omega⟩)
      = br (ix3 0 l p) * pr (ix3 0 0 p) - bi (ix3 0 l p) * pi (ix3 0 0 p) := by
  pointwise [k0_pay18, k0_pay17, k0_pay2, k0_pay3]

theorem pay18_im (br bi : FVec Ideal S1x128x512 .f32) (pr pi : FVec Ideal S1x1x512 .f32) (l : Fin 128) (p : Fin 512) :
    k0_pay18 (F := Ideal) (k0_pay2 br) (k0_pay3 bi) pr pi (ix2 l ⟨512 + p.val, by omega⟩)
      = br (ix3 0 l p) * pi (ix3 0 0 p) + bi (ix3 0 l p) * pr (ix3 0 0 p) := by
  pointwise [k0_pay18, k0_pay17, k0_pay2, k0_pay3]

section Blk

variable (bd : Vec Ideal S1x128x1024 .f32) (pw : Vec Ideal S1x17x1024 .f32) (k : Fin 16) (l : Fin 128) (p : Fin 512)

theorem bd_re (inb) : VecWindow.window bd ![0, 0, 0] S1x128x512.size inb (ix3 0 l p) = bd (ix3 0 l ⟨p.val, by omega⟩) :=
  window_at bd inb 0 l p 0 l ⟨p.val, by omega⟩ rfl (Nat.zero_add _).symm (Nat.zero_add _).symm

theorem bd_im (inb) : VecWindow.window bd ![0, 0, 512] S1x128x512.size inb (ix3 0 l p) = bd (ix3 0 l ⟨512 + p.val, by omega⟩) :=
  window_at bd inb 0 l p 0 l ⟨512 + p.val, by omega⟩ rfl (Nat.zero_add _).symm rfl

theorem pw_re (inb) : VecWindow.window pw ![0, k.val, 0] S1x1x512.size inb (ix3 0 0 p) = pw (ix3 0 ⟨k.val, by omega⟩ ⟨p.val, by omega⟩) :=
  window_at pw inb 0 0 p 0 ⟨k.val, by omega⟩ ⟨p.val, by omega⟩ rfl rfl (Nat.zero_add _).symm

theorem pw_im (inb) : VecWindow.window pw ![0, k.val, 512] S1x1x512.size inb (ix3 0 0 p)
    = pw (ix3 0 ⟨k.val, by omega⟩ ⟨512 + p.val, by omega⟩) :=
  window_at pw inb 0 0 p 0 ⟨k.val, by omega⟩ ⟨512 + p.val, by omega⟩ rfl rfl rfl

theorem blk_re : blk (F := Ideal) bd pw k (ix2 l ⟨p.val, by omega⟩)
    = bd (ix3 0 l ⟨p.val, by omega⟩) * pw (ix3 0 ⟨k.val, by omega⟩ ⟨p.val, by omega⟩)
      - bd (ix3 0 l ⟨512 + p.val, by omega⟩) * pw (ix3 0 ⟨k.val, by omega⟩ ⟨512 + p.val, by omega⟩) := by
  unfold blk
  rw [pay18_re, bd_re, bd_im, pw_re, pw_im]

theorem blk_im : blk (F := Ideal) bd pw k (ix2 l ⟨512 + p.val, by omega⟩)
    = bd (ix3 0 l ⟨p.val, by omega⟩) * pw (ix3 0 ⟨k.val, by omega⟩ ⟨512 + p.val, by omega⟩)
      + bd (ix3 0 l ⟨512 + p.val, by omega⟩) * pw (ix3 0 ⟨k.val, by omega⟩ ⟨p.val, by omega⟩) := by
  unfold blk
  rw [pay18_im, bd_re, bd_im, pw_re, pw_im]

end Blk

theorem pay273_re (us : FVec Ideal S1x16x2048 .f32) (w : FVec Ideal S2048x1024 .bf16) (pw : FVec Ideal S1x1x1024 .f32)
    (s0 : FVec Ideal S1x1x16x1024 .f32) (b : Fin 16) (p : Fin 512) :
    k0_pay273 (F := Ideal) us w pw s0 (ix4 0 0 b ⟨p.val, by omega⟩)
      = pw (ix3 0 0 ⟨p.val, by omega⟩) * s0 (ix4 0 0 b ⟨p.val, by omega⟩)
        - pw (ix3 0 0 ⟨512 + p.val, by omega⟩) * s0 (ix4 0 0 b ⟨512 + p.val, by omega⟩)
        + ∑ k : Fin 2048, us (ix3 0 b k) * w (ix2 k ⟨p.val, by omega⟩) := by
  pointwise [k0_pay273, k0_pay271, k0_pay272]

theorem pay273_im (us : FVec Ideal S1x16x2048 .f32) (w : FVec Ideal S2048x1024 .bf16) (pw : FVec Ideal S1x1x1024 .f32)
    (s0 : FVec Ideal S1x1x16x1024 .f32) (b : Fin 16) (p : Fin 512) :
    k0_pay273 (F := Ideal) us w pw s0 (ix4 0 0 b ⟨512 + p.val, by omega⟩)
      = pw (ix3 0 0 ⟨p.val, by omega⟩) * s0 (ix4 0 0 b ⟨512 + p.val, by omega⟩)
        + pw (ix3 0 0 ⟨512 + p.val, by omega⟩) * s0 (ix4 0 0 b ⟨p.val, by omega⟩)
        + ∑ k : Fin 2048, us (ix3 0 b k) * w (ix2 k ⟨512 + p.val, by omega⟩) := by
  pointwise [k0_pay273, k0_pay271, k0_pay272]

section Sfin

variable (us : Vec Ideal S1x16x2048 .f32) (s0 : Vec Ideal S1x1x16x1024 .f32) (bd : Vec Ideal S1x128x1024 .f32)
  (pw : Vec Ideal S1x17x1024 .f32) (b : Fin 16) (p : Fin 512)

theorem wus_tile (q : Fin 1024) (t : Fin 16) (l : Fin 128) (h) :
    wus (F := Ideal) bd pw (ix2 ⟨t.val * 128 + l.val, h⟩ q) = blk (F := Ideal) bd pw ⟨15 - t.val, by omega⟩ (ix2 l q) :=
  wus_at bd pw ⟨15 - t.val, by omega⟩ (ix2 l q) _ (by show t.val * 128 + l.val = 128 * (15 - (15 - t.val)) + l.val; omega) rfl

theorem last_row (inb) (q : Fin 1024) :
    VecWindow.window pw ![0, 16, 0] S1x1x1024.size inb (ix3 0 0 q) = pw (ix3 0 16 q) :=
  window_at pw inb 0 0 q 0 16 q rfl rfl (Nat.zero_add _).symm

/-- The blocks hold a lane. -/
structure Holds (L : Lane) : Prop where
  u : ∀ (t : Fin 16) (l : Fin 128) (h), us (ix3 0 b ⟨t.val * 128 + l.val, h⟩) = L.u t.val l
  x : s0 (ix4 0 0 b ⟨p.val, by omega⟩) = L.x
  y : s0 (ix4 0 0 b ⟨512 + p.val, by omega⟩) = L.y
  br : ∀ l : Fin 128, bd (ix3 0 l ⟨p.val, by omega⟩) = L.br l
  bi : ∀ l : Fin 128, bd (ix3 0 l ⟨512 + p.val, by omega⟩) = L.bi l
  pr : ∀ (k : ℕ) (h : k < 17), pw (ix3 0 ⟨k, h⟩ ⟨p.val, by omega⟩) = L.pr k
  pi : ∀ (k : ℕ) (h : k < 17), pw (ix3 0 ⟨k, h⟩ ⟨512 + p.val, by omega⟩) = L.pi k

theorem sfin_at (L : Lane) (h : Holds us s0 bd pw b p L) :
    sfin (F := Ideal) us s0 bd pw (ix4 0 0 b ⟨p.val, by omega⟩) = L.re
      ∧ sfin (F := Ideal) us s0 bd pw (ix4 0 0 b ⟨512 + p.val, by omega⟩) = L.im := by
  unfold sfin
  rw [pay273_re, pay273_im, last_row, last_row, Fin.sum_univ_tiles (N := 2048) 16 128 rfl, Fin.sum_univ_tiles (N := 2048) 16 128 rfl]
  simp only [wus_tile, blk_re, blk_im, h.u, h.x, h.y, h.br, h.bi, h.pr, h.pi]
  exact ⟨rfl, rfl⟩

end Sfin

variable (m : (ℓ : Loc nD τ sig) → Buf (Elt Ideal) ℓ) (c : Dev nD)

/-- A lane of the launch's arguments. -/
def lane (o : Fin 8) (b : Fin 16) (p : Fin 512) : Lane :=
  Cert.SsmSampleRefIdeal.Value.lane (m ((c : Thread nD τ).loc main_arg0)) (m ((c : Thread nD τ).loc main_arg1))
    (m ((c : Thread nD τ).loc main_arg2)) (m ((c : Thread nD τ).loc main_arg4)) o b p

/-- Where the blocks sit: a point takes its octet. -/
theorem idx : ∀ t : Fin cfg0.N, win0_0.index t = ![t.val, 0, 0] ∧ win0_1.index t = ![t.val, 0, 0, 0] ∧ win0_2.index t = ![t.val, 0, 0]
    ∧ win0_4.index t = ![t.val, 0, 0] ∧ win0_7.index t = ![t.val, 0, 0, 0] :=
  (by decide +kernel : ∀ t : Fin grid0.N, _)

theorem blk0 (t : Fin cfg0.N) (b : Fin 16) (k : Fin 2048) :
    iblk m c 0 t (ix3 0 b k) = m ((c : Thread nD τ).loc main_arg0) (ix3 t b k) := by
  have i0 := (idx t).1
  blk_point [iblk, V, i0]

theorem V_main_v0 : V m c main_v0 = shapeCast S8x1x16x1024 (m ((c : Thread nD τ).loc main_arg1)) shapeCasts_S8x16x1024_S8x1x16x1024 := rfl

theorem cast_at (x : FVec Ideal S8x16x1024 .f32) (o : Fin 8) (b : Fin 16) (q : Fin 1024) :
    shapeCast S8x1x16x1024 x shapeCasts_S8x16x1024_S8x1x16x1024 (ix4 o 0 b q) = x (ix3 o b q) := by
  pointwise

theorem blk1 (t : Fin cfg0.N) (b : Fin 16) (q : Fin 1024) :
    iblk m c 1 t (ix4 0 0 b q) = m ((c : Thread nD τ).loc main_arg1) (ix3 t b q) := by
  have i0 := (idx t).2.1
  have e : iblk m c 1 t (ix4 0 0 b q) = V m c main_v0 (ix4 t 0 b q) := by
    unfold iblk
    generalize V m c (Pipeline.arrRef spec0 1) = Z
    blk_point [i0]
  rw [e, V_main_v0]
  exact cast_at _ t b q

theorem blk2 (t : Fin cfg0.N) (l : Fin 128) (q : Fin 1024) :
    iblk m c 2 t (ix3 0 l q) = m ((c : Thread nD τ).loc main_arg2) (ix3 t l q) := by
  have i0 := (idx t).2.2.1
  blk_point [iblk, V, i0]

theorem blk4 (t : Fin cfg0.N) (k : Fin 17) (q : Fin 1024) :
    iblk m c 4 t (ix3 0 k q) = m ((c : Thread nD τ).loc main_arg4) (ix3 t k q) := by
  have i0 := (idx t).2.2.2.1
  blk_point [iblk, V, i0]

/-- A point's blocks hold the lanes of its octet. -/
theorem holds (t : Fin cfg0.N) (b : Fin 16) (p : Fin 512) :
    Holds (iblk m c 0 t) (iblk m c 1 t) (iblk m c 2 t) (iblk m c 4 t) b p (lane m c t b p) where
  u k l h := (blk0 m c t b _).trans (congrArg (fun i => m ((c : Thread nD τ).loc main_arg0) (ix3 t b i))
    (Fin.ext (by show k.val * 128 + l.val = (128 * k.val + l.val) % 2048; omega)))
  x := blk1 m c t b _
  y := blk1 m c t b _
  br l := blk2 m c t l _
  bi l := blk2 m c t l _
  pr k h := (blk4 m c t _ _).trans (congrArg (fun i => m ((c : Thread nD τ).loc main_arg4) (ix3 t i ⟨p.val, by omega⟩))
    (Fin.ext (Nat.mod_eq_of_lt h).symm))
  pi k h := (blk4 m c t _ _).trans (congrArg (fun i => m ((c : Thread nD τ).loc main_arg4) (ix3 t i ⟨512 + p.val, by omega⟩))
    (Fin.ext (Nat.mod_eq_of_lt h).symm))

theorem ofBits_one : Ideal.ofBits .f32 0x3F800000#32 = 1 := by
  simp [Ideal.ofBits, Ideal.ieee, -EReal.coe_mul]; norm_num

/-- A value is neither infinity. -/
def IsFin (x : EReal) : Prop := x ≠ ⊤ ∧ x ≠ ⊥

/-- The precondition, lane by lane. -/
theorem fine (hpre : Cert.Pre_SsmSampleIdeal_finite_powers (hPre_finite_powers := Cert.Pre_finite_powers.Gen.facts) m) (o : Fin 8)
    (b : Fin 16) (p : Fin 512) : (lane m c o b p).Fine := by
  obtain ⟨h0, h1, h2, h4, hr, hi, sr, si⟩ := hpre c
  unfold Cert.Pre_finite_powers.fn Cert.Pre_finite_powers.fn_part1 at h0 h1 h2 h4 hr hi sr si
  dsimp only at h0 h1 h2 h4 hr hi sr si
  have f0 : ∀ i j k, IsFin (m ((c : Thread nD τ).loc main_arg0) (ix3 i j k)) := fun i j k => by
    have h := congrFun h0 (ix3 i j k)
    pointwise [Cert.Proof.Row.ofBits_top] at h
    exact Cert.Proof.Row.finite_of _ (Cert.Proof.Row.of_bit h)
  have f1 : ∀ i j k, IsFin (m ((c : Thread nD τ).loc main_arg1) (ix3 i j k)) := fun i j k => by
    have h := congrFun h1 (ix3 i j k)
    pointwise [Cert.Proof.Row.ofBits_top] at h
    exact Cert.Proof.Row.finite_of _ (Cert.Proof.Row.of_bit h)
  have f2 : ∀ i j k, IsFin (m ((c : Thread nD τ).loc main_arg2) (ix3 i j k)) := fun i j k => by
    have h := congrFun h2 (ix3 i j k)
    pointwise [Cert.Proof.Row.ofBits_top] at h
    exact Cert.Proof.Row.finite_of _ (Cert.Proof.Row.of_bit h)
  have f4 : ∀ i j k, IsFin (m ((c : Thread nD τ).loc main_arg4) (ix3 i j k)) := fun i j k => by
    have h := congrFun h4 (ix3 i j k)
    pointwise [Cert.Proof.Row.ofBits_top] at h
    exact Cert.Proof.Row.finite_of _ (Cert.Proof.Row.of_bit h)
  refine ⟨fun k => f4 _ _ _, fun k => f4 _ _ _, fun t l => f0 _ _ _, fun l => f2 _ _ _, fun l => f2 _ _ _, f1 _ _ _, f1 _ _ _, ⟨?_, ?_⟩,
    fun k hk => ⟨?_, ?_⟩⟩
  · have h := congrFun hr (ix2 o p)
    pointwise [ofBits_one] at h
    exact Cert.Proof.Row.of_bit h
  · have h := congrFun hi (ix2 o p)
    pointwise at h
    exact Cert.Proof.Row.of_bit h
  · have h := congrFun sr (ix3 o ⟨k, hk⟩ p)
    pointwise at h
    have h := Cert.Proof.Row.of_bit h
    unfold lane Cert.SsmSampleRefIdeal.Value.lane
    dsimp only
    rw [show (⟨(k + 1) % 17, Nat.mod_lt _ (by omega)⟩ : Fin 17) = ⟨1 + k, by omega⟩ from Fin.ext (by dsimp only; omega),
      show (⟨k % 17, Nat.mod_lt _ (by omega)⟩ : Fin 17) = ⟨k, by omega⟩ from Fin.ext (by dsimp only; omega)]
    exact h
  · have h := congrFun si (ix3 o ⟨k, hk⟩ p)
    pointwise at h
    have h := Cert.Proof.Row.of_bit h
    unfold lane Cert.SsmSampleRefIdeal.Value.lane
    dsimp only
    rw [show (⟨(k + 1) % 17, Nat.mod_lt _ (by omega)⟩ : Fin 17) = ⟨1 + k, by omega⟩ from Fin.ext (by dsimp only; omega),
      show (⟨k % 17, Nat.mod_lt _ (by omega)⟩ : Fin 17) = ⟨k, by omega⟩ from Fin.ext (by dsimp only; omega)]
    exact h

/-- A column of a state is in one of its halves. -/
theorem column (q : Fin 1024) : ∃ p : Fin 512, q = ⟨p.val, by omega⟩ ∨ q = ⟨512 + p.val, by omega⟩ := by
  by_cases h : q.val < 512
  · exact ⟨⟨q.val, h⟩, Or.inl rfl⟩
  · exact ⟨⟨q.val - 512, by omega⟩, Or.inr (Fin.ext (by show q.val = 512 + (q.val - 512); omega))⟩

/-- A point's block is the lanes' recurrences after the chunk. -/
theorem block (hpre : Cert.Pre_SsmSampleIdeal_finite_powers (hPre_finite_powers := Cert.Pre_finite_powers.Gen.facts) m) (t : Fin cfg0.N)
    (R : FVec Ideal S8x1x16x1024 .f32) (hR : ∀ (o : Fin 8) (b : Fin 16) (p : Fin 512),
      R (ix4 o 0 b ⟨p.val, by omega⟩) = ((lane m c o b p).seq 16).1 ∧ R (ix4 o 0 b ⟨512 + p.val, by omega⟩) = ((lane m c o b p).seq 16).2)
    (b : Fin 16) (q : Fin 1024) :
    sfin (F := Ideal) (iblk m c 0 t) (iblk m c 1 t) (iblk m c 2 t) (iblk m c 4 t) (ix4 0 0 b q) = R (ix4 t 0 b q) := by
  obtain ⟨p, rfl | rfl⟩ := column q
  · exact (sfin_at _ _ _ _ b p _ (holds m c t b p)).1.trans ((Lane.seq_eq _ (fine m c hpre t b p)).1.symm.trans (hR t b p).1.symm)
  · exact (sfin_at _ _ _ _ b p _ (holds m c t b p)).2.trans ((Lane.seq_eq _ (fine m c hpre t b p)).2.symm.trans (hR t b p).2.symm)

/-- The result array, whatever the body left at the points that write it back, so long as each left its lanes' closed forms. -/
theorem final (hpre : Cert.Pre_SsmSampleIdeal_finite_powers (hPre_finite_powers := Cert.Pre_finite_powers.Gen.facts) m)
    (R : FVec Ideal S8x1x16x1024 .f32) (hR : ∀ (o : Fin 8) (b : Fin 16) (p : Fin 512),
      R (ix4 o 0 b ⟨p.val, by omega⟩) = ((lane m c o b p).seq 16).1 ∧ R (ix4 o 0 b ⟨512 + p.val, by omega⟩) = ((lane m c o b p).seq 16).2)
    (after : (w : Fin cfg0.W) → Fin cfg0.N → (cfg0.win w).block.Idx → Elt Ideal (cfg0.win w).elt)
    (ha : ∀ (w : Fin cfg0.W) (u : Fin cfg0.N), (cfg0.win w).flush u = true → (rdat m c).Leaves w u (after w u)) :
    ((rdat m c).withAfter after).arrAt 7 cfg0.N = R := by
  refine ((rdat m c).withAfter after).arrAt_eq_of_covers 7 _ (by decide +kernel) fun t hf y => ?_
  obtain ⟨Y, -, hl⟩ := ha 7 t hf
  have hl : after 7 t = sfin (F := Ideal) (iblk m c 0 t) (iblk m c 1 t) (iblk m c 2 t) (iblk m c 4 t) := hl
  obtain ⟨r0, r1, b, q, rfl⟩ : ∃ (r0 r1 : Fin 1) (b : Fin 16) (q : Fin 1024), y = ix4 r0 r1 b q := ⟨y 0, y 1, y 2, y 3, eq_ix4 y⟩
  obtain rfl := Subsingleton.elim r0 0
  obtain rfl := Subsingleton.elim r1 0
  obtain ⟨i0, i1, i2, i3, hij⟩ : ∃ (i0 : Fin 8) (i1 : Fin 1) (i2 : Fin 16) (i3 : Fin 1024),
    ((cfg0.win 7).blk t).view.emb (ix4 0 0 b q) = ix4 i0 i1 i2 i3 := ⟨_, _, _, _, eq_ix4 _⟩
  have h0 := congrArg (fun x => (x 0).val) hij
  have h2 := congrArg (fun x => (x 2).val) hij
  have h3 := congrArg (fun x => (x 3).val) hij
  have j0 := (idx t).2.2.2.2
  blk_simp [j0] at h0 h2 h3
  refine Eq.trans ?_ (congrArg _ hij.symm)
  obtain rfl := Subsingleton.elim i1 0
  obtain rfl : i0 = t := Fin.ext (by omega)
  obtain rfl : i2 = b := Fin.ext (by omega)
  obtain rfl : i3 = q := Fin.ext (by omega)
  exact (congrFun hl _).trans (block m c hpre i0 R hR i2 i3)

end Cert.SsmSampleIdeal.Body

namespace Cert.Proof

open Cert.SsmSampleIdeal Cert.SsmSampleIdeal.Gen Cert.SsmSampleIdeal.Body

theorem algebraic_ssmSample : Cert.algebraic_SsmSampleIdeal_SsmSampleRefIdeal_pre_finite_powers
    (hSsmSampleIdeal := Cert.SsmSampleIdeal.Gen.facts) (hSsmSampleRefIdeal := Cert.SsmSampleRefIdeal.Gen.facts)
    (hPre_finite_powers := Cert.Pre_finite_powers.Gen.facts) := by
  intro m g m' g' hpre hargs
  refine ⟨fun c => Cert.SsmSampleRefIdeal.Value.res (StableHlo.launchContents m' c), ?_, ?_⟩
  · refine (θ_run (Cert.SsmSampleIdeal.defs (F := Ideal)) _ _).mono (fun r h c => ?_) (run_main m g)
    obtain ⟨after, ha, hA⟩ := h.1.exists_exact c
    obtain ⟨e0, e1, e2, e3, e4, e5⟩ := hargs c
    refine ⟨(hA 7).trans (final m c hpre _ (fun o b p => ?_) after ha), args m h.1 c⟩
    have e : Cert.SsmSampleRefIdeal.Value.laneOf (StableHlo.launchContents m' c) o b p = lane m c o b p := by
      show Cert.SsmSampleRefIdeal.Value.lane (m' ((c.tc : Thread Cert.SsmSampleRefIdeal.nD Cert.SsmSampleRefIdeal.τ).loc Cert.SsmSampleRefIdeal.main_arg0))
        (m' ((c.tc : Thread Cert.SsmSampleRefIdeal.nD Cert.SsmSampleRefIdeal.τ).loc Cert.SsmSampleRefIdeal.main_arg1))
        (m' ((c.tc : Thread Cert.SsmSampleRefIdeal.nD Cert.SsmSampleRefIdeal.τ).loc Cert.SsmSampleRefIdeal.main_arg2))
        (m' ((c.tc : Thread Cert.SsmSampleRefIdeal.nD Cert.SsmSampleRefIdeal.τ).loc Cert.SsmSampleRefIdeal.main_arg4)) o b p = _
      unfold lane
      rw [← e0, ← e1, ← e2, ← e4]
    rw [← e]
    exact Cert.SsmSampleRefIdeal.Value.res_at _ o b p
  · exact (θ_run (Cert.SsmSampleRefIdeal.defs (F := Ideal)) _ _).mono (fun r h c => h c) (Cert.SsmSampleRefIdeal.Value.run (F := Ideal) m' g')

end Cert.Proof

end
-- ==== Proof.SsmSampleFrame.lean ====
/- The frame of the program as compiled, from the one of the program as idealized: no rule rewrites it, so the two programs are one text. -/
module

public import proofs.«01_k».proof.Defs
public import proofs.«01_k».proof.Proof.SsmSampleBody
public import proofs.«01_k».proof.Proof.Gen.SsmSample.Frame

@[expose] public section

noncomputable section

namespace Cert.SsmSample.Body

open Idealize.ShloMosaic Idealize.ShloMosaic.TcCoe Idealize.SL.Sem

variable {F : FTy → Type} [FloatOps F]

/-- The two body tables agree at their one label. -/
theorem body_table : @Cert.SsmSampleIdeal.defs₀ F _ Cert.SsmSampleIdeal.Gen.facts = @Cert.SsmSample.defs₀ F _ Cert.SsmSample.Gen.facts :=
  congrArg Defs.onTc (funext fun l => funext fun x => by
    match l, x with
    | 0, (t, s) => rfl
    | ⟨_ + 1, h⟩, _ => exact absurd h (Nat.not_lt.2 (Nat.le_add_left _ _)))

theorem frame : Cert.quiescent_SsmSample (hSsmSample := Cert.SsmSample.Gen.facts) := by
  intro m ρ _
  have h := Cert.SsmSampleIdeal.Body.frame (F := Bits) m ρ
  unfold Cert.SsmSampleIdeal.defs at h
  rw [body_table] at h
  exact h

end Cert.SsmSample.Body

end
-- ==== Proof.lean ====
/- The launches of the layer proved here, each against the mathematics it stands for: the modules of Proof/ prove the
   equalities of values, the generated modules the runs; assembled behind the witnesses of the programs' facts. -/
module

public import proofs.«01_k».proof.Defs
public import proofs.«01_k».proof.Proof.Gen.Pre_finite_scores
public import proofs.«01_k».proof.Proof.Gen.Pre_finite_powers
public import proofs.«01_k».proof.Proof.Gen.MemAtt
public import proofs.«01_k».proof.Proof.Gen.MemAtt.Skeleton
public import proofs.«01_k».proof.Proof.Gen.MemAtt.Launch
public import proofs.«01_k».proof.Proof.Gen.MemAtt.Points
public import proofs.«01_k».proof.Proof.Gen.MemAtt.Frame
public import proofs.«01_k».proof.Proof.Gen.MemAttIdeal
public import proofs.«01_k».proof.Proof.Gen.MemAttIdeal.Skeleton
public import proofs.«01_k».proof.Proof.Gen.MemAttIdeal.Launch
public import proofs.«01_k».proof.Proof.Gen.MemAttIdeal.Points
public import proofs.«01_k».proof.Proof.Gen.MemAttIdeal.Frame
public import proofs.«01_k».proof.Proof.Gen.MemAttRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.InpSample
public import proofs.«01_k».proof.Proof.Gen.InpSample.Skeleton
public import proofs.«01_k».proof.Proof.Gen.InpSample.Launch
public import proofs.«01_k».proof.Proof.Gen.InpSample.Points
public import proofs.«01_k».proof.Proof.Gen.InpSample.Frame
public import proofs.«01_k».proof.Proof.Gen.InpSampleIdeal
public import proofs.«01_k».proof.Proof.Gen.InpSampleIdeal.Skeleton
public import proofs.«01_k».proof.Proof.Gen.InpSampleIdeal.Launch
public import proofs.«01_k».proof.Proof.Gen.InpSampleIdeal.Points
public import proofs.«01_k».proof.Proof.Gen.InpSampleIdeal.Frame
public import proofs.«01_k».proof.Proof.Gen.InpSampleIdeal.Value
public import proofs.«01_k».proof.Proof.Gen.InpSampleRefIdeal
public import proofs.«01_k».proof.Proof.Gen.InpSampleRefIdeal.Run
public import proofs.«01_k».proof.Proof.Gen.SsmSample
public import proofs.«01_k».proof.Proof.Gen.SsmSample.Skeleton
public import proofs.«01_k».proof.Proof.Gen.SsmSample.Launch
public import proofs.«01_k».proof.Proof.Gen.SsmSample.Points
public import proofs.«01_k».proof.Proof.Gen.SsmSample.Frame
public import proofs.«01_k».proof.Proof.Gen.SsmSampleIdeal
public import proofs.«01_k».proof.Proof.Gen.SsmSampleIdeal.Skeleton
public import proofs.«01_k».proof.Proof.Gen.SsmSampleIdeal.Launch
public import proofs.«01_k».proof.Proof.Gen.SsmSampleIdeal.Points
public import proofs.«01_k».proof.Proof.Gen.SsmSampleIdeal.Frame
public import proofs.«01_k».proof.Proof.Gen.SsmSampleRefIdeal
public import proofs.«01_k».proof.Proof.Gen.SsmSampleRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwo.Points
public import proofs.«01_k».proof.Proof.Gen.FfnTwo.Frame
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoIdeal.Points
public import proofs.«01_k».proof.Proof.Gen.FfnTwoIdeal.Frame
public import proofs.«01_k».proof.Proof.Gen.FfnTwoRefIdeal
public import proofs.«01_k».proof.Proof.Gen.FfnOne
public import proofs.«01_k».proof.Proof.Gen.FfnOne.Skeleton
public import proofs.«01_k».proof.Proof.Gen.FfnOne.Launch
public import proofs.«01_k».proof.Proof.Gen.FfnOne.Points
public import proofs.«01_k».proof.Proof.Gen.FfnOne.Frame
public import proofs.«01_k».proof.Proof.Gen.FfnOneIdeal
public import proofs.«01_k».proof.Proof.Gen.FfnOneIdeal.Skeleton
public import proofs.«01_k».proof.Proof.Gen.FfnOneIdeal.Launch
public import proofs.«01_k».proof.Proof.Gen.FfnOneIdeal.Points
public import proofs.«01_k».proof.Proof.Gen.FfnOneIdeal.Frame
public import proofs.«01_k».proof.Proof.Gen.FfnOneRefIdeal
public import proofs.«01_k».proof.Proof.Gen.OutIdeal.Value
public import proofs.«01_k».proof.Proof.Gen.OutRefIdeal.Run
public import proofs.«01_k».proof.Proof.Gen.InpIdeal.Value
public import proofs.«01_k».proof.Proof.Gen.InpRefIdeal.Run
public import proofs.«01_k».proof.Proof.Gen.FfnTwoRefIdeal.Run
public import proofs.«01_k».proof.Proof.Gen.FfnOneRefIdeal.Run
public import proofs.«01_k».proof.Proof.Gen.MemAttIdeal.Value
public import proofs.«01_k».proof.Proof.Gen.MemAttRefIdeal.Run
public import proofs.«01_k».proof.Proof.Gen.GateIdeal.Value
public import proofs.«01_k».proof.Proof.Gen.GateRefIdeal.Run
public import proofs.«01_k».proof.Proof.Gen.MemKvIdeal.Value
public import proofs.«01_k».proof.Proof.Gen.MemKvRefIdeal.Run
public import proofs.«01_k».proof.Proof.GateValue
public import proofs.«01_k».proof.Proof.MemKvValue
public import proofs.«01_k».proof.Proof.MemAttValue
public import Idealize.ShloMosaic.Lib.Quiescent
public import proofs.«01_k».proof.Proof.OutValue
public import proofs.«01_k».proof.Proof.FfnTwoValue
public import proofs.«01_k».proof.Proof.FfnTwoFrame
public import proofs.«01_k».proof.Proof.FfnOneValue
public import proofs.«01_k».proof.Proof.FfnOneFrame
public import proofs.«01_k».proof.Proof.InpValue
public import proofs.«01_k».proof.Proof.InpSampleValue
public import proofs.«01_k».proof.Proof.GluValue
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.FfnSampleRefIdeal.Run
public import proofs.«01_k».proof.Proof.FfnSampleValue
public import proofs.«01_k».proof.Proof.FfnSampleFrame
public import proofs.«01_k».proof.Proof.SsmSampleValue
public import proofs.«01_k».proof.Proof.SsmSampleFrame
public import Idealize.ShloMosaic.Adequacy
public import Idealize.ShloMosaic.Init

@[expose] public section

noncomputable section

namespace Cert.Proof

open Idealize.ShloMosaic Idealize.SL.Sem

/-- The reference terminates with its arguments as they were; it declares no semaphore. -/
theorem frame_MemAttRefIdeal : Cert.quiescent_MemAttRefIdeal (hMemAttRefIdeal := Cert.MemAttRefIdeal.Gen.facts) := fun m ρ _ =>
  (θ_run Cert.MemAttRefIdeal.defs _ _).mono (fun r h => ⟨fun c => (h c).2, sem_eq_zero_of_no_sems (by decide) r.2⟩) (Cert.MemAttRefIdeal.Value.run (F := Ideal) m ρ)

/-- The reference terminates with its arguments as they were; it declares no semaphore. -/
theorem frame_GateRefIdeal : Cert.quiescent_GateRefIdeal (hGateRefIdeal := Cert.GateRefIdeal.Gen.facts) := fun m ρ _ =>
  (θ_run Cert.GateRefIdeal.defs _ _).mono (fun r h => ⟨fun c => (h c).2, sem_eq_zero_of_no_sems (by decide) r.2⟩) (Cert.GateRefIdeal.Value.run (F := Ideal) m ρ)

/-- The reference terminates with its arguments as they were; it declares no semaphore. -/
theorem frame_MemKvRefIdeal : Cert.quiescent_MemKvRefIdeal (hMemKvRefIdeal := Cert.MemKvRefIdeal.Gen.facts) := fun m ρ _ =>
  (θ_run Cert.MemKvRefIdeal.defs _ _).mono (fun r h => ⟨fun c => (h c).2.2, sem_eq_zero_of_no_sems (by decide) r.2⟩) (Cert.MemKvRefIdeal.Value.run (F := Ideal) m ρ)

/-- The reference terminates with its arguments as they were; it declares no semaphore. -/
theorem frame_OutRefIdeal : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩) (Cert.OutRefIdeal.Value.run (F := Ideal) m ρ)

/-- The reference terminates with its arguments as they were; it declares no semaphore. -/
theorem frame_InpRefIdeal : Cert.quiescent_InpRefIdeal (hInpRefIdeal := Cert.InpRefIdeal.Gen.facts) := fun m ρ _ =>
  (θ_run Cert.InpRefIdeal.defs _ _).mono (fun r h => ⟨fun c => (h c).2.2.2.2, sem_eq_zero_of_no_sems (by decide) r.2⟩) (Cert.InpRefIdeal.Value.run (F := Ideal) m ρ)

/-- The reference terminates with its arguments as they were; it declares no semaphore. -/
theorem frame_InpSampleRefIdeal : Cert.quiescent_InpSampleRefIdeal (hInpSampleRefIdeal := Cert.InpSampleRefIdeal.Gen.facts) := fun m ρ _ =>
  (θ_run Cert.InpSampleRefIdeal.defs _ _).mono (fun r h => ⟨fun c => (h c).2.2.2.2, sem_eq_zero_of_no_sems (by decide) r.2⟩) (Cert.InpSampleRefIdeal.Value.run (F := Ideal) m ρ)

/-- The reference terminates with its arguments as they were; it declares no semaphore. -/
theorem frame_GluRefIdeal : Cert.quiescent_GluRefIdeal (hGluRefIdeal := Cert.GluRefIdeal.Gen.facts) := fun m ρ _ =>
  (θ_run Cert.GluRefIdeal.defs _ _).mono (fun r h => ⟨fun c => (h c).2, sem_eq_zero_of_no_sems (by decide) r.2⟩) (Cert.GluRefIdeal.Value.run (F := Ideal) m ρ)

/-- The reference terminates with its arguments as they were; it declares no semaphore. -/
theorem frame_SsmSampleRefIdeal : Cert.quiescent_SsmSampleRefIdeal (hSsmSampleRefIdeal := Cert.SsmSampleRefIdeal.Gen.facts) := fun m ρ _ =>
  (θ_run Cert.SsmSampleRefIdeal.defs _ _).mono (fun r h => ⟨fun c => (h c).2, sem_eq_zero_of_no_sems (by decide) r.2⟩) (Cert.SsmSampleRefIdeal.Value.run (F := Ideal) m ρ)

/-- The reference terminates with its arguments as they were; it declares no semaphore. -/
theorem frame_FfnTwoRefIdeal : Cert.quiescent_FfnTwoRefIdeal (hFfnTwoRefIdeal := Cert.FfnTwoRefIdeal.Gen.facts) := fun m ρ _ =>
  (θ_run Cert.FfnTwoRefIdeal.defs _ _).mono (fun r h => ⟨fun c => (h c).2, sem_eq_zero_of_no_sems (by decide) r.2⟩) (Cert.FfnTwoRefIdeal.Value.run (F := Ideal) m ρ)

/-- The reference terminates with its arguments as they were; it declares no semaphore. -/
theorem frame_FfnSampleRefIdeal : Cert.quiescent_FfnSampleRefIdeal (hFfnSampleRefIdeal := Cert.FfnSampleRefIdeal.Gen.facts) := fun m ρ _ =>
  (θ_run Cert.FfnSampleRefIdeal.defs _ _).mono (fun r h => ⟨fun c => (h c).2, sem_eq_zero_of_no_sems (by decide) r.2⟩) (Cert.FfnSampleRefIdeal.Value.run (F := Ideal) m ρ)

/-- The reference terminates with its arguments as they were; it declares no semaphore. -/
theorem frame_FfnOneRefIdeal : Cert.quiescent_FfnOneRefIdeal (hFfnOneRefIdeal := Cert.FfnOneRefIdeal.Gen.facts) := fun m ρ _ =>
  (θ_run Cert.FfnOneRefIdeal.defs _ _).mono (fun r h => ⟨fun c => (h c).2.2, sem_eq_zero_of_no_sems (by decide) r.2⟩) (Cert.FfnOneRefIdeal.Value.run (F := Ideal) m ρ)

theorem claim : Cert.Claim :=
  ⟨Cert.MemAtt.Gen.facts, Cert.MemAttIdeal.Gen.facts, Cert.MemAttRefIdeal.Gen.facts, Cert.Gate.Gen.facts, Cert.GateIdeal.Gen.facts, Cert.GateRefIdeal.Gen.facts, Cert.MemKv.Gen.facts, Cert.MemKvIdeal.Gen.facts, Cert.MemKvRefIdeal.Gen.facts, Cert.Out.Gen.facts, Cert.OutIdeal.Gen.facts, Cert.OutRefIdeal.Gen.facts, Cert.Inp.Gen.facts, Cert.InpIdeal.Gen.facts, Cert.InpRefIdeal.Gen.facts, Cert.InpSample.Gen.facts, Cert.InpSampleIdeal.Gen.facts, Cert.InpSampleRefIdeal.Gen.facts, Cert.Glu.Gen.facts, Cert.GluIdeal.Gen.facts, Cert.GluRefIdeal.Gen.facts, Cert.SsmSample.Gen.facts, Cert.SsmSampleIdeal.Gen.facts, Cert.SsmSampleRefIdeal.Gen.facts, Cert.FfnTwo.Gen.facts, Cert.FfnTwoIdeal.Gen.facts, Cert.FfnTwoRefIdeal.Gen.facts, Cert.FfnSample.Gen.facts, Cert.FfnSampleIdeal.Gen.facts, Cert.FfnSampleRefIdeal.Gen.facts, Cert.FfnOne.Gen.facts, Cert.FfnOneIdeal.Gen.facts, Cert.FfnOneRefIdeal.Gen.facts, Cert.Pre_finite_scores.Gen.facts, Cert.Pre_finite_powers.Gen.facts,
    fun m ρ _ => Cert.MemAtt.Gen.frame m ρ,
    fun m ρ _ => Cert.MemAttIdeal.Gen.frame m ρ,
    fun m ρ _ => Cert.MemAttIdeal.Gen.frame m ρ,
    fun m ρ _ => frame_MemAttRefIdeal m ρ trivial,
    fun m ρ _ => frame_MemAttRefIdeal m ρ trivial,
    fun m ρ _ => Cert.Gate.Gen.frame m ρ,
    fun m ρ _ => Cert.GateIdeal.Gen.frame m ρ,
    fun m ρ _ => frame_GateRefIdeal m ρ trivial,
    fun m ρ _ => Cert.MemKv.Gen.frame m ρ,
    fun m ρ _ => Cert.MemKvIdeal.Gen.frame m ρ,
    fun m ρ _ => frame_MemKvRefIdeal m ρ trivial,
    fun m ρ _ => Cert.Out.Gen.frame m ρ,
    fun m ρ _ => Cert.OutIdeal.Gen.frame m ρ,
    fun m ρ _ => frame_OutRefIdeal m ρ trivial,
    fun m ρ _ => Cert.Inp.Gen.frame m ρ,
    fun m ρ _ => Cert.InpIdeal.Gen.frame m ρ,
    fun m ρ _ => frame_InpRefIdeal m ρ trivial,
    fun m ρ _ => Cert.InpSample.Gen.frame m ρ,
    fun m ρ _ => Cert.InpSampleIdeal.Gen.frame m ρ,
    fun m ρ _ => frame_InpSampleRefIdeal m ρ trivial,
    fun m ρ _ => Cert.Glu.Gen.frame m ρ,
    fun m ρ _ => Cert.GluIdeal.Gen.frame m ρ,
    fun m ρ _ => frame_GluRefIdeal m ρ trivial,
    fun m ρ _ => Cert.SsmSample.Body.frame m ρ trivial,
    fun m ρ _ => Cert.SsmSampleIdeal.Body.frame (F := Ideal) m ρ,
    fun m ρ _ => Cert.SsmSampleIdeal.Body.frame (F := Ideal) m ρ,
    fun m ρ _ => frame_SsmSampleRefIdeal m ρ trivial,
    fun m ρ _ => frame_SsmSampleRefIdeal m ρ trivial,
    fun m ρ _ => Cert.FfnTwo.Body.frame m ρ trivial,
    fun m ρ _ => Cert.FfnTwoIdeal.Body.frame (F := Ideal) m ρ,
    fun m ρ _ => frame_FfnTwoRefIdeal m ρ trivial,
    fun m ρ _ => Cert.FfnSample.Body.frame m ρ trivial,
    fun m ρ _ => Cert.FfnSampleIdeal.Body.frame (F := Ideal) m ρ,
    fun m ρ _ => frame_FfnSampleRefIdeal m ρ trivial,
    fun m ρ _ => Cert.FfnOne.Body.frame m ρ trivial,
    fun m ρ _ => Cert.FfnOneIdeal.Body.frame (F := Ideal) m ρ,
    fun m ρ _ => frame_FfnOneRefIdeal m ρ trivial,
    IdealRules.named_const.statement _ _ _ _ _ rfl,
    algebraic_memAtt,
    trivial,
    algebraic_gate,
    trivial,
    algebraic_memKv,
    trivial,
    algebraic_out,
    trivial,
    algebraic_inp,
    trivial,
    algebraic_inpSample,
    trivial,
    algebraic_glu,
    trivial,
    algebraic_ssmSample,
    trivial,
    algebraic_ffnTwo,
    trivial,
    algebraic_ffnSample,
    trivial,
    algebraic_ffnOne⟩

end Cert.Proof

end
